-- ==== Defs.lean ====
def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_RefInGateIdeal (m : (ℓ : Loc Cert.RefInGateIdeal.nD Cert.RefInGateIdeal.τ Cert.RefInGateIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_RefInCIdeal (m : (ℓ : Loc Cert.RefInCIdeal.nD Cert.RefInCIdeal.τ Cert.RefInCIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_RefInAIdeal (m : (ℓ : Loc Cert.RefInAIdeal.nD Cert.RefInAIdeal.τ Cert.RefInAIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_RefInBIdeal (m : (ℓ : Loc Cert.RefInBIdeal.nD Cert.RefInBIdeal.τ Cert.RefInBIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_RefFfnDownIdeal (m : (ℓ : Loc Cert.RefFfnDownIdeal.nD Cert.RefFfnDownIdeal.τ Cert.RefFfnDownIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_RefFfnUpIdeal (m : (ℓ : Loc Cert.RefFfnUpIdeal.nD Cert.RefFfnUpIdeal.τ Cert.RefFfnUpIdeal.sig) → Buf (Elt Ideal) ℓ) : Prop :=
  True

def Pre_NaCtx (m : (ℓ : Loc Cert.NaCtx.nD Cert.NaCtx.τ Cert.NaCtx.sig) → Buf (Elt Bits) ℓ) : Prop :=
  True

def Pre_NaCtxIdeal (m : (ℓ : Loc Cert.NaCtxIdeal.nD Cert.NaCtxIdeal.τ Cert.NaCtxIdeal.sig) → Buf (Elt Ideal) ℓ) : Prop :=
  True

def Pre_RefNaCtxIdeal (m : (ℓ : Loc Cert.RefNaCtxIdeal.nD Cert.RefNaCtxIdeal.τ Cert.RefNaCtxIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_RefNaIdeal (m : (ℓ : Loc Cert.RefNaIdeal.nD Cert.RefNaIdeal.τ Cert.RefNaIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_RefQUpIdeal (m : (ℓ : Loc Cert.RefQUpIdeal.nD Cert.RefQUpIdeal.τ Cert.RefQUpIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_RefKvUpIdeal (m : (ℓ : Loc Cert.RefKvUpIdeal.nD Cert.RefKvUpIdeal.τ Cert.RefKvUpIdeal.sig) → Buf (Elt Ideal) ℓ) : Prop :=
  True

def Pre_GateLat (m : (ℓ : Loc Cert.GateLat.nD Cert.GateLat.τ Cert.GateLat.sig) → Buf (Elt Bits) ℓ) : Prop :=
  True

def Pre_GateLatIdeal (m : (ℓ : Loc Cert.GateLatIdeal.nD Cert.GateLatIdeal.τ Cert.GateLatIdeal.sig) → Buf (Elt Ideal) ℓ) : Prop :=
  True

def Pre_RefGateLatIdeal (m : (ℓ : Loc Cert.RefGateLatIdeal.nD Cert.RefGateLatIdeal.τ Cert.RefGateLatIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_RefNormModIdeal (m : (ℓ : Loc Cert.RefNormModIdeal.nD Cert.RefNormModIdeal.τ Cert.RefNormModIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_RefResidNormIdeal (m : (ℓ : Loc Cert.RefResidNormIdeal.nD Cert.RefResidNormIdeal.τ Cert.RefResidNormIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_RefResidIdeal (m : (ℓ : Loc Cert.RefResidIdeal.nD Cert.RefResidIdeal.τ Cert.RefResidIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_RefReadoutIdeal (m : (ℓ : Loc Cert.RefReadoutIdeal.nD Cert.RefReadoutIdeal.τ Cert.RefReadoutIdeal.sig) → Buf (Elt Ideal) ℓ) : Prop :=
  True

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_RefInGateIdeal [hRefInGateIdeal : Cert.RefInGateIdeal.Facts] : Prop :=
  ∀ (m : (ℓ : Loc Cert.RefInGateIdeal.nD Cert.RefInGateIdeal.τ Cert.RefInGateIdeal.sig) → Buf (Elt Ideal) ℓ) (g : Dev Cert.RefInGateIdeal.nD → PrngReg), Pre_RefInGateIdeal m →
    θ_run (Cert.RefInGateIdeal.defs (F := Ideal)) (onTc (τ := Cert.RefInGateIdeal.τ) (Cert.RefInGateIdeal.main (F := Ideal))) ⟨m, fun _ => 0, g⟩ (fun r => (∀ c : Dev Cert.RefInGateIdeal.nD,
      r.2.mem ((c.tc : Thread Cert.RefInGateIdeal.nD Cert.RefInGateIdeal.τ).loc Cert.RefInGateIdeal.main_arg0) = m ((c.tc : Thread Cert.RefInGateIdeal.nD Cert.RefInGateIdeal.τ).loc Cert.RefInGateIdeal.main_arg0)
      ∧ r.2.mem ((c.tc : Thread Cert.RefInGateIdeal.nD Cert.RefInGateIdeal.τ).loc Cert.RefInGateIdeal.main_arg1) = m ((c.tc : Thread Cert.RefInGateIdeal.nD Cert.RefInGateIdeal.τ).loc Cert.RefInGateIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_RefInCIdeal [hRefInCIdeal : Cert.RefInCIdeal.Facts] : Prop :=
  ∀ (m : (ℓ : Loc Cert.RefInCIdeal.nD Cert.RefInCIdeal.τ Cert.RefInCIdeal.sig) → Buf (Elt Ideal) ℓ) (g : Dev Cert.RefInCIdeal.nD → PrngReg), Pre_RefInCIdeal m →
    θ_run (Cert.RefInCIdeal.defs (F := Ideal)) (onTc (τ := Cert.RefInCIdeal.τ) (Cert.RefInCIdeal.main (F := Ideal))) ⟨m, fun _ => 0, g⟩ (fun r => (∀ c : Dev Cert.RefInCIdeal.nD,
      r.2.mem ((c.tc : Thread Cert.RefInCIdeal.nD Cert.RefInCIdeal.τ).loc Cert.RefInCIdeal.main_arg0) = m ((c.tc : Thread Cert.RefInCIdeal.nD Cert.RefInCIdeal.τ).loc Cert.RefInCIdeal.main_arg0)
      ∧ r.2.mem ((c.tc : Thread Cert.RefInCIdeal.nD Cert.RefInCIdeal.τ).loc Cert.RefInCIdeal.main_arg1) = m ((c.tc : Thread Cert.RefInCIdeal.nD Cert.RefInCIdeal.τ).loc Cert.RefInCIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_RefInAIdeal [hRefInAIdeal : Cert.RefInAIdeal.Facts] : Prop :=
  ∀ (m : (ℓ : Loc Cert.RefInAIdeal.nD Cert.RefInAIdeal.τ Cert.RefInAIdeal.sig) → Buf (Elt Ideal) ℓ) (g : Dev Cert.RefInAIdeal.nD → PrngReg), Pre_RefInAIdeal m →
    θ_run (Cert.RefInAIdeal.defs (F := Ideal)) (onTc (τ := Cert.RefInAIdeal.τ) (Cert.RefInAIdeal.main (F := Ideal))) ⟨m, fun _ => 0, g⟩ (fun r => (∀ c : Dev Cert.RefInAIdeal.nD,
      r.2.mem ((c.tc : Thread Cert.RefInAIdeal.nD Cert.RefInAIdeal.τ).loc Cert.RefInAIdeal.main_arg0) = m ((c.tc : Thread Cert.RefInAIdeal.nD Cert.RefInAIdeal.τ).loc Cert.RefInAIdeal.main_arg0)
      ∧ r.2.mem ((c.tc : Thread Cert.RefInAIdeal.nD Cert.RefInAIdeal.τ).loc Cert.RefInAIdeal.main_arg1) = m ((c.tc : Thread Cert.RefInAIdeal.nD Cert.RefInAIdeal.τ).loc Cert.RefInAIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_RefInBIdeal [hRefInBIdeal : Cert.RefInBIdeal.Facts] : Prop :=
  ∀ (m : (ℓ : Loc Cert.RefInBIdeal.nD Cert.RefInBIdeal.τ Cert.RefInBIdeal.sig) → Buf (Elt Ideal) ℓ) (g : Dev Cert.RefInBIdeal.nD → PrngReg), Pre_RefInBIdeal m →
    θ_run (Cert.RefInBIdeal.defs (F := Ideal)) (onTc (τ := Cert.RefInBIdeal.τ) (Cert.RefInBIdeal.main (F := Ideal))) ⟨m, fun _ => 0, g⟩ (fun r => (∀ c : Dev Cert.RefInBIdeal.nD,
      r.2.mem ((c.tc : Thread Cert.RefInBIdeal.nD Cert.RefInBIdeal.τ).loc Cert.RefInBIdeal.main_arg0) = m ((c.tc : Thread Cert.RefInBIdeal.nD Cert.RefInBIdeal.τ).loc Cert.RefInBIdeal.main_arg0)
      ∧ r.2.mem ((c.tc : Thread Cert.RefInBIdeal.nD Cert.RefInBIdeal.τ).loc Cert.RefInBIdeal.main_arg1) = m ((c.tc : Thread Cert.RefInBIdeal.nD Cert.RefInBIdeal.τ).loc Cert.RefInBIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_RefFfnDownIdeal [hRefFfnDownIdeal : Cert.RefFfnDownIdeal.Facts] : Prop :=
  ∀ (m : (ℓ : Loc Cert.RefFfnDownIdeal.nD Cert.RefFfnDownIdeal.τ Cert.RefFfnDownIdeal.sig) → Buf (Elt Ideal) ℓ) (g : Dev Cert.RefFfnDownIdeal.nD → PrngReg), Pre_RefFfnDownIdeal m →
    θ_run (Cert.RefFfnDownIdeal.defs (F := Ideal)) (onTc (τ := Cert.RefFfnDownIdeal.τ) (Cert.RefFfnDownIdeal.main (F := Ideal))) ⟨m, fun _ => 0, g⟩ (fun r => (∀ c : Dev Cert.RefFfnDownIdeal.nD,
      r.2.mem ((c.tc : Thread Cert.RefFfnDownIdeal.nD Cert.RefFfnDownIdeal.τ).loc Cert.RefFfnDownIdeal.main_arg0) = m ((c.tc : Thread Cert.RefFfnDownIdeal.nD Cert.RefFfnDownIdeal.τ).loc Cert.RefFfnDownIdeal.main_arg0)
      ∧ r.2.mem ((c.tc : Thread Cert.RefFfnDownIdeal.nD Cert.RefFfnDownIdeal.τ).loc Cert.RefFfnDownIdeal.main_arg1) = m ((c.tc : Thread Cert.RefFfnDownIdeal.nD Cert.RefFfnDownIdeal.τ).loc Cert.RefFfnDownIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_RefFfnUpIdeal [hRefFfnUpIdeal : Cert.RefFfnUpIdeal.Facts] : Prop :=
  ∀ (m : (ℓ : Loc Cert.RefFfnUpIdeal.nD Cert.RefFfnUpIdeal.τ Cert.RefFfnUpIdeal.sig) → Buf (Elt Ideal) ℓ) (g : Dev Cert.RefFfnUpIdeal.nD → PrngReg), Pre_RefFfnUpIdeal m →
    θ_run (Cert.RefFfnUpIdeal.defs (F := Ideal)) (onTc (τ := Cert.RefFfnUpIdeal.τ) (Cert.RefFfnUpIdeal.main (F := Ideal))) ⟨m, fun _ => 0, g⟩ (fun r => (∀ c : Dev Cert.RefFfnUpIdeal.nD,
      r.2.mem ((c.tc : Thread Cert.RefFfnUpIdeal.nD Cert.RefFfnUpIdeal.τ).loc Cert.RefFfnUpIdeal.main_arg0) = m ((c.tc : Thread Cert.RefFfnUpIdeal.nD Cert.RefFfnUpIdeal.τ).loc Cert.RefFfnUpIdeal.main_arg0)
      ∧ r.2.mem ((c.tc : Thread Cert.RefFfnUpIdeal.nD Cert.RefFfnUpIdeal.τ).loc Cert.RefFfnUpIdeal.main_arg1) = m ((c.tc : Thread Cert.RefFfnUpIdeal.nD Cert.RefFfnUpIdeal.τ).loc Cert.RefFfnUpIdeal.main_arg1)
      ∧ r.2.mem ((c.tc : Thread Cert.RefFfnUpIdeal.nD Cert.RefFfnUpIdeal.τ).loc Cert.RefFfnUpIdeal.main_arg2) = m ((c.tc : Thread Cert.RefFfnUpIdeal.nD Cert.RefFfnUpIdeal.τ).loc Cert.RefFfnUpIdeal.main_arg2)
      ∧ r.2.mem ((c.tc : Thread Cert.RefFfnUpIdeal.nD Cert.RefFfnUpIdeal.τ).loc Cert.RefFfnUpIdeal.main_arg3) = m ((c.tc : Thread Cert.RefFfnUpIdeal.nD Cert.RefFfnUpIdeal.τ).loc Cert.RefFfnUpIdeal.main_arg3))
      ∧ r.2.sem = fun _ => 0)

def quiescent_NaCtx [hNaCtx : Cert.NaCtx.Facts] : Prop :=
  ∀ (m : (ℓ : Loc Cert.NaCtx.nD Cert.NaCtx.τ Cert.NaCtx.sig) → Buf (Elt Bits) ℓ) (g : Dev Cert.NaCtx.nD → PrngReg), Pre_NaCtx m →
    θ_run (Cert.NaCtx.defs (F := Bits)) (onTc (τ := Cert.NaCtx.τ) (Cert.NaCtx.main (F := Bits))) ⟨m, fun _ => 0, g⟩ (fun r => (∀ c : Dev Cert.NaCtx.nD,
      r.2.mem ((c.tc : Thread Cert.NaCtx.nD Cert.NaCtx.τ).loc Cert.NaCtx.main_arg0) = m ((c.tc : Thread Cert.NaCtx.nD Cert.NaCtx.τ).loc Cert.NaCtx.main_arg0))
      ∧ r.2.sem = fun _ => 0)

def quiescent_NaCtxIdeal [hNaCtxIdeal : Cert.NaCtxIdeal.Facts] : Prop :=
  ∀ (m : (ℓ : Loc Cert.NaCtxIdeal.nD Cert.NaCtxIdeal.τ Cert.NaCtxIdeal.sig) → Buf (Elt Ideal) ℓ) (g : Dev Cert.NaCtxIdeal.nD → PrngReg), Pre_NaCtxIdeal m →
    θ_run (Cert.NaCtxIdeal.defs (F := Ideal)) (onTc (τ := Cert.NaCtxIdeal.τ) (Cert.NaCtxIdeal.main (F := Ideal))) ⟨m, fun _ => 0, g⟩ (fun r => (∀ c : Dev Cert.NaCtxIdeal.nD,
      r.2.mem ((c.tc : Thread Cert.NaCtxIdeal.nD Cert.NaCtxIdeal.τ).loc Cert.NaCtxIdeal.main_arg0) = m ((c.tc : Thread Cert.NaCtxIdeal.nD Cert.NaCtxIdeal.τ).loc Cert.NaCtxIdeal.main_arg0))
      ∧ r.2.sem = fun _ => 0)

def quiescent_RefNaCtxIdeal [hRefNaCtxIdeal : Cert.RefNaCtxIdeal.Facts] : Prop :=
  ∀ (m : (ℓ : Loc Cert.RefNaCtxIdeal.nD Cert.RefNaCtxIdeal.τ Cert.RefNaCtxIdeal.sig) → Buf (Elt Ideal) ℓ) (g : Dev Cert.RefNaCtxIdeal.nD → PrngReg), Pre_RefNaCtxIdeal m →
    θ_run (Cert.RefNaCtxIdeal.defs (F := Ideal)) (onTc (τ := Cert.RefNaCtxIdeal.τ) (Cert.RefNaCtxIdeal.main (F := Ideal))) ⟨m, fun _ => 0, g⟩ (fun r => (∀ c : Dev Cert.RefNaCtxIdeal.nD,
      r.2.mem ((c.tc : Thread Cert.RefNaCtxIdeal.nD Cert.RefNaCtxIdeal.τ).loc Cert.RefNaCtxIdeal.main_arg0) = m ((c.tc : Thread Cert.RefNaCtxIdeal.nD Cert.RefNaCtxIdeal.τ).loc Cert.RefNaCtxIdeal.main_arg0))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_RefNaIdeal [hRefNaIdeal : Cert.RefNaIdeal.Facts] : Prop :=
  ∀ (m : (ℓ : Loc Cert.RefNaIdeal.nD Cert.RefNaIdeal.τ Cert.RefNaIdeal.sig) → Buf (Elt Ideal) ℓ) (g : Dev Cert.RefNaIdeal.nD → PrngReg), Pre_RefNaIdeal m →
    θ_run (Cert.RefNaIdeal.defs (F := Ideal)) (onTc (τ := Cert.RefNaIdeal.τ) (Cert.RefNaIdeal.main (F := Ideal))) ⟨m, fun _ => 0, g⟩ (fun r => (∀ c : Dev Cert.RefNaIdeal.nD,
      r.2.mem ((c.tc : Thread Cert.RefNaIdeal.nD Cert.RefNaIdeal.τ).loc Cert.RefNaIdeal.main_arg0) = m ((c.tc : Thread Cert.RefNaIdeal.nD Cert.RefNaIdeal.τ).loc Cert.RefNaIdeal.main_arg0)
      ∧ r.2.mem ((c.tc : Thread Cert.RefNaIdeal.nD Cert.RefNaIdeal.τ).loc Cert.RefNaIdeal.main_arg1) = m ((c.tc : Thread Cert.RefNaIdeal.nD Cert.RefNaIdeal.τ).loc Cert.RefNaIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_RefQUpIdeal [hRefQUpIdeal : Cert.RefQUpIdeal.Facts] : Prop :=
  ∀ (m : (ℓ : Loc Cert.RefQUpIdeal.nD Cert.RefQUpIdeal.τ Cert.RefQUpIdeal.sig) → Buf (Elt Ideal) ℓ) (g : Dev Cert.RefQUpIdeal.nD → PrngReg), Pre_RefQUpIdeal m →
    θ_run (Cert.RefQUpIdeal.defs (F := Ideal)) (onTc (τ := Cert.RefQUpIdeal.τ) (Cert.RefQUpIdeal.main (F := Ideal))) ⟨m, fun _ => 0, g⟩ (fun r => (∀ c : Dev Cert.RefQUpIdeal.nD,
      r.2.mem ((c.tc : Thread Cert.RefQUpIdeal.nD Cert.RefQUpIdeal.τ).loc Cert.RefQUpIdeal.main_arg0) = m ((c.tc : Thread Cert.RefQUpIdeal.nD Cert.RefQUpIdeal.τ).loc Cert.RefQUpIdeal.main_arg0)
      ∧ r.2.mem ((c.tc : Thread Cert.RefQUpIdeal.nD Cert.RefQUpIdeal.τ).loc Cert.RefQUpIdeal.main_arg1) = m ((c.tc : Thread Cert.RefQUpIdeal.nD Cert.RefQUpIdeal.τ).loc Cert.RefQUpIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_RefKvUpIdeal [hRefKvUpIdeal : Cert.RefKvUpIdeal.Facts] : Prop :=
  ∀ (m : (ℓ : Loc Cert.RefKvUpIdeal.nD Cert.RefKvUpIdeal.τ Cert.RefKvUpIdeal.sig) → Buf (Elt Ideal) ℓ) (g : Dev Cert.RefKvUpIdeal.nD → PrngReg), Pre_RefKvUpIdeal m →
    θ_run (Cert.RefKvUpIdeal.defs (F := Ideal)) (onTc (τ := Cert.RefKvUpIdeal.τ) (Cert.RefKvUpIdeal.main (F := Ideal))) ⟨m, fun _ => 0, g⟩ (fun r => (∀ c : Dev Cert.RefKvUpIdeal.nD,
      r.2.mem ((c.tc : Thread Cert.RefKvUpIdeal.nD Cert.RefKvUpIdeal.τ).loc Cert.RefKvUpIdeal.main_arg0) = m ((c.tc : Thread Cert.RefKvUpIdeal.nD Cert.RefKvUpIdeal.τ).loc Cert.RefKvUpIdeal.main_arg0)
      ∧ r.2.mem ((c.tc : Thread Cert.RefKvUpIdeal.nD Cert.RefKvUpIdeal.τ).loc Cert.RefKvUpIdeal.main_arg1) = m ((c.tc : Thread Cert.RefKvUpIdeal.nD Cert.RefKvUpIdeal.τ).loc Cert.RefKvUpIdeal.main_arg1))
      ∧ r.2.sem = fun _ => 0)

def quiescent_GateLat [hGateLat : Cert.GateLat.Facts] : Prop :=
  ∀ (m : (ℓ : Loc Cert.GateLat.nD Cert.GateLat.τ Cert.GateLat.sig) → Buf (Elt Bits) ℓ) (g : Dev Cert.GateLat.nD → PrngReg), Pre_GateLat m →
    θ_run (Cert.GateLat.defs (F := Bits)) (onTc (τ := Cert.GateLat.τ) (Cert.GateLat.main (F := Bits))) ⟨m, fun _ => 0, g⟩ (fun r => (∀ c : Dev Cert.GateLat.nD,
      r.2.mem ((c.tc : Thread Cert.GateLat.nD Cert.GateLat.τ).loc Cert.GateLat.main_arg0) = m ((c.tc : Thread Cert.GateLat.nD Cert.GateLat.τ).loc Cert.GateLat.main_arg0)
      ∧ r.2.mem ((c.tc : Thread Cert.GateLat.nD Cert.GateLat.τ).loc Cert.GateLat.main_arg1) = m ((c.tc : Thread Cert.GateLat.nD Cert.GateLat.τ).loc Cert.GateLat.main_arg1))
      ∧ r.2.sem = fun _ => 0)

def quiescent_GateLatIdeal [hGateLatIdeal : Cert.GateLatIdeal.Facts] : Prop :=
  ∀ (m : (ℓ : Loc Cert.GateLatIdeal.nD Cert.GateLatIdeal.τ Cert.GateLatIdeal.sig) → Buf (Elt Ideal) ℓ) (g : Dev Cert.GateLatIdeal.nD → PrngReg), Pre_GateLatIdeal m →
    θ_run (Cert.GateLatIdeal.defs (F := Ideal)) (onTc (τ := Cert.GateLatIdeal.τ) (Cert.GateLatIdeal.main (F := Ideal))) ⟨m, fun _ => 0, g⟩ (fun r => (∀ c : Dev Cert.GateLatIdeal.nD,
      r.2.mem ((c.tc : Thread Cert.GateLatIdeal.nD Cert.GateLatIdeal.τ).loc Cert.GateLatIdeal.main_arg0) = m ((c.tc : Thread Cert.GateLatIdeal.nD Cert.GateLatIdeal.τ).loc Cert.GateLatIdeal.main_arg0)
      ∧ r.2.mem ((c.tc : Thread Cert.GateLatIdeal.nD Cert.GateLatIdeal.τ).loc Cert.GateLatIdeal.main_arg1) = m ((c.tc : Thread Cert.GateLatIdeal.nD Cert.GateLatIdeal.τ).loc Cert.GateLatIdeal.main_arg1))
      ∧ r.2.sem = fun _ => 0)

def quiescent_RefGateLatIdeal [hRefGateLatIdeal : Cert.RefGateLatIdeal.Facts] : Prop :=
  ∀ (m : (ℓ : Loc Cert.RefGateLatIdeal.nD Cert.RefGateLatIdeal.τ Cert.RefGateLatIdeal.sig) → Buf (Elt Ideal) ℓ) (g : Dev Cert.RefGateLatIdeal.nD → PrngReg), Pre_RefGateLatIdeal m →
    θ_run (Cert.RefGateLatIdeal.defs (F := Ideal)) (onTc (τ := Cert.RefGateLatIdeal.τ) (Cert.RefGateLatIdeal.main (F := Ideal))) ⟨m, fun _ => 0, g⟩ (fun r => (∀ c : Dev Cert.RefGateLatIdeal.nD,
      r.2.mem ((c.tc : Thread Cert.RefGateLatIdeal.nD Cert.RefGateLatIdeal.τ).loc Cert.RefGateLatIdeal.main_arg0) = m ((c.tc : Thread Cert.RefGateLatIdeal.nD Cert.RefGateLatIdeal.τ).loc Cert.RefGateLatIdeal.main_arg0)
      ∧ r.2.mem ((c.tc : Thread Cert.RefGateLatIdeal.nD Cert.RefGateLatIdeal.τ).loc Cert.RefGateLatIdeal.main_arg1) = m ((c.tc : Thread Cert.RefGateLatIdeal.nD Cert.RefGateLatIdeal.τ).loc Cert.RefGateLatIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_RefNormModIdeal [hRefNormModIdeal : Cert.RefNormModIdeal.Facts] : Prop :=
  ∀ (m : (ℓ : Loc Cert.RefNormModIdeal.nD Cert.RefNormModIdeal.τ Cert.RefNormModIdeal.sig) → Buf (Elt Ideal) ℓ) (g : Dev Cert.RefNormModIdeal.nD → PrngReg), Pre_RefNormModIdeal m →
    θ_run (Cert.RefNormModIdeal.defs (F := Ideal)) (onTc (τ := Cert.RefNormModIdeal.τ) (Cert.RefNormModIdeal.main (F := Ideal))) ⟨m, fun _ => 0, g⟩ (fun r => (∀ c : Dev Cert.RefNormModIdeal.nD,
      r.2.mem ((c.tc : Thread Cert.RefNormModIdeal.nD Cert.RefNormModIdeal.τ).loc Cert.RefNormModIdeal.main_arg0) = m ((c.tc : Thread Cert.RefNormModIdeal.nD Cert.RefNormModIdeal.τ).loc Cert.RefNormModIdeal.main_arg0)
      ∧ r.2.mem ((c.tc : Thread Cert.RefNormModIdeal.nD Cert.RefNormModIdeal.τ).loc Cert.RefNormModIdeal.main_arg1) = m ((c.tc : Thread Cert.RefNormModIdeal.nD Cert.RefNormModIdeal.τ).loc Cert.RefNormModIdeal.main_arg1)
      ∧ r.2.mem ((c.tc : Thread Cert.RefNormModIdeal.nD Cert.RefNormModIdeal.τ).loc Cert.RefNormModIdeal.main_arg2) = m ((c.tc : Thread Cert.RefNormModIdeal.nD Cert.RefNormModIdeal.τ).loc Cert.RefNormModIdeal.main_arg2)
      ∧ r.2.mem ((c.tc : Thread Cert.RefNormModIdeal.nD Cert.RefNormModIdeal.τ).loc Cert.RefNormModIdeal.main_arg3) = m ((c.tc : Thread Cert.RefNormModIdeal.nD Cert.RefNormModIdeal.τ).loc Cert.RefNormModIdeal.main_arg3))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3)
      ∧ r.2.mem ((c.tc : Thread Cert.ResidNorm.nD Cert.ResidNorm.τ).loc Cert.ResidNorm.main_arg4) = m ((c.tc : Thread Cert.ResidNorm.nD Cert.ResidNorm.τ).loc Cert.ResidNorm.main_arg4)
      ∧ r.2.mem ((c.tc : Thread Cert.ResidNorm.nD Cert.ResidNorm.τ).loc Cert.ResidNorm.main_arg5) = m ((c.tc : Thread Cert.ResidNorm.nD Cert.ResidNorm.τ).loc Cert.ResidNorm.main_arg5)
      ∧ r.2.mem ((c.tc : Thread Cert.ResidNorm.nD Cert.ResidNorm.τ).loc Cert.ResidNorm.main_arg6) = m ((c.tc : Thread Cert.ResidNorm.nD Cert.ResidNorm.τ).loc Cert.ResidNorm.main_arg6))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3)
      ∧ r.2.mem ((c.tc : Thread Cert.ResidNormIdeal.nD Cert.ResidNormIdeal.τ).loc Cert.ResidNormIdeal.main_arg4) = m ((c.tc : Thread Cert.ResidNormIdeal.nD Cert.ResidNormIdeal.τ).loc Cert.ResidNormIdeal.main_arg4)
      ∧ r.2.mem ((c.tc : Thread Cert.ResidNormIdeal.nD Cert.ResidNormIdeal.τ).loc Cert.ResidNormIdeal.main_arg5) = m ((c.tc : Thread Cert.ResidNormIdeal.nD Cert.ResidNormIdeal.τ).loc Cert.ResidNormIdeal.main_arg5)
      ∧ r.2.mem ((c.tc : Thread Cert.ResidNormIdeal.nD Cert.ResidNormIdeal.τ).loc Cert.ResidNormIdeal.main_arg6) = m ((c.tc : Thread Cert.ResidNormIdeal.nD Cert.ResidNormIdeal.τ).loc Cert.ResidNormIdeal.main_arg6))
      ∧ r.2.sem = fun _ => 0)

def quiescent_RefResidNormIdeal [hRefResidNormIdeal : Cert.RefResidNormIdeal.Facts] : Prop :=
  ∀ (m : (ℓ : Loc Cert.RefResidNormIdeal.nD Cert.RefResidNormIdeal.τ Cert.RefResidNormIdeal.sig) → Buf (Elt Ideal) ℓ) (g : Dev Cert.RefResidNormIdeal.nD → PrngReg), Pre_RefResidNormIdeal m →
    θ_run (Cert.RefResidNormIdeal.defs (F := Ideal)) (onTc (τ := Cert.RefResidNormIdeal.τ) (Cert.RefResidNormIdeal.main (F := Ideal))) ⟨m, fun _ => 0, g⟩ (fun r => (∀ c : Dev Cert.RefResidNormIdeal.nD,
      r.2.mem ((c.tc : Thread Cert.RefResidNormIdeal.nD Cert.RefResidNormIdeal.τ).loc Cert.RefResidNormIdeal.main_arg0) = m ((c.tc : Thread Cert.RefResidNormIdeal.nD Cert.RefResidNormIdeal.τ).loc Cert.RefResidNormIdeal.main_arg0)
      ∧ r.2.mem ((c.tc : Thread Cert.RefResidNormIdeal.nD Cert.RefResidNormIdeal.τ).loc Cert.RefResidNormIdeal.main_arg1) = m ((c.tc : Thread Cert.RefResidNormIdeal.nD Cert.RefResidNormIdeal.τ).loc Cert.RefResidNormIdeal.main_arg1)
      ∧ r.2.mem ((c.tc : Thread Cert.RefResidNormIdeal.nD Cert.RefResidNormIdeal.τ).loc Cert.RefResidNormIdeal.main_arg2) = m ((c.tc : Thread Cert.RefResidNormIdeal.nD Cert.RefResidNormIdeal.τ).loc Cert.RefResidNormIdeal.main_arg2)
      ∧ r.2.mem ((c.tc : Thread Cert.RefResidNormIdeal.nD Cert.RefResidNormIdeal.τ).loc Cert.RefResidNormIdeal.main_arg3) = m ((c.tc : Thread Cert.RefResidNormIdeal.nD Cert.RefResidNormIdeal.τ).loc Cert.RefResidNormIdeal.main_arg3)
      ∧ r.2.mem ((c.tc : Thread Cert.RefResidNormIdeal.nD Cert.RefResidNormIdeal.τ).loc Cert.RefResidNormIdeal.main_arg4) = m ((c.tc : Thread Cert.RefResidNormIdeal.nD Cert.RefResidNormIdeal.τ).loc Cert.RefResidNormIdeal.main_arg4)
      ∧ r.2.mem ((c.tc : Thread Cert.RefResidNormIdeal.nD Cert.RefResidNormIdeal.τ).loc Cert.RefResidNormIdeal.main_arg5) = m ((c.tc : Thread Cert.RefResidNormIdeal.nD Cert.RefResidNormIdeal.τ).loc Cert.RefResidNormIdeal.main_arg5)
      ∧ r.2.mem ((c.tc : Thread Cert.RefResidNormIdeal.nD Cert.RefResidNormIdeal.τ).loc Cert.RefResidNormIdeal.main_arg6) = m ((c.tc : Thread Cert.RefResidNormIdeal.nD Cert.RefResidNormIdeal.τ).loc Cert.RefResidNormIdeal.main_arg6))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_RefResidIdeal [hRefResidIdeal : Cert.RefResidIdeal.Facts] : Prop :=
  ∀ (m : (ℓ : Loc Cert.RefResidIdeal.nD Cert.RefResidIdeal.τ Cert.RefResidIdeal.sig) → Buf (Elt Ideal) ℓ) (g : Dev Cert.RefResidIdeal.nD → PrngReg), Pre_RefResidIdeal m →
    θ_run (Cert.RefResidIdeal.defs (F := Ideal)) (onTc (τ := Cert.RefResidIdeal.τ) (Cert.RefResidIdeal.main (F := Ideal))) ⟨m, fun _ => 0, g⟩ (fun r => (∀ c : Dev Cert.RefResidIdeal.nD,
      r.2.mem ((c.tc : Thread Cert.RefResidIdeal.nD Cert.RefResidIdeal.τ).loc Cert.RefResidIdeal.main_arg0) = m ((c.tc : Thread Cert.RefResidIdeal.nD Cert.RefResidIdeal.τ).loc Cert.RefResidIdeal.main_arg0)
      ∧ r.2.mem ((c.tc : Thread Cert.RefResidIdeal.nD Cert.RefResidIdeal.τ).loc Cert.RefResidIdeal.main_arg1) = m ((c.tc : Thread Cert.RefResidIdeal.nD Cert.RefResidIdeal.τ).loc Cert.RefResidIdeal.main_arg1)
      ∧ r.2.mem ((c.tc : Thread Cert.RefResidIdeal.nD Cert.RefResidIdeal.τ).loc Cert.RefResidIdeal.main_arg2) = m ((c.tc : Thread Cert.RefResidIdeal.nD Cert.RefResidIdeal.τ).loc Cert.RefResidIdeal.main_arg2)
      ∧ r.2.mem ((c.tc : Thread Cert.RefResidIdeal.nD Cert.RefResidIdeal.τ).loc Cert.RefResidIdeal.main_arg3) = m ((c.tc : Thread Cert.RefResidIdeal.nD Cert.RefResidIdeal.τ).loc Cert.RefResidIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3))
      ∧ r.2.sem = fun _ => 0)

def quiescent_RefReadoutIdeal [hRefReadoutIdeal : Cert.RefReadoutIdeal.Facts] : Prop :=
  ∀ (m : (ℓ : Loc Cert.RefReadoutIdeal.nD Cert.RefReadoutIdeal.τ Cert.RefReadoutIdeal.sig) → Buf (Elt Ideal) ℓ) (g : Dev Cert.RefReadoutIdeal.nD → PrngReg), Pre_RefReadoutIdeal m →
    θ_run (Cert.RefReadoutIdeal.defs (F := Ideal)) (onTc (τ := Cert.RefReadoutIdeal.τ) (Cert.RefReadoutIdeal.main (F := Ideal))) ⟨m, fun _ => 0, g⟩ (fun r => (∀ c : Dev Cert.RefReadoutIdeal.nD,
      r.2.mem ((c.tc : Thread Cert.RefReadoutIdeal.nD Cert.RefReadoutIdeal.τ).loc Cert.RefReadoutIdeal.main_arg0) = m ((c.tc : Thread Cert.RefReadoutIdeal.nD Cert.RefReadoutIdeal.τ).loc Cert.RefReadoutIdeal.main_arg0)
      ∧ r.2.mem ((c.tc : Thread Cert.RefReadoutIdeal.nD Cert.RefReadoutIdeal.τ).loc Cert.RefReadoutIdeal.main_arg1) = m ((c.tc : Thread Cert.RefReadoutIdeal.nD Cert.RefReadoutIdeal.τ).loc Cert.RefReadoutIdeal.main_arg1)
      ∧ r.2.mem ((c.tc : Thread Cert.RefReadoutIdeal.nD Cert.RefReadoutIdeal.τ).loc Cert.RefReadoutIdeal.main_arg2) = m ((c.tc : Thread Cert.RefReadoutIdeal.nD Cert.RefReadoutIdeal.τ).loc Cert.RefReadoutIdeal.main_arg2)
      ∧ r.2.mem ((c.tc : Thread Cert.RefReadoutIdeal.nD Cert.RefReadoutIdeal.τ).loc Cert.RefReadoutIdeal.main_arg3) = m ((c.tc : Thread Cert.RefReadoutIdeal.nD Cert.RefReadoutIdeal.τ).loc Cert.RefReadoutIdeal.main_arg3))
      ∧ r.2.sem = fun _ => 0)

def preserves_InGate_InGateIdeal : Prop :=
  True

def algebraic_InGateIdeal_RefInGateIdeal [hInGateIdeal : Cert.InGateIdeal.Facts] [hRefInGateIdeal : Cert.RefInGateIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.RefInGateIdeal.nD Cert.RefInGateIdeal.τ Cert.RefInGateIdeal.sig) → Buf (Elt Ideal) ℓ) (g' : Dev Cert.RefInGateIdeal.nD → PrngReg), Pre_InGateIdeal m →
    (∀ c : Dev Cert.InGateIdeal.nD,
      m' ((c.tc : Thread Cert.RefInGateIdeal.nD Cert.RefInGateIdeal.τ).loc Cert.RefInGateIdeal.main_arg0) = m ((c.tc : Thread Cert.InGateIdeal.nD Cert.InGateIdeal.τ).loc Cert.InGateIdeal.main_arg0)
      ∧ m' ((c.tc : Thread Cert.RefInGateIdeal.nD Cert.RefInGateIdeal.τ).loc Cert.RefInGateIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v0)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v0) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.RefInGateIdeal.defs (F := Ideal)) (onTc (τ := Cert.RefInGateIdeal.τ) (Cert.RefInGateIdeal.main (F := Ideal))) ⟨m', fun _ => 0, g'⟩ (fun r => ∀ c : Dev Cert.RefInGateIdeal.nD,
          r.2.mem ((c.tc : Thread Cert.RefInGateIdeal.nD Cert.RefInGateIdeal.τ).loc Cert.RefInGateIdeal.main_v3) = v0 c
          ∧ r.2.mem ((c.tc : Thread Cert.RefInGateIdeal.nD Cert.RefInGateIdeal.τ).loc Cert.RefInGateIdeal.main_arg0) = m' ((c.tc : Thread Cert.RefInGateIdeal.nD Cert.RefInGateIdeal.τ).loc Cert.RefInGateIdeal.main_arg0)
          ∧ r.2.mem ((c.tc : Thread Cert.RefInGateIdeal.nD Cert.RefInGateIdeal.τ).loc Cert.RefInGateIdeal.main_arg1) = m' ((c.tc : Thread Cert.RefInGateIdeal.nD Cert.RefInGateIdeal.τ).loc Cert.RefInGateIdeal.main_arg1))

def preserves_InC_InCIdeal : Prop :=
  True

def algebraic_InCIdeal_RefInCIdeal [hInCIdeal : Cert.InCIdeal.Facts] [hRefInCIdeal : Cert.RefInCIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.RefInCIdeal.nD Cert.RefInCIdeal.τ Cert.RefInCIdeal.sig) → Buf (Elt Ideal) ℓ) (g' : Dev Cert.RefInCIdeal.nD → PrngReg), Pre_InCIdeal m →
    (∀ c : Dev Cert.InCIdeal.nD,
      m' ((c.tc : Thread Cert.RefInCIdeal.nD Cert.RefInCIdeal.τ).loc Cert.RefInCIdeal.main_arg0) = m ((c.tc : Thread Cert.InCIdeal.nD Cert.InCIdeal.τ).loc Cert.InCIdeal.main_arg0)
      ∧ m' ((c.tc : Thread Cert.RefInCIdeal.nD Cert.RefInCIdeal.τ).loc Cert.RefInCIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v0)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v0) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.RefInCIdeal.defs (F := Ideal)) (onTc (τ := Cert.RefInCIdeal.τ) (Cert.RefInCIdeal.main (F := Ideal))) ⟨m', fun _ => 0, g'⟩ (fun r => ∀ c : Dev Cert.RefInCIdeal.nD,
          r.2.mem ((c.tc : Thread Cert.RefInCIdeal.nD Cert.RefInCIdeal.τ).loc Cert.RefInCIdeal.main_v3) = v0 c
          ∧ r.2.mem ((c.tc : Thread Cert.RefInCIdeal.nD Cert.RefInCIdeal.τ).loc Cert.RefInCIdeal.main_arg0) = m' ((c.tc : Thread Cert.RefInCIdeal.nD Cert.RefInCIdeal.τ).loc Cert.RefInCIdeal.main_arg0)
          ∧ r.2.mem ((c.tc : Thread Cert.RefInCIdeal.nD Cert.RefInCIdeal.τ).loc Cert.RefInCIdeal.main_arg1) = m' ((c.tc : Thread Cert.RefInCIdeal.nD Cert.RefInCIdeal.τ).loc Cert.RefInCIdeal.main_arg1))

def preserves_InA_InAIdeal : Prop :=
  True

def algebraic_InAIdeal_RefInAIdeal [hInAIdeal : Cert.InAIdeal.Facts] [hRefInAIdeal : Cert.RefInAIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.RefInAIdeal.nD Cert.RefInAIdeal.τ Cert.RefInAIdeal.sig) → Buf (Elt Ideal) ℓ) (g' : Dev Cert.RefInAIdeal.nD → PrngReg), Pre_InAIdeal m →
    (∀ c : Dev Cert.InAIdeal.nD,
      m' ((c.tc : Thread Cert.RefInAIdeal.nD Cert.RefInAIdeal.τ).loc Cert.RefInAIdeal.main_arg0) = m ((c.tc : Thread Cert.InAIdeal.nD Cert.InAIdeal.τ).loc Cert.InAIdeal.main_arg0)
      ∧ m' ((c.tc : Thread Cert.RefInAIdeal.nD Cert.RefInAIdeal.τ).loc Cert.RefInAIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.RefInAIdeal.defs (F := Ideal)) (onTc (τ := Cert.RefInAIdeal.τ) (Cert.RefInAIdeal.main (F := Ideal))) ⟨m', fun _ => 0, g'⟩ (fun r => ∀ c : Dev Cert.RefInAIdeal.nD,
          r.2.mem ((c.tc : Thread Cert.RefInAIdeal.nD Cert.RefInAIdeal.τ).loc Cert.RefInAIdeal.main_v3) = v0 c
          ∧ r.2.mem ((c.tc : Thread Cert.RefInAIdeal.nD Cert.RefInAIdeal.τ).loc Cert.RefInAIdeal.main_arg0) = m' ((c.tc : Thread Cert.RefInAIdeal.nD Cert.RefInAIdeal.τ).loc Cert.RefInAIdeal.main_arg0)
          ∧ r.2.mem ((c.tc : Thread Cert.RefInAIdeal.nD Cert.RefInAIdeal.τ).loc Cert.RefInAIdeal.main_arg1) = m' ((c.tc : Thread Cert.RefInAIdeal.nD Cert.RefInAIdeal.τ).loc Cert.RefInAIdeal.main_arg1))

def preserves_InB_InBIdeal : Prop :=
  True

def algebraic_InBIdeal_RefInBIdeal [hInBIdeal : Cert.InBIdeal.Facts] [hRefInBIdeal : Cert.RefInBIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.RefInBIdeal.nD Cert.RefInBIdeal.τ Cert.RefInBIdeal.sig) → Buf (Elt Ideal) ℓ) (g' : Dev Cert.RefInBIdeal.nD → PrngReg), Pre_InBIdeal m →
    (∀ c : Dev Cert.InBIdeal.nD,
      m' ((c.tc : Thread Cert.RefInBIdeal.nD Cert.RefInBIdeal.τ).loc Cert.RefInBIdeal.main_arg0) = m ((c.tc : Thread Cert.InBIdeal.nD Cert.InBIdeal.τ).loc Cert.InBIdeal.main_arg0)
      ∧ m' ((c.tc : Thread Cert.RefInBIdeal.nD Cert.RefInBIdeal.τ).loc Cert.RefInBIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.RefInBIdeal.defs (F := Ideal)) (onTc (τ := Cert.RefInBIdeal.τ) (Cert.RefInBIdeal.main (F := Ideal))) ⟨m', fun _ => 0, g'⟩ (fun r => ∀ c : Dev Cert.RefInBIdeal.nD,
          r.2.mem ((c.tc : Thread Cert.RefInBIdeal.nD Cert.RefInBIdeal.τ).loc Cert.RefInBIdeal.main_v3) = v0 c
          ∧ r.2.mem ((c.tc : Thread Cert.RefInBIdeal.nD Cert.RefInBIdeal.τ).loc Cert.RefInBIdeal.main_arg0) = m' ((c.tc : Thread Cert.RefInBIdeal.nD Cert.RefInBIdeal.τ).loc Cert.RefInBIdeal.main_arg0)
          ∧ r.2.mem ((c.tc : Thread Cert.RefInBIdeal.nD Cert.RefInBIdeal.τ).loc Cert.RefInBIdeal.main_arg1) = m' ((c.tc : Thread Cert.RefInBIdeal.nD Cert.RefInBIdeal.τ).loc Cert.RefInBIdeal.main_arg1))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v5) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1))

def preserves_FfnDown_FfnDownIdeal : Prop :=
  True

def algebraic_FfnDownIdeal_RefFfnDownIdeal [hFfnDownIdeal : Cert.FfnDownIdeal.Facts] [hRefFfnDownIdeal : Cert.RefFfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.RefFfnDownIdeal.nD Cert.RefFfnDownIdeal.τ Cert.RefFfnDownIdeal.sig) → Buf (Elt Ideal) ℓ) (g' : Dev Cert.RefFfnDownIdeal.nD → PrngReg), Pre_FfnDownIdeal m →
    (∀ c : Dev Cert.FfnDownIdeal.nD,
      m' ((c.tc : Thread Cert.RefFfnDownIdeal.nD Cert.RefFfnDownIdeal.τ).loc Cert.RefFfnDownIdeal.main_arg0) = m ((c.tc : Thread Cert.FfnDownIdeal.nD Cert.FfnDownIdeal.τ).loc Cert.FfnDownIdeal.main_arg0)
      ∧ m' ((c.tc : Thread Cert.RefFfnDownIdeal.nD Cert.RefFfnDownIdeal.τ).loc Cert.RefFfnDownIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.RefFfnDownIdeal.defs (F := Ideal)) (onTc (τ := Cert.RefFfnDownIdeal.τ) (Cert.RefFfnDownIdeal.main (F := Ideal))) ⟨m', fun _ => 0, g'⟩ (fun r => ∀ c : Dev Cert.RefFfnDownIdeal.nD,
          r.2.mem ((c.tc : Thread Cert.RefFfnDownIdeal.nD Cert.RefFfnDownIdeal.τ).loc Cert.RefFfnDownIdeal.main_v5) = v0 c
          ∧ r.2.mem ((c.tc : Thread Cert.RefFfnDownIdeal.nD Cert.RefFfnDownIdeal.τ).loc Cert.RefFfnDownIdeal.main_arg0) = m' ((c.tc : Thread Cert.RefFfnDownIdeal.nD Cert.RefFfnDownIdeal.τ).loc Cert.RefFfnDownIdeal.main_arg0)
          ∧ r.2.mem ((c.tc : Thread Cert.RefFfnDownIdeal.nD Cert.RefFfnDownIdeal.τ).loc Cert.RefFfnDownIdeal.main_arg1) = m' ((c.tc : Thread Cert.RefFfnDownIdeal.nD Cert.RefFfnDownIdeal.τ).loc Cert.RefFfnDownIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v40) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5))

def preserves_FfnUp_FfnUpIdeal : Prop :=
  True

def algebraic_FfnUpIdeal_RefFfnUpIdeal [hFfnUpIdeal : Cert.FfnUpIdeal.Facts] [hRefFfnUpIdeal : Cert.RefFfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.RefFfnUpIdeal.nD Cert.RefFfnUpIdeal.τ Cert.RefFfnUpIdeal.sig) → Buf (Elt Ideal) ℓ) (g' : Dev Cert.RefFfnUpIdeal.nD → PrngReg), Pre_FfnUpIdeal m →
    (∀ c : Dev Cert.FfnUpIdeal.nD,
      m' ((c.tc : Thread Cert.RefFfnUpIdeal.nD Cert.RefFfnUpIdeal.τ).loc Cert.RefFfnUpIdeal.main_arg0) = m ((c.tc : Thread Cert.FfnUpIdeal.nD Cert.FfnUpIdeal.τ).loc Cert.FfnUpIdeal.main_arg0)
      ∧ m' ((c.tc : Thread Cert.RefFfnUpIdeal.nD Cert.RefFfnUpIdeal.τ).loc Cert.RefFfnUpIdeal.main_arg1) = m ((c.tc : Thread Cert.FfnUpIdeal.nD Cert.FfnUpIdeal.τ).loc Cert.FfnUpIdeal.main_arg1)
      ∧ m' ((c.tc : Thread Cert.RefFfnUpIdeal.nD Cert.RefFfnUpIdeal.τ).loc Cert.RefFfnUpIdeal.main_arg2) = m ((c.tc : Thread Cert.FfnUpIdeal.nD Cert.FfnUpIdeal.τ).loc Cert.FfnUpIdeal.main_arg2)
      ∧ m' ((c.tc : Thread Cert.RefFfnUpIdeal.nD Cert.RefFfnUpIdeal.τ).loc Cert.RefFfnUpIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v32)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v32) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.RefFfnUpIdeal.defs (F := Ideal)) (onTc (τ := Cert.RefFfnUpIdeal.τ) (Cert.RefFfnUpIdeal.main (F := Ideal))) ⟨m', fun _ => 0, g'⟩ (fun r => ∀ c : Dev Cert.RefFfnUpIdeal.nD,
          r.2.mem ((c.tc : Thread Cert.RefFfnUpIdeal.nD Cert.RefFfnUpIdeal.τ).loc Cert.RefFfnUpIdeal.main_v84) = v0 c
          ∧ r.2.mem ((c.tc : Thread Cert.RefFfnUpIdeal.nD Cert.RefFfnUpIdeal.τ).loc Cert.RefFfnUpIdeal.main_arg0) = m' ((c.tc : Thread Cert.RefFfnUpIdeal.nD Cert.RefFfnUpIdeal.τ).loc Cert.RefFfnUpIdeal.main_arg0)
          ∧ r.2.mem ((c.tc : Thread Cert.RefFfnUpIdeal.nD Cert.RefFfnUpIdeal.τ).loc Cert.RefFfnUpIdeal.main_arg1) = m' ((c.tc : Thread Cert.RefFfnUpIdeal.nD Cert.RefFfnUpIdeal.τ).loc Cert.RefFfnUpIdeal.main_arg1)
          ∧ r.2.mem ((c.tc : Thread Cert.RefFfnUpIdeal.nD Cert.RefFfnUpIdeal.τ).loc Cert.RefFfnUpIdeal.main_arg2) = m' ((c.tc : Thread Cert.RefFfnUpIdeal.nD Cert.RefFfnUpIdeal.τ).loc Cert.RefFfnUpIdeal.main_arg2)
          ∧ r.2.mem ((c.tc : Thread Cert.RefFfnUpIdeal.nD Cert.RefFfnUpIdeal.τ).loc Cert.RefFfnUpIdeal.main_arg3) = m' ((c.tc : Thread Cert.RefFfnUpIdeal.nD Cert.RefFfnUpIdeal.τ).loc Cert.RefFfnUpIdeal.main_arg3))

def preserves_NaCtx_NaCtxIdeal : Prop :=
  IdealRules.named_const.Statement Cert.NaCtxIdeal.κ "scale_log2e" .f32 0x3E0293EE#32 (((Real.sqrt 128)⁻¹ * (Real.log 2)⁻¹ : ℝ) : EReal)

def algebraic_NaCtxIdeal_RefNaCtxIdeal [hNaCtxIdeal : Cert.NaCtxIdeal.Facts] [hRefNaCtxIdeal : Cert.RefNaCtxIdeal.Facts] : Prop :=
  ∀ (m : (ℓ : Loc Cert.NaCtxIdeal.nD Cert.NaCtxIdeal.τ Cert.NaCtxIdeal.sig) → Buf (Elt Ideal) ℓ) (g : Dev Cert.NaCtxIdeal.nD → PrngReg)
    (m' : (ℓ : Loc Cert.RefNaCtxIdeal.nD Cert.RefNaCtxIdeal.τ Cert.RefNaCtxIdeal.sig) → Buf (Elt Ideal) ℓ) (g' : Dev Cert.RefNaCtxIdeal.nD → PrngReg), Pre_NaCtxIdeal m →
    (∀ c : Dev Cert.NaCtxIdeal.nD,
      m' ((c.tc : Thread Cert.RefNaCtxIdeal.nD Cert.RefNaCtxIdeal.τ).loc Cert.RefNaCtxIdeal.main_arg0) = m ((c.tc : Thread Cert.NaCtxIdeal.nD Cert.NaCtxIdeal.τ).loc Cert.NaCtxIdeal.main_arg0)) →
    ∃ (v0 : (c : Dev Cert.NaCtxIdeal.nD) → Buf (Elt Ideal) ((c.tc : Thread Cert.NaCtxIdeal.nD Cert.NaCtxIdeal.τ).loc Cert.NaCtxIdeal.main_v3)),
      θ_run (Cert.NaCtxIdeal.defs (F := Ideal)) (onTc (τ := Cert.NaCtxIdeal.τ) (Cert.NaCtxIdeal.main (F := Ideal))) ⟨m, fun _ => 0, g⟩ (fun r => ∀ c : Dev Cert.NaCtxIdeal.nD,
          r.2.mem ((c.tc : Thread Cert.NaCtxIdeal.nD Cert.NaCtxIdeal.τ).loc Cert.NaCtxIdeal.main_v3) = v0 c
          ∧ r.2.mem ((c.tc : Thread Cert.NaCtxIdeal.nD Cert.NaCtxIdeal.τ).loc Cert.NaCtxIdeal.main_arg0) = m ((c.tc : Thread Cert.NaCtxIdeal.nD Cert.NaCtxIdeal.τ).loc Cert.NaCtxIdeal.main_arg0))
      ∧ θ_run (Cert.RefNaCtxIdeal.defs (F := Ideal)) (onTc (τ := Cert.RefNaCtxIdeal.τ) (Cert.RefNaCtxIdeal.main (F := Ideal))) ⟨m', fun _ => 0, g'⟩ (fun r => ∀ c : Dev Cert.RefNaCtxIdeal.nD,
          r.2.mem ((c.tc : Thread Cert.RefNaCtxIdeal.nD Cert.RefNaCtxIdeal.τ).loc Cert.RefNaCtxIdeal.main_v29) = v0 c
          ∧ r.2.mem ((c.tc : Thread Cert.RefNaCtxIdeal.nD Cert.RefNaCtxIdeal.τ).loc Cert.RefNaCtxIdeal.main_arg0) = m' ((c.tc : Thread Cert.RefNaCtxIdeal.nD Cert.RefNaCtxIdeal.τ).loc Cert.RefNaCtxIdeal.main_arg0))

def preserves_Na_NaIdeal : Prop :=
  IdealRules.named_const.Statement Cert.NaIdeal.κ "scale_log2e" .f32 0x3E0293EE#32 (((Real.sqrt 128)⁻¹ * (Real.log 2)⁻¹ : ℝ) : EReal)

def algebraic_NaIdeal_RefNaIdeal [hNaIdeal : Cert.NaIdeal.Facts] [hRefNaIdeal : Cert.RefNaIdeal.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.RefNaIdeal.nD Cert.RefNaIdeal.τ Cert.RefNaIdeal.sig) → Buf (Elt Ideal) ℓ) (g' : Dev Cert.RefNaIdeal.nD → PrngReg), Pre_NaIdeal m →
    (∀ c : Dev Cert.NaIdeal.nD,
      m' ((c.tc : Thread Cert.RefNaIdeal.nD Cert.RefNaIdeal.τ).loc Cert.RefNaIdeal.main_arg0) = m ((c.tc : Thread Cert.NaIdeal.nD Cert.NaIdeal.τ).loc Cert.NaIdeal.main_arg0)
      ∧ m' ((c.tc : Thread Cert.RefNaIdeal.nD Cert.RefNaIdeal.τ).loc Cert.RefNaIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v85)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v85) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.RefNaIdeal.defs (F := Ideal)) (onTc (τ := Cert.RefNaIdeal.τ) (Cert.RefNaIdeal.main (F := Ideal))) ⟨m', fun _ => 0, g'⟩ (fun r => ∀ c : Dev Cert.RefNaIdeal.nD,
          r.2.mem ((c.tc : Thread Cert.RefNaIdeal.nD Cert.RefNaIdeal.τ).loc Cert.RefNaIdeal.main_v94) = v0 c
          ∧ r.2.mem ((c.tc : Thread Cert.RefNaIdeal.nD Cert.RefNaIdeal.τ).loc Cert.RefNaIdeal.main_arg0) = m' ((c.tc : Thread Cert.RefNaIdeal.nD Cert.RefNaIdeal.τ).loc Cert.RefNaIdeal.main_arg0)
          ∧ r.2.mem ((c.tc : Thread Cert.RefNaIdeal.nD Cert.RefNaIdeal.τ).loc Cert.RefNaIdeal.main_arg1) = m' ((c.tc : Thread Cert.RefNaIdeal.nD Cert.RefNaIdeal.τ).loc Cert.RefNaIdeal.main_arg1))

def preserves_QUp_QUpIdeal : Prop :=
  True

def algebraic_QUpIdeal_RefQUpIdeal [hQUpIdeal : Cert.QUpIdeal.Facts] [hRefQUpIdeal : Cert.RefQUpIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.RefQUpIdeal.nD Cert.RefQUpIdeal.τ Cert.RefQUpIdeal.sig) → Buf (Elt Ideal) ℓ) (g' : Dev Cert.RefQUpIdeal.nD → PrngReg), Pre_QUpIdeal m →
    (∀ c : Dev Cert.QUpIdeal.nD,
      m' ((c.tc : Thread Cert.RefQUpIdeal.nD Cert.RefQUpIdeal.τ).loc Cert.RefQUpIdeal.main_arg0) = m ((c.tc : Thread Cert.QUpIdeal.nD Cert.QUpIdeal.τ).loc Cert.QUpIdeal.main_arg0)
      ∧ m' ((c.tc : Thread Cert.RefQUpIdeal.nD Cert.RefQUpIdeal.τ).loc Cert.RefQUpIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.RefQUpIdeal.defs (F := Ideal)) (onTc (τ := Cert.RefQUpIdeal.τ) (Cert.RefQUpIdeal.main (F := Ideal))) ⟨m', fun _ => 0, g'⟩ (fun r => ∀ c : Dev Cert.RefQUpIdeal.nD,
          r.2.mem ((c.tc : Thread Cert.RefQUpIdeal.nD Cert.RefQUpIdeal.τ).loc Cert.RefQUpIdeal.main_v3) = v0 c
          ∧ r.2.mem ((c.tc : Thread Cert.RefQUpIdeal.nD Cert.RefQUpIdeal.τ).loc Cert.RefQUpIdeal.main_arg0) = m' ((c.tc : Thread Cert.RefQUpIdeal.nD Cert.RefQUpIdeal.τ).loc Cert.RefQUpIdeal.main_arg0)
          ∧ r.2.mem ((c.tc : Thread Cert.RefQUpIdeal.nD Cert.RefQUpIdeal.τ).loc Cert.RefQUpIdeal.main_arg1) = m' ((c.tc : Thread Cert.RefQUpIdeal.nD Cert.RefQUpIdeal.τ).loc Cert.RefQUpIdeal.main_arg1))

def preserves_KvUp_KvUpIdeal : Prop :=
  True

def algebraic_KvUpIdeal_RefKvUpIdeal [hKvUpIdeal : Cert.KvUpIdeal.Facts] [hRefKvUpIdeal : Cert.RefKvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.RefKvUpIdeal.nD Cert.RefKvUpIdeal.τ Cert.RefKvUpIdeal.sig) → Buf (Elt Ideal) ℓ) (g' : Dev Cert.RefKvUpIdeal.nD → PrngReg), Pre_KvUpIdeal m →
    (∀ c : Dev Cert.KvUpIdeal.nD,
      m' ((c.tc : Thread Cert.RefKvUpIdeal.nD Cert.RefKvUpIdeal.τ).loc Cert.RefKvUpIdeal.main_arg0) = m ((c.tc : Thread Cert.KvUpIdeal.nD Cert.KvUpIdeal.τ).loc Cert.KvUpIdeal.main_arg0)
      ∧ m' ((c.tc : Thread Cert.RefKvUpIdeal.nD Cert.RefKvUpIdeal.τ).loc Cert.RefKvUpIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.RefKvUpIdeal.defs (F := Ideal)) (onTc (τ := Cert.RefKvUpIdeal.τ) (Cert.RefKvUpIdeal.main (F := Ideal))) ⟨m', fun _ => 0, g'⟩ (fun r => ∀ c : Dev Cert.RefKvUpIdeal.nD,
          r.2.mem ((c.tc : Thread Cert.RefKvUpIdeal.nD Cert.RefKvUpIdeal.τ).loc Cert.RefKvUpIdeal.main_v3) = v0 c
          ∧ r.2.mem ((c.tc : Thread Cert.RefKvUpIdeal.nD Cert.RefKvUpIdeal.τ).loc Cert.RefKvUpIdeal.main_arg0) = m' ((c.tc : Thread Cert.RefKvUpIdeal.nD Cert.RefKvUpIdeal.τ).loc Cert.RefKvUpIdeal.main_arg0)
          ∧ r.2.mem ((c.tc : Thread Cert.RefKvUpIdeal.nD Cert.RefKvUpIdeal.τ).loc Cert.RefKvUpIdeal.main_arg1) = m' ((c.tc : Thread Cert.RefKvUpIdeal.nD Cert.RefKvUpIdeal.τ).loc Cert.RefKvUpIdeal.main_arg1))

def preserves_GateLat_GateLatIdeal : Prop :=
  True

def algebraic_GateLatIdeal_RefGateLatIdeal [hGateLatIdeal : Cert.GateLatIdeal.Facts] [hRefGateLatIdeal : Cert.RefGateLatIdeal.Facts] : Prop :=
  ∀ (m : (ℓ : Loc Cert.GateLatIdeal.nD Cert.GateLatIdeal.τ Cert.GateLatIdeal.sig) → Buf (Elt Ideal) ℓ) (g : Dev Cert.GateLatIdeal.nD → PrngReg)
    (m' : (ℓ : Loc Cert.RefGateLatIdeal.nD Cert.RefGateLatIdeal.τ Cert.RefGateLatIdeal.sig) → Buf (Elt Ideal) ℓ) (g' : Dev Cert.RefGateLatIdeal.nD → PrngReg), Pre_GateLatIdeal m →
    (∀ c : Dev Cert.GateLatIdeal.nD,
      m' ((c.tc : Thread Cert.RefGateLatIdeal.nD Cert.RefGateLatIdeal.τ).loc Cert.RefGateLatIdeal.main_arg0) = m ((c.tc : Thread Cert.GateLatIdeal.nD Cert.GateLatIdeal.τ).loc Cert.GateLatIdeal.main_arg0)
      ∧ m' ((c.tc : Thread Cert.RefGateLatIdeal.nD Cert.RefGateLatIdeal.τ).loc Cert.RefGateLatIdeal.main_arg1) = m ((c.tc : Thread Cert.GateLatIdeal.nD Cert.GateLatIdeal.τ).loc Cert.GateLatIdeal.main_arg1)) →
    ∃ (v0 : (c : Dev Cert.GateLatIdeal.nD) → Buf (Elt Ideal) ((c.tc : Thread Cert.GateLatIdeal.nD Cert.GateLatIdeal.τ).loc Cert.GateLatIdeal.main_v0)),
      θ_run (Cert.GateLatIdeal.defs (F := Ideal)) (onTc (τ := Cert.GateLatIdeal.τ) (Cert.GateLatIdeal.main (F := Ideal))) ⟨m, fun _ => 0, g⟩ (fun r => ∀ c : Dev Cert.GateLatIdeal.nD,
          r.2.mem ((c.tc : Thread Cert.GateLatIdeal.nD Cert.GateLatIdeal.τ).loc Cert.GateLatIdeal.main_v0) = v0 c
          ∧ r.2.mem ((c.tc : Thread Cert.GateLatIdeal.nD Cert.GateLatIdeal.τ).loc Cert.GateLatIdeal.main_arg0) = m ((c.tc : Thread Cert.GateLatIdeal.nD Cert.GateLatIdeal.τ).loc Cert.GateLatIdeal.main_arg0)
          ∧ r.2.mem ((c.tc : Thread Cert.GateLatIdeal.nD Cert.GateLatIdeal.τ).loc Cert.GateLatIdeal.main_arg1) = m ((c.tc : Thread Cert.GateLatIdeal.nD Cert.GateLatIdeal.τ).loc Cert.GateLatIdeal.main_arg1))
      ∧ θ_run (Cert.RefGateLatIdeal.defs (F := Ideal)) (onTc (τ := Cert.RefGateLatIdeal.τ) (Cert.RefGateLatIdeal.main (F := Ideal))) ⟨m', fun _ => 0, g'⟩ (fun r => ∀ c : Dev Cert.RefGateLatIdeal.nD,
          r.2.mem ((c.tc : Thread Cert.RefGateLatIdeal.nD Cert.RefGateLatIdeal.τ).loc Cert.RefGateLatIdeal.main_v5) = v0 c
          ∧ r.2.mem ((c.tc : Thread Cert.RefGateLatIdeal.nD Cert.RefGateLatIdeal.τ).loc Cert.RefGateLatIdeal.main_arg0) = m' ((c.tc : Thread Cert.RefGateLatIdeal.nD Cert.RefGateLatIdeal.τ).loc Cert.RefGateLatIdeal.main_arg0)
          ∧ r.2.mem ((c.tc : Thread Cert.RefGateLatIdeal.nD Cert.RefGateLatIdeal.τ).loc Cert.RefGateLatIdeal.main_arg1) = m' ((c.tc : Thread Cert.RefGateLatIdeal.nD Cert.RefGateLatIdeal.τ).loc Cert.RefGateLatIdeal.main_arg1))

def preserves_NormMod_NormModIdeal : Prop :=
  True

def algebraic_NormModIdeal_RefNormModIdeal [hNormModIdeal : Cert.NormModIdeal.Facts] [hRefNormModIdeal : Cert.RefNormModIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.RefNormModIdeal.nD Cert.RefNormModIdeal.τ Cert.RefNormModIdeal.sig) → Buf (Elt Ideal) ℓ) (g' : Dev Cert.RefNormModIdeal.nD → PrngReg), Pre_NormModIdeal m →
    (∀ c : Dev Cert.NormModIdeal.nD,
      m' ((c.tc : Thread Cert.RefNormModIdeal.nD Cert.RefNormModIdeal.τ).loc Cert.RefNormModIdeal.main_arg0) = m ((c.tc : Thread Cert.NormModIdeal.nD Cert.NormModIdeal.τ).loc Cert.NormModIdeal.main_arg0)
      ∧ m' ((c.tc : Thread Cert.RefNormModIdeal.nD Cert.RefNormModIdeal.τ).loc Cert.RefNormModIdeal.main_arg1) = m ((c.tc : Thread Cert.NormModIdeal.nD Cert.NormModIdeal.τ).loc Cert.NormModIdeal.main_arg1)
      ∧ m' ((c.tc : Thread Cert.RefNormModIdeal.nD Cert.RefNormModIdeal.τ).loc Cert.RefNormModIdeal.main_arg2) = m ((c.tc : Thread Cert.NormModIdeal.nD Cert.NormModIdeal.τ).loc Cert.NormModIdeal.main_arg2)
      ∧ m' ((c.tc : Thread Cert.RefNormModIdeal.nD Cert.RefNormModIdeal.τ).loc Cert.RefNormModIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.RefNormModIdeal.defs (F := Ideal)) (onTc (τ := Cert.RefNormModIdeal.τ) (Cert.RefNormModIdeal.main (F := Ideal))) ⟨m', fun _ => 0, g'⟩ (fun r => ∀ c : Dev Cert.RefNormModIdeal.nD,
          r.2.mem ((c.tc : Thread Cert.RefNormModIdeal.nD Cert.RefNormModIdeal.τ).loc Cert.RefNormModIdeal.main_v29) = v0 c
          ∧ r.2.mem ((c.tc : Thread Cert.RefNormModIdeal.nD Cert.RefNormModIdeal.τ).loc Cert.RefNormModIdeal.main_arg0) = m' ((c.tc : Thread Cert.RefNormModIdeal.nD Cert.RefNormModIdeal.τ).loc Cert.RefNormModIdeal.main_arg0)
          ∧ r.2.mem ((c.tc : Thread Cert.RefNormModIdeal.nD Cert.RefNormModIdeal.τ).loc Cert.RefNormModIdeal.main_arg1) = m' ((c.tc : Thread Cert.RefNormModIdeal.nD Cert.RefNormModIdeal.τ).loc Cert.RefNormModIdeal.main_arg1)
          ∧ r.2.mem ((c.tc : Thread Cert.RefNormModIdeal.nD Cert.RefNormModIdeal.τ).loc Cert.RefNormModIdeal.main_arg2) = m' ((c.tc : Thread Cert.RefNormModIdeal.nD Cert.RefNormModIdeal.τ).loc Cert.RefNormModIdeal.main_arg2)
          ∧ r.2.mem ((c.tc : Thread Cert.RefNormModIdeal.nD Cert.RefNormModIdeal.τ).loc Cert.RefNormModIdeal.main_arg3) = m' ((c.tc : Thread Cert.RefNormModIdeal.nD Cert.RefNormModIdeal.τ).loc Cert.RefNormModIdeal.main_arg3))

def preserves_ResidNorm_ResidNormIdeal : Prop :=
  True

def algebraic_ResidNormIdeal_RefResidNormIdeal [hResidNormIdeal : Cert.ResidNormIdeal.Facts] [hRefResidNormIdeal : Cert.RefResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.RefResidNormIdeal.nD Cert.RefResidNormIdeal.τ Cert.RefResidNormIdeal.sig) → Buf (Elt Ideal) ℓ) (g' : Dev Cert.RefResidNormIdeal.nD → PrngReg), Pre_ResidNormIdeal m →
    (∀ c : Dev Cert.ResidNormIdeal.nD,
      m' ((c.tc : Thread Cert.RefResidNormIdeal.nD Cert.RefResidNormIdeal.τ).loc Cert.RefResidNormIdeal.main_arg0) = m ((c.tc : Thread Cert.ResidNormIdeal.nD Cert.ResidNormIdeal.τ).loc Cert.ResidNormIdeal.main_arg0)
      ∧ m' ((c.tc : Thread Cert.RefResidNormIdeal.nD Cert.RefResidNormIdeal.τ).loc Cert.RefResidNormIdeal.main_arg1) = m ((c.tc : Thread Cert.ResidNormIdeal.nD Cert.ResidNormIdeal.τ).loc Cert.ResidNormIdeal.main_arg1)
      ∧ m' ((c.tc : Thread Cert.RefResidNormIdeal.nD Cert.RefResidNormIdeal.τ).loc Cert.RefResidNormIdeal.main_arg2) = m ((c.tc : Thread Cert.ResidNormIdeal.nD Cert.ResidNormIdeal.τ).loc Cert.ResidNormIdeal.main_arg2)
      ∧ m' ((c.tc : Thread Cert.RefResidNormIdeal.nD Cert.RefResidNormIdeal.τ).loc Cert.RefResidNormIdeal.main_arg3) = m ((c.tc : Thread Cert.ResidNormIdeal.nD Cert.ResidNormIdeal.τ).loc Cert.ResidNormIdeal.main_arg3)
      ∧ m' ((c.tc : Thread Cert.RefResidNormIdeal.nD Cert.RefResidNormIdeal.τ).loc Cert.RefResidNormIdeal.main_arg4) = m ((c.tc : Thread Cert.ResidNormIdeal.nD Cert.ResidNormIdeal.τ).loc Cert.ResidNormIdeal.main_arg4)
      ∧ m' ((c.tc : Thread Cert.RefResidNormIdeal.nD Cert.RefResidNormIdeal.τ).loc Cert.RefResidNormIdeal.main_arg5) = m ((c.tc : Thread Cert.ResidNormIdeal.nD Cert.ResidNormIdeal.τ).loc Cert.ResidNormIdeal.main_arg5)
      ∧ m' ((c.tc : Thread Cert.RefResidNormIdeal.nD Cert.RefResidNormIdeal.τ).loc Cert.RefResidNormIdeal.main_arg6) = m ((c.tc : Thread Cert.ResidNormIdeal.nD Cert.ResidNormIdeal.τ).loc Cert.ResidNormIdeal.main_arg6)) →
    ∃ (v0 : (c : Dev Cert.ResidNormIdeal.nD) → Buf (Elt Ideal) ((c.tc : Thread Cert.ResidNormIdeal.nD Cert.ResidNormIdeal.τ).loc Cert.ResidNormIdeal.main_v2_0)) (v1 : (c : Dev Cert.ResidNormIdeal.nD) → Buf (Elt Ideal) ((c.tc : Thread Cert.ResidNormIdeal.nD Cert.ResidNormIdeal.τ).loc Cert.ResidNormIdeal.main_v2_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v2_0) = v0 c
          ∧ r.2.mem ((c.tc : Thread Cert.ResidNormIdeal.nD Cert.ResidNormIdeal.τ).loc Cert.ResidNormIdeal.main_v2_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3)
          ∧ r.2.mem ((c.tc : Thread Cert.ResidNormIdeal.nD Cert.ResidNormIdeal.τ).loc Cert.ResidNormIdeal.main_arg4) = m ((c.tc : Thread Cert.ResidNormIdeal.nD Cert.ResidNormIdeal.τ).loc Cert.ResidNormIdeal.main_arg4)
          ∧ r.2.mem ((c.tc : Thread Cert.ResidNormIdeal.nD Cert.ResidNormIdeal.τ).loc Cert.ResidNormIdeal.main_arg5) = m ((c.tc : Thread Cert.ResidNormIdeal.nD Cert.ResidNormIdeal.τ).loc Cert.ResidNormIdeal.main_arg5)
          ∧ r.2.mem ((c.tc : Thread Cert.ResidNormIdeal.nD Cert.ResidNormIdeal.τ).loc Cert.ResidNormIdeal.main_arg6) = m ((c.tc : Thread Cert.ResidNormIdeal.nD Cert.ResidNormIdeal.τ).loc Cert.ResidNormIdeal.main_arg6))
      ∧ θ_run (Cert.RefResidNormIdeal.defs (F := Ideal)) (onTc (τ := Cert.RefResidNormIdeal.τ) (Cert.RefResidNormIdeal.main (F := Ideal))) ⟨m', fun _ => 0, g'⟩ (fun r => ∀ c : Dev Cert.RefResidNormIdeal.nD,
          r.2.mem ((c.tc : Thread Cert.RefResidNormIdeal.nD Cert.RefResidNormIdeal.τ).loc Cert.RefResidNormIdeal.main_v21) = v0 c
          ∧ r.2.mem ((c.tc : Thread Cert.RefResidNormIdeal.nD Cert.RefResidNormIdeal.τ).loc Cert.RefResidNormIdeal.main_v51) = v1 c
          ∧ r.2.mem ((c.tc : Thread Cert.RefResidNormIdeal.nD Cert.RefResidNormIdeal.τ).loc Cert.RefResidNormIdeal.main_arg0) = m' ((c.tc : Thread Cert.RefResidNormIdeal.nD Cert.RefResidNormIdeal.τ).loc Cert.RefResidNormIdeal.main_arg0)
          ∧ r.2.mem ((c.tc : Thread Cert.RefResidNormIdeal.nD Cert.RefResidNormIdeal.τ).loc Cert.RefResidNormIdeal.main_arg1) = m' ((c.tc : Thread Cert.RefResidNormIdeal.nD Cert.RefResidNormIdeal.τ).loc Cert.RefResidNormIdeal.main_arg1)
          ∧ r.2.mem ((c.tc : Thread Cert.RefResidNormIdeal.nD Cert.RefResidNormIdeal.τ).loc Cert.RefResidNormIdeal.main_arg2) = m' ((c.tc : Thread Cert.RefResidNormIdeal.nD Cert.RefResidNormIdeal.τ).loc Cert.RefResidNormIdeal.main_arg2)
          ∧ r.2.mem ((c.tc : Thread Cert.RefResidNormIdeal.nD Cert.RefResidNormIdeal.τ).loc Cert.RefResidNormIdeal.main_arg3) = m' ((c.tc : Thread Cert.RefResidNormIdeal.nD Cert.RefResidNormIdeal.τ).loc Cert.RefResidNormIdeal.main_arg3)
          ∧ r.2.mem ((c.tc : Thread Cert.RefResidNormIdeal.nD Cert.RefResidNormIdeal.τ).loc Cert.RefResidNormIdeal.main_arg4) = m' ((c.tc : Thread Cert.RefResidNormIdeal.nD Cert.RefResidNormIdeal.τ).loc Cert.RefResidNormIdeal.main_arg4)
          ∧ r.2.mem ((c.tc : Thread Cert.RefResidNormIdeal.nD Cert.RefResidNormIdeal.τ).loc Cert.RefResidNormIdeal.main_arg5) = m' ((c.tc : Thread Cert.RefResidNormIdeal.nD Cert.RefResidNormIdeal.τ).loc Cert.RefResidNormIdeal.main_arg5)
          ∧ r.2.mem ((c.tc : Thread Cert.RefResidNormIdeal.nD Cert.RefResidNormIdeal.τ).loc Cert.RefResidNormIdeal.main_arg6) = m' ((c.tc : Thread Cert.RefResidNormIdeal.nD Cert.RefResidNormIdeal.τ).loc Cert.RefResidNormIdeal.main_arg6))

def preserves_Resid_ResidIdeal : Prop :=
  True

def algebraic_ResidIdeal_RefResidIdeal [hResidIdeal : Cert.ResidIdeal.Facts] [hRefResidIdeal : Cert.RefResidIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.RefResidIdeal.nD Cert.RefResidIdeal.τ Cert.RefResidIdeal.sig) → Buf (Elt Ideal) ℓ) (g' : Dev Cert.RefResidIdeal.nD → PrngReg), Pre_ResidIdeal m →
    (∀ c : Dev Cert.ResidIdeal.nD,
      m' ((c.tc : Thread Cert.RefResidIdeal.nD Cert.RefResidIdeal.τ).loc Cert.RefResidIdeal.main_arg0) = m ((c.tc : Thread Cert.ResidIdeal.nD Cert.ResidIdeal.τ).loc Cert.ResidIdeal.main_arg0)
      ∧ m' ((c.tc : Thread Cert.RefResidIdeal.nD Cert.RefResidIdeal.τ).loc Cert.RefResidIdeal.main_arg1) = m ((c.tc : Thread Cert.ResidIdeal.nD Cert.ResidIdeal.τ).loc Cert.ResidIdeal.main_arg1)
      ∧ m' ((c.tc : Thread Cert.RefResidIdeal.nD Cert.RefResidIdeal.τ).loc Cert.RefResidIdeal.main_arg2) = m ((c.tc : Thread Cert.ResidIdeal.nD Cert.ResidIdeal.τ).loc Cert.ResidIdeal.main_arg2)
      ∧ m' ((c.tc : Thread Cert.RefResidIdeal.nD Cert.RefResidIdeal.τ).loc Cert.RefResidIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.RefResidIdeal.defs (F := Ideal)) (onTc (τ := Cert.RefResidIdeal.τ) (Cert.RefResidIdeal.main (F := Ideal))) ⟨m', fun _ => 0, g'⟩ (fun r => ∀ c : Dev Cert.RefResidIdeal.nD,
          r.2.mem ((c.tc : Thread Cert.RefResidIdeal.nD Cert.RefResidIdeal.τ).loc Cert.RefResidIdeal.main_v19) = v0 c
          ∧ r.2.mem ((c.tc : Thread Cert.RefResidIdeal.nD Cert.RefResidIdeal.τ).loc Cert.RefResidIdeal.main_arg0) = m' ((c.tc : Thread Cert.RefResidIdeal.nD Cert.RefResidIdeal.τ).loc Cert.RefResidIdeal.main_arg0)
          ∧ r.2.mem ((c.tc : Thread Cert.RefResidIdeal.nD Cert.RefResidIdeal.τ).loc Cert.RefResidIdeal.main_arg1) = m' ((c.tc : Thread Cert.RefResidIdeal.nD Cert.RefResidIdeal.τ).loc Cert.RefResidIdeal.main_arg1)
          ∧ r.2.mem ((c.tc : Thread Cert.RefResidIdeal.nD Cert.RefResidIdeal.τ).loc Cert.RefResidIdeal.main_arg2) = m' ((c.tc : Thread Cert.RefResidIdeal.nD Cert.RefResidIdeal.τ).loc Cert.RefResidIdeal.main_arg2)
          ∧ r.2.mem ((c.tc : Thread Cert.RefResidIdeal.nD Cert.RefResidIdeal.τ).loc Cert.RefResidIdeal.main_arg3) = m' ((c.tc : Thread Cert.RefResidIdeal.nD Cert.RefResidIdeal.τ).loc Cert.RefResidIdeal.main_arg3))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v18) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2))

def preserves_Readout_ReadoutIdeal : Prop :=
  True

def algebraic_ReadoutIdeal_RefReadoutIdeal [hReadoutIdeal : Cert.ReadoutIdeal.Facts] [hRefReadoutIdeal : Cert.RefReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.RefReadoutIdeal.nD Cert.RefReadoutIdeal.τ Cert.RefReadoutIdeal.sig) → Buf (Elt Ideal) ℓ) (g' : Dev Cert.RefReadoutIdeal.nD → PrngReg), Pre_ReadoutIdeal m →
    (∀ c : Dev Cert.ReadoutIdeal.nD,
      m' ((c.tc : Thread Cert.RefReadoutIdeal.nD Cert.RefReadoutIdeal.τ).loc Cert.RefReadoutIdeal.main_arg0) = m ((c.tc : Thread Cert.ReadoutIdeal.nD Cert.ReadoutIdeal.τ).loc Cert.ReadoutIdeal.main_arg0)
      ∧ m' ((c.tc : Thread Cert.RefReadoutIdeal.nD Cert.RefReadoutIdeal.τ).loc Cert.RefReadoutIdeal.main_arg1) = m ((c.tc : Thread Cert.ReadoutIdeal.nD Cert.ReadoutIdeal.τ).loc Cert.ReadoutIdeal.main_arg1)
      ∧ m' ((c.tc : Thread Cert.RefReadoutIdeal.nD Cert.RefReadoutIdeal.τ).loc Cert.RefReadoutIdeal.main_arg2) = m ((c.tc : Thread Cert.ReadoutIdeal.nD Cert.ReadoutIdeal.τ).loc Cert.ReadoutIdeal.main_arg2)
      ∧ m' ((c.tc : Thread Cert.RefReadoutIdeal.nD Cert.RefReadoutIdeal.τ).loc Cert.RefReadoutIdeal.main_arg3) = m ((c.tc : Thread Cert.ReadoutIdeal.nD Cert.ReadoutIdeal.τ).loc Cert.ReadoutIdeal.main_arg3)) →
    ∃ (v0 : (c : Dev Cert.ReadoutIdeal.nD) → Buf (Elt Ideal) ((c.tc : Thread Cert.ReadoutIdeal.nD Cert.ReadoutIdeal.τ).loc Cert.ReadoutIdeal.main_v1)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v1) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3))
      ∧ θ_run (Cert.RefReadoutIdeal.defs (F := Ideal)) (onTc (τ := Cert.RefReadoutIdeal.τ) (Cert.RefReadoutIdeal.main (F := Ideal))) ⟨m', fun _ => 0, g'⟩ (fun r => ∀ c : Dev Cert.RefReadoutIdeal.nD,
          r.2.mem ((c.tc : Thread Cert.RefReadoutIdeal.nD Cert.RefReadoutIdeal.τ).loc Cert.RefReadoutIdeal.main_v27) = v0 c
          ∧ r.2.mem ((c.tc : Thread Cert.RefReadoutIdeal.nD Cert.RefReadoutIdeal.τ).loc Cert.RefReadoutIdeal.main_arg0) = m' ((c.tc : Thread Cert.RefReadoutIdeal.nD Cert.RefReadoutIdeal.τ).loc Cert.RefReadoutIdeal.main_arg0)
          ∧ r.2.mem ((c.tc : Thread Cert.RefReadoutIdeal.nD Cert.RefReadoutIdeal.τ).loc Cert.RefReadoutIdeal.main_arg1) = m' ((c.tc : Thread Cert.RefReadoutIdeal.nD Cert.RefReadoutIdeal.τ).loc Cert.RefReadoutIdeal.main_arg1)
          ∧ r.2.mem ((c.tc : Thread Cert.RefReadoutIdeal.nD Cert.RefReadoutIdeal.τ).loc Cert.RefReadoutIdeal.main_arg2) = m' ((c.tc : Thread Cert.RefReadoutIdeal.nD Cert.RefReadoutIdeal.τ).loc Cert.RefReadoutIdeal.main_arg2)
          ∧ r.2.mem ((c.tc : Thread Cert.RefReadoutIdeal.nD Cert.RefReadoutIdeal.τ).loc Cert.RefReadoutIdeal.main_arg3) = m' ((c.tc : Thread Cert.RefReadoutIdeal.nD Cert.RefReadoutIdeal.τ).loc Cert.RefReadoutIdeal.main_arg3))

def Claim : Prop :=
  ∃ (hInGate : Cert.InGate.Facts) (hInGateIdeal : Cert.InGateIdeal.Facts) (hRefInGateIdeal : Cert.RefInGateIdeal.Facts) (hInC : Cert.InC.Facts) (hInCIdeal : Cert.InCIdeal.Facts) (hRefInCIdeal : Cert.RefInCIdeal.Facts) (hInA : Cert.InA.Facts) (hInAIdeal : Cert.InAIdeal.Facts) (hRefInAIdeal : Cert.RefInAIdeal.Facts) (hInB : Cert.InB.Facts) (hInBIdeal : Cert.InBIdeal.Facts) (hRefInBIdeal : Cert.RefInBIdeal.Facts) (hOutProj : Cert.OutProj.Facts) (hOutProjIdeal : Cert.OutProjIdeal.Facts) (hRefOutProjIdeal : Cert.RefOutProjIdeal.Facts) (hFfnDown : Cert.FfnDown.Facts) (hFfnDownIdeal : Cert.FfnDownIdeal.Facts) (hRefFfnDownIdeal : Cert.RefFfnDownIdeal.Facts) (hMerge : Cert.Merge.Facts) (hMergeIdeal : Cert.MergeIdeal.Facts) (hRefMergeIdeal : Cert.RefMergeIdeal.Facts) (hFfnUp : Cert.FfnUp.Facts) (hFfnUpIdeal : Cert.FfnUpIdeal.Facts) (hRefFfnUpIdeal : Cert.RefFfnUpIdeal.Facts) (hNaCtx : Cert.NaCtx.Facts) (hNaCtxIdeal : Cert.NaCtxIdeal.Facts) (hRefNaCtxIdeal : Cert.RefNaCtxIdeal.Facts) (hNa : Cert.Na.Facts) (hNaIdeal : Cert.NaIdeal.Facts) (hRefNaIdeal : Cert.RefNaIdeal.Facts) (hQUp : Cert.QUp.Facts) (hQUpIdeal : Cert.QUpIdeal.Facts) (hRefQUpIdeal : Cert.RefQUpIdeal.Facts) (hKvUp : Cert.KvUp.Facts) (hKvUpIdeal : Cert.KvUpIdeal.Facts) (hRefKvUpIdeal : Cert.RefKvUpIdeal.Facts) (hGateLat : Cert.GateLat.Facts) (hGateLatIdeal : Cert.GateLatIdeal.Facts) (hRefGateLatIdeal : Cert.RefGateLatIdeal.Facts) (hNormMod : Cert.NormMod.Facts) (hNormModIdeal : Cert.NormModIdeal.Facts) (hRefNormModIdeal : Cert.RefNormModIdeal.Facts) (hResidNorm : Cert.ResidNorm.Facts) (hResidNormIdeal : Cert.ResidNormIdeal.Facts) (hRefResidNormIdeal : Cert.RefResidNormIdeal.Facts) (hResid : Cert.Resid.Facts) (hResidIdeal : Cert.ResidIdeal.Facts) (hRefResidIdeal : Cert.RefResidIdeal.Facts) (hAda : Cert.Ada.Facts) (hAdaIdeal : Cert.AdaIdeal.Facts) (hRefAdaIdeal : Cert.RefAdaIdeal.Facts) (hReadout : Cert.Readout.Facts) (hReadoutIdeal : Cert.ReadoutIdeal.Facts) (hRefReadoutIdeal : Cert.RefReadoutIdeal.Facts),
    quiescent_InGate (hInGate := hInGate)
    ∧ quiescent_InGateIdeal (hInGateIdeal := hInGateIdeal)
    ∧ quiescent_RefInGateIdeal (hRefInGateIdeal := hRefInGateIdeal)
    ∧ quiescent_InC (hInC := hInC)
    ∧ quiescent_InCIdeal (hInCIdeal := hInCIdeal)
    ∧ quiescent_RefInCIdeal (hRefInCIdeal := hRefInCIdeal)
    ∧ quiescent_InA (hInA := hInA)
    ∧ quiescent_InAIdeal (hInAIdeal := hInAIdeal)
    ∧ quiescent_RefInAIdeal (hRefInAIdeal := hRefInAIdeal)
    ∧ quiescent_InB (hInB := hInB)
    ∧ quiescent_InBIdeal (hInBIdeal := hInBIdeal)
    ∧ quiescent_RefInBIdeal (hRefInBIdeal := hRefInBIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_FfnDown (hFfnDown := hFfnDown)
    ∧ quiescent_FfnDownIdeal (hFfnDownIdeal := hFfnDownIdeal)
    ∧ quiescent_RefFfnDownIdeal (hRefFfnDownIdeal := hRefFfnDownIdeal)
    ∧ quiescent_Merge (hMerge := hMerge)
    ∧ quiescent_MergeIdeal (hMergeIdeal := hMergeIdeal)
    ∧ quiescent_RefMergeIdeal (hRefMergeIdeal := hRefMergeIdeal)
    ∧ quiescent_FfnUp (hFfnUp := hFfnUp)
    ∧ quiescent_FfnUpIdeal (hFfnUpIdeal := hFfnUpIdeal)
    ∧ quiescent_RefFfnUpIdeal (hRefFfnUpIdeal := hRefFfnUpIdeal)
    ∧ quiescent_NaCtx (hNaCtx := hNaCtx)
    ∧ quiescent_NaCtxIdeal (hNaCtxIdeal := hNaCtxIdeal)
    ∧ quiescent_RefNaCtxIdeal (hRefNaCtxIdeal := hRefNaCtxIdeal)
    ∧ quiescent_Na (hNa := hNa)
    ∧ quiescent_NaIdeal (hNaIdeal := hNaIdeal)
    ∧ quiescent_RefNaIdeal (hRefNaIdeal := hRefNaIdeal)
    ∧ quiescent_QUp (hQUp := hQUp)
    ∧ quiescent_QUpIdeal (hQUpIdeal := hQUpIdeal)
    ∧ quiescent_RefQUpIdeal (hRefQUpIdeal := hRefQUpIdeal)
    ∧ quiescent_KvUp (hKvUp := hKvUp)
    ∧ quiescent_KvUpIdeal (hKvUpIdeal := hKvUpIdeal)
    ∧ quiescent_RefKvUpIdeal (hRefKvUpIdeal := hRefKvUpIdeal)
    ∧ quiescent_GateLat (hGateLat := hGateLat)
    ∧ quiescent_GateLatIdeal (hGateLatIdeal := hGateLatIdeal)
    ∧ quiescent_RefGateLatIdeal (hRefGateLatIdeal := hRefGateLatIdeal)
    ∧ quiescent_NormMod (hNormMod := hNormMod)
    ∧ quiescent_NormModIdeal (hNormModIdeal := hNormModIdeal)
    ∧ quiescent_RefNormModIdeal (hRefNormModIdeal := hRefNormModIdeal)
    ∧ quiescent_ResidNorm (hResidNorm := hResidNorm)
    ∧ quiescent_ResidNormIdeal (hResidNormIdeal := hResidNormIdeal)
    ∧ quiescent_RefResidNormIdeal (hRefResidNormIdeal := hRefResidNormIdeal)
    ∧ quiescent_Resid (hResid := hResid)
    ∧ quiescent_ResidIdeal (hResidIdeal := hResidIdeal)
    ∧ quiescent_RefResidIdeal (hRefResidIdeal := hRefResidIdeal)
    ∧ quiescent_Ada (hAda := hAda)
    ∧ quiescent_AdaIdeal (hAdaIdeal := hAdaIdeal)
    ∧ quiescent_RefAdaIdeal (hRefAdaIdeal := hRefAdaIdeal)
    ∧ quiescent_Readout (hReadout := hReadout)
    ∧ quiescent_ReadoutIdeal (hReadoutIdeal := hReadoutIdeal)
    ∧ quiescent_RefReadoutIdeal (hRefReadoutIdeal := hRefReadoutIdeal)
    ∧ preserves_InGate_InGateIdeal
    ∧ algebraic_InGateIdeal_RefInGateIdeal (hInGateIdeal := hInGateIdeal) (hRefInGateIdeal := hRefInGateIdeal)
    ∧ preserves_InC_InCIdeal
    ∧ algebraic_InCIdeal_RefInCIdeal (hInCIdeal := hInCIdeal) (hRefInCIdeal := hRefInCIdeal)
    ∧ preserves_InA_InAIdeal
    ∧ algebraic_InAIdeal_RefInAIdeal (hInAIdeal := hInAIdeal) (hRefInAIdeal := hRefInAIdeal)
    ∧ preserves_InB_InBIdeal
    ∧ algebraic_InBIdeal_RefInBIdeal (hInBIdeal := hInBIdeal) (hRefInBIdeal := hRefInBIdeal)
    ∧ preserves_OutProj_OutProjIdeal
    ∧ algebraic_OutProjIdeal_RefOutProjIdeal (hOutProjIdeal := hOutProjIdeal) (hRefOutProjIdeal := hRefOutProjIdeal)
    ∧ preserves_FfnDown_FfnDownIdeal
    ∧ algebraic_FfnDownIdeal_RefFfnDownIdeal (hFfnDownIdeal := hFfnDownIdeal) (hRefFfnDownIdeal := hRefFfnDownIdeal)
    ∧ preserves_Merge_MergeIdeal
    ∧ algebraic_MergeIdeal_RefMergeIdeal (hMergeIdeal := hMergeIdeal) (hRefMergeIdeal := hRefMergeIdeal)
    ∧ preserves_FfnUp_FfnUpIdeal
    ∧ algebraic_FfnUpIdeal_RefFfnUpIdeal (hFfnUpIdeal := hFfnUpIdeal) (hRefFfnUpIdeal := hRefFfnUpIdeal)
    ∧ preserves_NaCtx_NaCtxIdeal
    ∧ algebraic_NaCtxIdeal_RefNaCtxIdeal (hNaCtxIdeal := hNaCtxIdeal) (hRefNaCtxIdeal := hRefNaCtxIdeal)
    ∧ preserves_Na_NaIdeal
    ∧ algebraic_NaIdeal_RefNaIdeal (hNaIdeal := hNaIdeal) (hRefNaIdeal := hRefNaIdeal)
    ∧ preserves_QUp_QUpIdeal
    ∧ algebraic_QUpIdeal_RefQUpIdeal (hQUpIdeal := hQUpIdeal) (hRefQUpIdeal := hRefQUpIdeal)
    ∧ preserves_KvUp_KvUpIdeal
    ∧ algebraic_KvUpIdeal_RefKvUpIdeal (hKvUpIdeal := hKvUpIdeal) (hRefKvUpIdeal := hRefKvUpIdeal)
    ∧ preserves_GateLat_GateLatIdeal
    ∧ algebraic_GateLatIdeal_RefGateLatIdeal (hGateLatIdeal := hGateLatIdeal) (hRefGateLatIdeal := hRefGateLatIdeal)
    ∧ preserves_NormMod_NormModIdeal
    ∧ algebraic_NormModIdeal_RefNormModIdeal (hNormModIdeal := hNormModIdeal) (hRefNormModIdeal := hRefNormModIdeal)
    ∧ preserves_ResidNorm_ResidNormIdeal
    ∧ algebraic_ResidNormIdeal_RefResidNormIdeal (hResidNormIdeal := hResidNormIdeal) (hRefResidNormIdeal := hRefResidNormIdeal)
    ∧ preserves_Resid_ResidIdeal
    ∧ algebraic_ResidIdeal_RefResidIdeal (hResidIdeal := hResidIdeal) (hRefResidIdeal := hRefResidIdeal)
    ∧ preserves_Ada_AdaIdeal
    ∧ algebraic_AdaIdeal_RefAdaIdeal (hAdaIdeal := hAdaIdeal) (hRefAdaIdeal := hRefAdaIdeal)
    ∧ preserves_Readout_ReadoutIdeal
    ∧ algebraic_ReadoutIdeal_RefReadoutIdeal (hReadoutIdeal := hReadoutIdeal) (hRefReadoutIdeal := hRefReadoutIdeal)
-- ==== InGate.lean ====
abbrev S17408x4096 : Shape := ⟨2, ![17408, 4096]⟩
abbrev S4096x16384 : Shape := ⟨2, ![4096, 16384]⟩
abbrev S17408x16384 : Shape := ⟨2, ![17408, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x16384, .bf16⟩
  | .hbm, ⟨2, _⟩ => ⟨S17408x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInGateIdeal.lean ====
abbrev S17408x4096 : Shape := ⟨2, ![17408, 4096]⟩
abbrev S4096x16384 : Shape := ⟨2, ![4096, 16384]⟩
abbrev S17408x16384 : Shape := ⟨2, ![17408, 16384]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x16384, .bf16⟩
  | .hbm, ⟨2, _⟩ => ⟨S17408x4096, .f32⟩
  | .hbm, ⟨3, _⟩ => ⟨S4096x16384, .f32⟩
  | .hbm, ⟨4, _⟩ => ⟨S17408x16384, .f32⟩
  | .hbm, ⟨5, _⟩ => ⟨S17408x16384, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InC.lean ====
abbrev S17408x4096 : Shape := ⟨2, ![17408, 4096]⟩
abbrev S4096x5120 : Shape := ⟨2, ![4096, 5120]⟩
abbrev S17408x5120 : Shape := ⟨2, ![17408, 5120]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x5120, .bf16⟩
  | .hbm, ⟨2, _⟩ => ⟨S17408x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInCIdeal.lean ====
abbrev S17408x4096 : Shape := ⟨2, ![17408, 4096]⟩
abbrev S4096x5120 : Shape := ⟨2, ![4096, 5120]⟩
abbrev S17408x5120 : Shape := ⟨2, ![17408, 5120]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x5120, .bf16⟩
  | .hbm, ⟨2, _⟩ => ⟨S17408x4096, .f32⟩
  | .hbm, ⟨3, _⟩ => ⟨S4096x5120, .f32⟩
  | .hbm, ⟨4, _⟩ => ⟨S17408x5120, .f32⟩
  | .hbm, ⟨5, _⟩ => ⟨S17408x5120, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InA.lean ====
abbrev S17408x4096 : Shape := ⟨2, ![17408, 4096]⟩
abbrev S4096x3072 : Shape := ⟨2, ![4096, 3072]⟩
abbrev S17408x3072 : Shape := ⟨2, ![17408, 3072]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x3072, .bf16⟩
  | .hbm, ⟨2, _⟩ => ⟨S17408x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInAIdeal.lean ====
abbrev S17408x4096 : Shape := ⟨2, ![17408, 4096]⟩
abbrev S4096x3072 : Shape := ⟨2, ![4096, 3072]⟩
abbrev S17408x3072 : Shape := ⟨2, ![17408, 3072]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x3072, .bf16⟩
  | .hbm, ⟨2, _⟩ => ⟨S17408x4096, .f32⟩
  | .hbm, ⟨3, _⟩ => ⟨S4096x3072, .f32⟩
  | .hbm, ⟨4, _⟩ => ⟨S17408x3072, .f32⟩
  | .hbm, ⟨5, _⟩ => ⟨S17408x3072, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InB.lean ====
abbrev S17408x4096 : Shape := ⟨2, ![17408, 4096]⟩
abbrev S4096x1536 : Shape := ⟨2, ![4096, 1536]⟩
abbrev S17408x1536 : Shape := ⟨2, ![17408, 1536]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x1536, .bf16⟩
  | .hbm, ⟨2, _⟩ => ⟨S17408x1536, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInBIdeal.lean ====
abbrev S17408x4096 : Shape := ⟨2, ![17408, 4096]⟩
abbrev S4096x1536 : Shape := ⟨2, ![4096, 1536]⟩
abbrev S17408x1536 : Shape := ⟨2, ![17408, 1536]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x1536, .bf16⟩
  | .hbm, ⟨2, _⟩ => ⟨S17408x4096, .f32⟩
  | .hbm, ⟨3, _⟩ => ⟨S4096x1536, .f32⟩
  | .hbm, ⟨4, _⟩ => ⟨S17408x1536, .f32⟩
  | .hbm, ⟨5, _⟩ => ⟨S17408x1536, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S17408x4096 : Shape := ⟨2, ![17408, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S2x4096x4096, .bf16⟩
  | .hbm, ⟨2, _⟩ => ⟨S17408x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutProjIdeal.lean ====
abbrev S17408x4096 : Shape := ⟨2, ![17408, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x4096, .bf16⟩
  | .hbm, ⟨2, _⟩ => ⟨S17408x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S17408x4096, .f32⟩
  | .hbm, ⟨7, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnDown.lean ====
abbrev S17408x10880 : Shape := ⟨2, ![17408, 10880]⟩
abbrev S2x10880x4096 : Shape := ⟨3, ![2, 10880, 4096]⟩
abbrev S17408x4096 : Shape := ⟨2, ![17408, 4096]⟩
abbrev S512x10880 : Shape := ⟨2, ![512, 10880]⟩
abbrev S1x10880x512 : Shape := ⟨3, ![1, 10880, 512]⟩
abbrev S512x512 : Shape := ⟨2, ![512, 512]⟩
abbrev S10880x512 : Shape := ⟨2, ![10880, 512]⟩

abbrev nBuf : Space → Nat
  | .hbm => 3
  | .vmem => 6
  | .smem => 0
  | _ => 0

abbrev bufTy : (tb : Table) → Fin (tcTables nBuf tb) → BufTy
  | .hbm, ⟨0, _⟩ => ⟨S17408x10880, .bf16⟩
  | .hbm, ⟨1, _⟩ => ⟨S2x10880x4096, .bf16⟩
  | .hbm, ⟨2, _⟩ => ⟨S17408x4096, .bf16⟩
  | .local _ .vmem, ⟨0, _⟩ => ⟨S512x10880, .bf16⟩
  | .local _ .vmem, ⟨1, _⟩ => ⟨S512x10880, .bf16⟩
  | .local _ .vmem, ⟨2, _⟩ => ⟨S1x10880x512, .bf16⟩
  | .local _ .vmem, ⟨3, _⟩ => ⟨S1x10880x512, .bf16⟩
  | .local _ .vmem, ⟨4, _⟩ => ⟨S512x512, .bf16⟩
  | .local _ .vmem, ⟨5, _⟩ => ⟨S512x512, .bf16⟩
  | _, _ => ⟨S17408x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x10880 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x10880x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefFfnDownIdeal.lean ====
abbrev S17408x10880 : Shape := ⟨2, ![17408, 10880]⟩
abbrev S2x10880x4096 : Shape := ⟨3, ![2, 10880, 4096]⟩
abbrev S1x10880x4096 : Shape := ⟨3, ![1, 10880, 4096]⟩
abbrev S10880x4096 : Shape := ⟨2, ![10880, 4096]⟩
abbrev S17408x4096 : Shape := ⟨2, ![17408, 4096]⟩

abbrev nBuf : Space → Nat
  | .hbm => 8
  | .vmem => 0
  | .smem => 0
  | _ => 0

abbrev bufTy : (tb : Table) → Fin (tcTables nBuf tb) → BufTy
  | .hbm, ⟨0, _⟩ => ⟨S17408x10880, .bf16⟩
  | .hbm, ⟨1, _⟩ => ⟨S2x10880x4096, .bf16⟩
  | .hbm, ⟨2, _⟩ => ⟨S17408x10880, .f32⟩
  | .hbm, ⟨3, _⟩ => ⟨S1x10880x4096, .bf16⟩
  | .hbm, ⟨4, _⟩ => ⟨S10880x4096, .bf16⟩
  | .hbm, ⟨5, _⟩ => ⟨S10880x4096, .f32⟩
  | .hbm, ⟨6, _⟩ => ⟨S17408x4096, .f32⟩
  | .hbm, ⟨7, _⟩ => ⟨S17408x4096, .bf16⟩
  | _, _ => ⟨S17408x10880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S17408x1024 : Shape := ⟨2, ![17408, 1024]⟩
abbrev S17408x16384 : Shape := ⟨2, ![17408, 16384]⟩
abbrev S2x4x1024x4096 : Shape := ⟨4, ![2, 4, 1024, 4096]⟩
abbrev S17408x4096 : Shape := ⟨2, ![17408, 4096]⟩
abbrev S512x1024 : Shape := ⟨2, ![512, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩

abbrev nBuf : Space → Nat
  | .hbm => 7
  | .vmem => 20
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x1024, .bf16⟩
  | .hbm, ⟨3, _⟩ => ⟨S17408x1024, .bf16⟩
  | .hbm, ⟨4, _⟩ => ⟨S17408x16384, .bf16⟩
  | .hbm, ⟨5, _⟩ => ⟨S2x4x1024x4096, .bf16⟩
  | .hbm, ⟨6, _⟩ => ⟨S17408x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x4x1024x1024, .bf16⟩
  | .local _ .vmem, ⟨17, _⟩ => ⟨S1x4x1024x1024, .bf16⟩
  | .local _ .vmem, ⟨18, _⟩ => ⟨S512x1024, .bf16⟩
  | .local _ .vmem, ⟨19, _⟩ => ⟨S512x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMergeIdeal.lean ====
abbrev S17408x1024 : Shape := ⟨2, ![17408, 1024]⟩
abbrev S17408x16384 : Shape := ⟨2, ![17408, 16384]⟩
abbrev S2x4x1024x4096 : Shape := ⟨4, ![2, 4, 1024, 4096]⟩
abbrev S_ : Shape := ⟨0, ![]⟩
abbrev S17408x4096 : Shape := ⟨2, ![17408, 4096]⟩
abbrev S1x1x1024x4096 : Shape := ⟨4, ![1, 1, 1024, 4096]⟩
abbrev S1024x4096 : Shape := ⟨2, ![1024, 4096]⟩

abbrev nBuf : Space → Nat
  | .hbm => 50
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x1024, .bf16⟩
  | .hbm, ⟨3, _⟩ => ⟨S17408x1024, .bf16⟩
  | .hbm, ⟨4, _⟩ => ⟨S17408x16384, .bf16⟩
  | .hbm, ⟨5, _⟩ => ⟨S2x4x1024x4096, .bf16⟩
  | .hbm, ⟨6, _⟩ => ⟨S17408x16384, .f32⟩
  | .hbm, ⟨7, _⟩ => ⟨S17408x16384, .f32⟩
  | .hbm, ⟨8, _⟩ => ⟨S17408x16384, .f32⟩
  | .hbm, ⟨9, _⟩ => ⟨S_, .f32⟩
  | .hbm, ⟨10, _⟩ => ⟨S17408x16384, .f32⟩
  | .hbm, ⟨11, _⟩ => ⟨S17408x16384, .f32⟩
  | .hbm, ⟨12, _⟩ => ⟨S_, .f32⟩
  | .hbm, ⟨13, _⟩ => ⟨S17408x16384, .f32⟩
  | .hbm, ⟨14, _⟩ => ⟨S17408x16384, .f32⟩
  | .hbm, ⟨15, _⟩ => ⟨S17408x4096, .f32⟩
  | .hbm, ⟨16, _⟩ => ⟨S17408x1024, .f32⟩
  | .hbm, ⟨17, _⟩ => ⟨S1x1x1024x4096, .bf16⟩
  | .hbm, ⟨18, _⟩ => ⟨S1024x4096, .bf16⟩
  | .hbm, ⟨19, _⟩ => ⟨S1024x4096, .f32⟩
  | .hbm, ⟨20, _⟩ => ⟨S17408x4096, .f32⟩
  | .hbm, ⟨21, _⟩ => ⟨S17408x4096, .f32⟩
  | .hbm, ⟨22, _⟩ => ⟨S_, .f32⟩
  | .hbm, ⟨23, _⟩ => ⟨S17408x4096, .f32⟩
  | .hbm, ⟨24, _⟩ => ⟨S17408x4096, .f32⟩
  | .hbm, ⟨25, _⟩ => ⟨S17408x4096, .f32⟩
  | .hbm, ⟨26, _⟩ => ⟨S17408x1024, .f32⟩
  | .hbm, ⟨27, _⟩ => ⟨S1x1x1024x4096, .bf16⟩
  | .hbm, ⟨28, _⟩ => ⟨S1024x4096, .bf16⟩
  | .hbm, ⟨29, _⟩ => ⟨S1024x4096, .f32⟩
  | .hbm, ⟨30, _⟩ => ⟨S17408x4096, .f32⟩
  | .hbm, ⟨31, _⟩ => ⟨S17408x4096, .f32⟩
  | .hbm, ⟨32, _⟩ => ⟨S17408x4096, .f32⟩
  | .hbm, ⟨33, _⟩ => ⟨S17408x4096, .f32⟩
  | .hbm, ⟨34, _⟩ => ⟨S17408x1024, .f32⟩
  | .hbm, ⟨35, _⟩ => ⟨S1x1x1024x4096, .bf16⟩
  | .hbm, ⟨36, _⟩ => ⟨S1024x4096, .bf16⟩
  | .hbm, ⟨37, _⟩ => ⟨S1024x4096, .f32⟩
  | .hbm, ⟨38, _⟩ => ⟨S17408x4096, .f32⟩
  | .hbm, ⟨39, _⟩ => ⟨S17408x4096, .f32⟩
  | .hbm, ⟨40, _⟩ => ⟨S17408x4096, .f32⟩
  | .hbm, ⟨41, _⟩ => ⟨S17408x4096, .f32⟩
  | .hbm, ⟨42, _⟩ => ⟨S17408x1024, .f32⟩
  | .hbm, ⟨43, _⟩ => ⟨S1x1x1024x4096, .bf16⟩
  | .hbm, ⟨44, _⟩ => ⟨S1024x4096, .bf16⟩
  | .hbm, ⟨45, _⟩ => ⟨S1024x4096, .f32⟩
  | .hbm, ⟨46, _⟩ => ⟨S17408x4096, .f32⟩
  | .hbm, ⟨47, _⟩ => ⟨S17408x4096, .f32⟩
  | .hbm, ⟨48, _⟩ => ⟨S17408x4096, .f32⟩
  | .hbm, ⟨49, _⟩ => ⟨S17408x4096, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== FfnUp.lean ====
abbrev S17408x4096 : Shape := ⟨2, ![17408, 4096]⟩
abbrev S2x4096x21760 : Shape := ⟨3, ![2, 4096, 21760]⟩
abbrev S2x3x21760 : Shape := ⟨3, ![2, 3, 21760]⟩
abbrev S2x21760 : Shape := ⟨2, ![2, 21760]⟩
abbrev S1x4096x21760 : Shape := ⟨3, ![1, 4096, 21760]⟩
abbrev S4096x21760 : Shape := ⟨2, ![4096, 21760]⟩
abbrev S4096x10880 : Shape := ⟨2, ![4096, 10880]⟩
abbrev S4096x17x640 : Shape := ⟨3, ![4096, 17, 640]⟩
abbrev S4096x17x1x640 : Shape := ⟨4, ![4096, 17, 1, 640]⟩
abbrev S4096x17x2x640 : Shape := ⟨4, ![4096, 17, 2, 640]⟩
abbrev S1x3x21760 : Shape := ⟨3, ![1, 3, 21760]⟩
abbrev S3x21760 : Shape := ⟨2, ![3, 21760]⟩
abbrev S3x10880 : Shape := ⟨2, ![3, 10880]⟩
abbrev S3x17x640 : Shape := ⟨3, ![3, 17, 640]⟩
abbrev S3x17x1x640 : Shape := ⟨4, ![3, 17, 1, 640]⟩
abbrev S3x17x2x640 : Shape := ⟨4, ![3, 17, 2, 640]⟩
abbrev S1x21760 : Shape := ⟨2, ![1, 21760]⟩
abbrev S21760 : Shape := ⟨1, ![21760]⟩
abbrev S1x10880 : Shape := ⟨2, ![1, 10880]⟩
abbrev S1x17x640 : Shape := ⟨3, ![1, 17, 640]⟩
abbrev S1x17x1x640 : Shape := ⟨4, ![1, 17, 1, 640]⟩
abbrev S1x17x2x640 : Shape := ⟨4, ![1, 17, 2, 640]⟩
abbrev S17408x10880 : Shape := ⟨2, ![17408, 10880]⟩
abbrev S1024x4096 : Shape := ⟨2, ![1024, 4096]⟩
abbrev S16x4096 : Shape := ⟨2, ![16, 4096]⟩
abbrev S4096x1280 : Shape := ⟨2, ![4096, 1280]⟩
abbrev S3x1280 : Shape := ⟨2, ![3, 1280]⟩
abbrev S1x1280 : Shape := ⟨2, ![1, 1280]⟩
abbrev S1024x640 : Shape := ⟨2, ![1024, 640]⟩
abbrev S1056x4096 : Shape := ⟨2, ![1056, 4096]⟩
abbrev S1056x1280 : Shape := ⟨2, ![1056, 1280]⟩
abbrev S256x1 : Shape := ⟨2, ![256, 1]⟩
abbrev S272x1280 : Shape := ⟨2, ![272, 1280]⟩
abbrev S256x1280 : Shape := ⟨2, ![256, 1280]⟩
abbrev S256x640 : Shape := ⟨2, ![256, 640]⟩

abbrev nBuf : Space → Nat
  | .hbm => 37
  | .vmem => 15
  | .smem => 0
  | _ => 0

abbrev bufTy : (tb : Table) → Fin (tcTables nBuf tb) → BufTy
  | .hbm, ⟨0, _⟩ => ⟨S17408x4096, .bf16⟩
  | .hbm, ⟨1, _⟩ => ⟨S2x4096x21760, .f32⟩
  | .hbm, ⟨2, _⟩ => ⟨S2x3x21760, .f32⟩
  | .hbm, ⟨3, _⟩ => ⟨S2x21760, .f32⟩
  | .hbm, ⟨4, _⟩ => ⟨S1x4096x21760, .f32⟩
  | .hbm, ⟨5, _⟩ => ⟨S4096x21760, .f32⟩
  | .hbm, ⟨6, _⟩ => ⟨S4096x21760, .bf16⟩
  | .hbm, ⟨7, _⟩ => ⟨S4096x10880, .bf16⟩
  | .hbm, ⟨8, _⟩ => ⟨S4096x17x640, .bf16⟩
  | .hbm, ⟨9, _⟩ => ⟨S4096x10880, .bf16⟩
  | .hbm, ⟨10, _⟩ => ⟨S4096x17x640, .bf16⟩
  | .hbm, ⟨11, _⟩ => ⟨S4096x17x1x640, .bf16⟩
  | .hbm, ⟨12, _⟩ => ⟨S4096x17x1x640, .bf16⟩
  | .hbm, ⟨13, _⟩ => ⟨S4096x17x2x640, .bf16⟩
  | .hbm, ⟨14, _⟩ => ⟨S4096x21760, .bf16⟩
  | .hbm, ⟨15, _⟩ => ⟨S1x3x21760, .f32⟩
  | .hbm, ⟨16, _⟩ => ⟨S3x21760, .f32⟩
  | .hbm, ⟨17, _⟩ => ⟨S3x10880, .f32⟩
  | .hbm, ⟨18, _⟩ => ⟨S3x17x640, .f32⟩
  | .hbm, ⟨19, _⟩ => ⟨S3x10880, .f32⟩
  | .hbm, ⟨20, _⟩ => ⟨S3x17x640, .f32⟩
  | .hbm, ⟨21, _⟩ => ⟨S3x17x1x640, .f32⟩
  | .hbm, ⟨22, _⟩ => ⟨S3x17x1x640, .f32⟩
  | .hbm, ⟨23, _⟩ => ⟨S3x17x2x640, .f32⟩
  | .hbm, ⟨24, _⟩ => ⟨S3x21760, .f32⟩
  | .hbm, ⟨25, _⟩ => ⟨S1x21760, .f32⟩
  | .hbm, ⟨26, _⟩ => ⟨S21760, .f32⟩
  | .hbm, ⟨27, _⟩ => ⟨S1x21760, .f32⟩
  | .hbm, ⟨28, _⟩ => ⟨S1x10880, .f32⟩
  | .hbm, ⟨29, _⟩ => ⟨S1x17x640, .f32⟩
  | .hbm, ⟨30, _⟩ => ⟨S1x10880, .f32⟩
  | .hbm, ⟨31, _⟩ => ⟨S1x17x640, .f32⟩
  | .hbm, ⟨32, _⟩ => ⟨S1x17x1x640, .f32⟩
  | .hbm, ⟨33, _⟩ => ⟨S1x17x1x640, .f32⟩
  | .hbm, ⟨34, _⟩ => ⟨S1x17x2x640, .f32⟩
  | .hbm, ⟨35, _⟩ => ⟨S1x21760, .f32⟩
  | .hbm, ⟨36, _⟩ => ⟨S17408x10880, .bf16⟩
  | .local _ .vmem, ⟨0, _⟩ => ⟨S1024x4096, .bf16⟩
  | .local _ .vmem, ⟨1, _⟩ => ⟨S16x4096, .bf16⟩
  | .local _ .vmem, ⟨2, _⟩ => ⟨S16x4096, .bf16⟩
  | .local _ .vmem, ⟨3, _⟩ => ⟨S16x4096, .bf16⟩
  | .local _ .vmem, ⟨4, _⟩ => ⟨S16x4096, .bf16⟩
  | .local _ .vmem, ⟨5, _⟩ => ⟨S4096x1280, .bf16⟩
  | .local _ .vmem, ⟨6, _⟩ => ⟨S4096x1280, .bf16⟩
  | .local _ .vmem, ⟨7, _⟩ => ⟨S3x1280, .f32⟩
  | .local _ .vmem, ⟨8, _⟩ => ⟨S3x1280, .f32⟩
  | .local _ .vmem, ⟨9, _⟩ => ⟨S1x1280, .f32⟩
  | .local _ .vmem, ⟨10, _⟩ => ⟨S1x1280, .f32⟩
  | .local _ .vmem, ⟨11, _⟩ => ⟨S1024x640, .bf16⟩
  | .local _ .vmem, ⟨12, _⟩ => ⟨S1024x640, .bf16⟩
  | .local _ .vmem, ⟨13, _⟩ => ⟨S1056x4096, .bf16⟩
  | .local _ .vmem, ⟨14, _⟩ => ⟨S1056x1280, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefFfnUpIdeal.lean ====
abbrev S17408x4096 : Shape := ⟨2, ![17408, 4096]⟩
abbrev S2x4096x21760 : Shape := ⟨3, ![2, 4096, 21760]⟩
abbrev S2x3x21760 : Shape := ⟨3, ![2, 3, 21760]⟩
abbrev S2x21760 : Shape := ⟨2, ![2, 21760]⟩
abbrev S4x4352x4096 : Shape := ⟨3, ![4, 4352, 4096]⟩
abbrev S1x4096x21760 : Shape := ⟨3, ![1, 4096, 21760]⟩
abbrev S4096x21760 : Shape := ⟨2, ![4096, 21760]⟩
abbrev S4x4096x4096 : Shape := ⟨3, ![4, 4096, 4096]⟩
abbrev S4x4096x21760 : Shape := ⟨3, ![4, 4096, 21760]⟩
abbrev S_ : Shape := ⟨0, ![]⟩
abbrev S4x4098x21760 : Shape := ⟨3, ![4, 4098, 21760]⟩
abbrev S1x1x21760 : Shape := ⟨3, ![1, 1, 21760]⟩
abbrev S21760 : Shape := ⟨1, ![21760]⟩
abbrev S1x21760 : Shape := ⟨2, ![1, 21760]⟩
abbrev S4x4096x10880 : Shape := ⟨3, ![4, 4096, 10880]⟩
abbrev S4x256x4096 : Shape := ⟨3, ![4, 256, 4096]⟩
abbrev S4x256x21760 : Shape := ⟨3, ![4, 256, 21760]⟩
abbrev S4x258x21760 : Shape := ⟨3, ![4, 258, 21760]⟩
abbrev S4x256x10880 : Shape := ⟨3, ![4, 256, 10880]⟩
abbrev S4x4352x10880 : Shape := ⟨3, ![4, 4352, 10880]⟩
abbrev S17408x10880 : Shape := ⟨2, ![17408, 10880]⟩

abbrev nBuf : Space → Nat
  | .hbm => 97
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x21760, .f32⟩
  | .hbm, ⟨2, _⟩ => ⟨S2x3x21760, .f32⟩
  | .hbm, ⟨3, _⟩ => ⟨S2x21760, .f32⟩
  | .hbm, ⟨4, _⟩ => ⟨S4x4352x4096, .bf16⟩
  | .hbm, ⟨5, _⟩ => ⟨S4x4352x4096, .f32⟩
  | .hbm, ⟨6, _⟩ => ⟨S1x4096x21760, .f32⟩
  | .hbm, ⟨7, _⟩ => ⟨S4096x21760, .f32⟩
  | .hbm, ⟨8, _⟩ => ⟨S4096x21760, .bf16⟩
  | .hbm, ⟨9, _⟩ => ⟨S4096x21760, .f32⟩
  | .hbm, ⟨10, _⟩ => ⟨S4x4096x4096, .f32⟩
  | .hbm, ⟨11, _⟩ => ⟨S4x4096x21760, .f32⟩
  | .hbm, ⟨12, _⟩ => ⟨S_, .i32⟩
  | .hbm, ⟨13, _⟩ => ⟨S_, .f32⟩
  | .hbm, ⟨14, _⟩ => ⟨S4x4098x21760, .f32⟩
  | .hbm, ⟨15, _⟩ => ⟨S4x4096x21760, .f32⟩
  | .hbm, ⟨16, _⟩ => ⟨S1x1x21760, .f32⟩
  | .hbm, ⟨17, _⟩ => ⟨S21760, .f32⟩
  | .hbm, ⟨18, _⟩ => ⟨S1x1x21760, .f32⟩
  | .hbm, ⟨19, _⟩ => ⟨S4x4096x21760, .f32⟩
  | .hbm, ⟨20, _⟩ => ⟨S4x4096x21760, .f32⟩
  | .hbm, ⟨21, _⟩ => ⟨S4x4096x21760, .f32⟩
  | .hbm, ⟨22, _⟩ => ⟨S1x1x21760, .f32⟩
  | .hbm, ⟨23, _⟩ => ⟨S21760, .f32⟩
  | .hbm, ⟨24, _⟩ => ⟨S1x1x21760, .f32⟩
  | .hbm, ⟨25, _⟩ => ⟨S4x4096x21760, .f32⟩
  | .hbm, ⟨26, _⟩ => ⟨S4x4096x21760, .f32⟩
  | .hbm, ⟨27, _⟩ => ⟨S4x4096x21760, .f32⟩
  | .hbm, ⟨28, _⟩ => ⟨S4x4096x21760, .f32⟩
  | .hbm, ⟨29, _⟩ => ⟨S1x1x21760, .f32⟩
  | .hbm, ⟨30, _⟩ => ⟨S21760, .f32⟩
  | .hbm, ⟨31, _⟩ => ⟨S1x1x21760, .f32⟩
  | .hbm, ⟨32, _⟩ => ⟨S4x4096x21760, .f32⟩
  | .hbm, ⟨33, _⟩ => ⟨S4x4096x21760, .f32⟩
  | .hbm, ⟨34, _⟩ => ⟨S4x4096x21760, .f32⟩
  | .hbm, ⟨35, _⟩ => ⟨S1x21760, .f32⟩
  | .hbm, ⟨36, _⟩ => ⟨S21760, .f32⟩
  | .hbm, ⟨37, _⟩ => ⟨S1x1x21760, .f32⟩
  | .hbm, ⟨38, _⟩ => ⟨S4x4096x21760, .f32⟩
  | .hbm, ⟨39, _⟩ => ⟨S4x4096x21760, .f32⟩
  | .hbm, ⟨40, _⟩ => ⟨S4x4096x10880, .f32⟩
  | .hbm, ⟨41, _⟩ => ⟨S4x4096x10880, .f32⟩
  | .hbm, ⟨42, _⟩ => ⟨S4x4096x10880, .f32⟩
  | .hbm, ⟨43, _⟩ => ⟨S4x4096x10880, .f32⟩
  | .hbm, ⟨44, _⟩ => ⟨S_, .f32⟩
  | .hbm, ⟨45, _⟩ => ⟨S4x4096x10880, .f32⟩
  | .hbm, ⟨46, _⟩ => ⟨S4x4096x10880, .f32⟩
  | .hbm, ⟨47, _⟩ => ⟨S_, .f32⟩
  | .hbm, ⟨48, _⟩ => ⟨S4x4096x10880, .f32⟩
  | .hbm, ⟨49, _⟩ => ⟨S4x4096x10880, .f32⟩
  | .hbm, ⟨50, _⟩ => ⟨S4x4096x10880, .f32⟩
  | .hbm, ⟨51, _⟩ => ⟨S4x4096x10880, .f32⟩
  | .hbm, ⟨52, _⟩ => ⟨S4x256x4096, .f32⟩
  | .hbm, ⟨53, _⟩ => ⟨S4x256x21760, .f32⟩
  | .hbm, ⟨54, _⟩ => ⟨S_, .i32⟩
  | .hbm, ⟨55, _⟩ => ⟨S_, .f32⟩
  | .hbm, ⟨56, _⟩ => ⟨S4x258x21760, .f32⟩
  | .hbm, ⟨57, _⟩ => ⟨S4x256x21760, .f32⟩
  | .hbm, ⟨58, _⟩ => ⟨S1x1x21760, .f32⟩
  | .hbm, ⟨59, _⟩ => ⟨S21760, .f32⟩
  | .hbm, ⟨60, _⟩ => ⟨S1x1x21760, .f32⟩
  | .hbm, ⟨61, _⟩ => ⟨S4x256x21760, .f32⟩
  | .hbm, ⟨62, _⟩ => ⟨S4x256x21760, .f32⟩
  | .hbm, ⟨63, _⟩ => ⟨S4x256x21760, .f32⟩
  | .hbm, ⟨64, _⟩ => ⟨S1x1x21760, .f32⟩
  | .hbm, ⟨65, _⟩ => ⟨S21760, .f32⟩
  | .hbm, ⟨66, _⟩ => ⟨S1x1x21760, .f32⟩
  | .hbm, ⟨67, _⟩ => ⟨S4x256x21760, .f32⟩
  | .hbm, ⟨68, _⟩ => ⟨S4x256x21760, .f32⟩
  | .hbm, ⟨69, _⟩ => ⟨S4x256x21760, .f32⟩
  | .hbm, ⟨70, _⟩ => ⟨S4x256x21760, .f32⟩
  | .hbm, ⟨71, _⟩ => ⟨S1x1x21760, .f32⟩
  | .hbm, ⟨72, _⟩ => ⟨S21760, .f32⟩
  | .hbm, ⟨73, _⟩ => ⟨S1x1x21760, .f32⟩
  | .hbm, ⟨74, _⟩ => ⟨S4x256x21760, .f32⟩
  | .hbm, ⟨75, _⟩ => ⟨S4x256x21760, .f32⟩
  | .hbm, ⟨76, _⟩ => ⟨S4x256x21760, .f32⟩
  | .hbm, ⟨77, _⟩ => ⟨S1x21760, .f32⟩
  | .hbm, ⟨78, _⟩ => ⟨S21760, .f32⟩
  | .hbm, ⟨79, _⟩ => ⟨S1x1x21760, .f32⟩
  | .hbm, ⟨80, _⟩ => ⟨S4x256x21760, .f32⟩
  | .hbm, ⟨81, _⟩ => ⟨S4x256x21760, .f32⟩
  | .hbm, ⟨82, _⟩ => ⟨S4x256x10880, .f32⟩
  | .hbm, ⟨83, _⟩ => ⟨S4x256x10880, .f32⟩
  | .hbm, ⟨84, _⟩ => ⟨S4x256x10880, .f32⟩
  | .hbm, ⟨85, _⟩ => ⟨S4x256x10880, .f32⟩
  | .hbm, ⟨86, _⟩ => ⟨S_, .f32⟩
  | .hbm, ⟨87, _⟩ => ⟨S4x256x10880, .f32⟩
  | .hbm, ⟨88, _⟩ => ⟨S4x256x10880, .f32⟩
  | .hbm, ⟨89, _⟩ => ⟨S_, .f32⟩
  | .hbm, ⟨90, _⟩ => ⟨S4x256x10880, .f32⟩
  | .hbm, ⟨91, _⟩ => ⟨S4x256x10880, .f32⟩
  | .hbm, ⟨92, _⟩ => ⟨S4x256x10880, .f32⟩
  | .hbm, ⟨93, _⟩ => ⟨S4x256x10880, .f32⟩
  | .hbm, ⟨94, _⟩ => ⟨S4x4352x10880, .f32⟩
  | .hbm, ⟨95, _⟩ => ⟨S17408x10880, .f32⟩
  | .hbm, ⟨96, _⟩ => ⟨S17408x10880, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_1 : Ref sig .tc := ⟨.hbm, 54, rfl⟩
abbrev main_call1_v0 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_2 : Ref sig .tc := ⟨.hbm, 86, rfl⟩
abbrev main_v76 : Ref sig .tc := ⟨.hbm, 87, rfl⟩
abbrev main_v77 : Ref sig .tc := ⟨.hbm, 88, rfl⟩
abbrev main_cst_3 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩

abbrev nD : Nat := 1
abbrev τ : Topo := Topo.v7x

variable {F : FTy → Type} [FloatOps F]
-- ==== NaCtx.lean ====
abbrev S17408x3072 : Shape := ⟨2, ![17408, 3072]⟩
abbrev S4x4352x3072 : Shape := ⟨3, ![4, 4352, 3072]⟩
abbrev S1024x1024 : Shape := ⟨2, ![1024, 1024]⟩
abbrev S1x256x128 : Shape := ⟨3, ![1, 256, 128]⟩
abbrev S256x128 : Shape := ⟨2, ![256, 128]⟩
abbrev S128x256 : Shape := ⟨2, ![128, 256]⟩
abbrev S2x256x256 : Shape := ⟨3, ![2, 256, 256]⟩
abbrev S256x256 : Shape := ⟨2, ![256, 256]⟩
abbrev S1x256x256 : Shape := ⟨3, ![1, 256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩

abbrev nBuf : Space → Nat
  | .hbm => 5
  | .vmem => 11
  | .smem => 0
  | _ => 0

abbrev bufTy : (tb : Table) → Fin (tcTables nBuf tb) → BufTy
  | .hbm, ⟨0, _⟩ => ⟨S17408x3072, .bf16⟩
  | .hbm, ⟨1, _⟩ => ⟨S4x4352x3072, .bf16⟩
  | .hbm, ⟨2, _⟩ => ⟨S4x4352x3072, .bf16⟩
  | .hbm, ⟨3, _⟩ => ⟨S4x4352x3072, .bf16⟩
  | .hbm, ⟨4, _⟩ => ⟨S1024x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S256x128, .bf16⟩
  | .local _ .vmem, ⟨7, _⟩ => ⟨S256x128, .bf16⟩
  | .local _ .vmem, ⟨8, _⟩ => ⟨S128x256, .bf16⟩
  | .local _ .vmem, ⟨9, _⟩ => ⟨S2x256x256, .f32⟩
  | .local _ .vmem, ⟨10, _⟩ => ⟨S2x256x256, .bf16⟩
  | _, _ => ⟨S17408x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let v1 : BitVec 32 := Scalar.addi c0_i32 arg1
  let c0_i32_0 : BitVec 32 := 0#32
  ![arg0.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg1
  let c8_i32 : BitVec 32 := 8#32
  let v1 : BitVec 32 := Scalar.addi c8_i32 v0
  let c16_i32 : BitVec 32 := 16#32
  let c0_i32 : BitVec 32 := 0#32
  ![arg0.toNat, c16_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg1
  let c16_i32 : BitVec 32 := 16#32
  let v1 : BitVec 32 := Scalar.addi c16_i32 v0
  let c16_i32_0 : BitVec 32 := 16#32
  let c0_i32 : BitVec 32 := 0#32
  ![arg0.toNat, c16_i32_0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== NaCtxIdeal.lean ====
variable {F : FTy → Type} [FloatOps F] [Named F]
def κ : String → Option EReal := fun
  | "scale_log2e" => some (((Real.sqrt 128)⁻¹ * (Real.log 2)⁻¹ : ℝ) : EReal)
  | _ => none
-- ==== RefNaCtxIdeal.lean ====
abbrev S17408x3072 : Shape := ⟨2, ![17408, 3072]⟩
abbrev S4x4352x3072 : Shape := ⟨3, ![4, 4352, 3072]⟩
abbrev S4x256x3072 : Shape := ⟨3, ![4, 256, 3072]⟩
abbrev S4x256x1024 : Shape := ⟨3, ![4, 256, 1024]⟩
abbrev S4x256x8x128 : Shape := ⟨4, ![4, 256, 8, 128]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S17408x3072, .bf16⟩
  | .hbm, ⟨1, _⟩ => ⟨S4x4352x3072, .bf16⟩
  | .hbm, ⟨2, _⟩ => ⟨S4x256x3072, .bf16⟩
  | .hbm, ⟨3, _⟩ => ⟨S4x256x3072, .f32⟩
  | .hbm, ⟨4, _⟩ => ⟨S4x256x1024, .f32⟩
  | .hbm, ⟨5, _⟩ => ⟨S4x256x8x128, .f32⟩
  | .hbm, ⟨6, _⟩ => ⟨S4x256x1024, .f32⟩
  | .hbm, ⟨7, _⟩ => ⟨S4x256x8x128, .f32⟩
  | .hbm, ⟨8, _⟩ => ⟨S4x256x1024, .f32⟩
  | .hbm, ⟨9, _⟩ => ⟨S4x256x8x128, .f32⟩
  | .hbm, ⟨10, _⟩ => ⟨S4x8x256x256, .f32⟩
  | .hbm, ⟨11, _⟩ => ⟨S_, .f32⟩
  | .hbm, ⟨12, _⟩ => ⟨S_, .f32⟩
  | .hbm, ⟨13, _⟩ => ⟨S4x8x256x256, .f32⟩
  | .hbm, ⟨14, _⟩ => ⟨S4x8x256x256, .f32⟩
  | .hbm, ⟨15, _⟩ => ⟨S_, .f32⟩
  | .hbm, ⟨16, _⟩ => ⟨S4x8x256, .f32⟩
  | .hbm, ⟨17, _⟩ => ⟨S4x8x256x1, .f32⟩
  | .hbm, ⟨18, _⟩ => ⟨S4x8x256x256, .f32⟩
  | .hbm, ⟨19, _⟩ => ⟨S4x8x256x256, .f32⟩
  | .hbm, ⟨20, _⟩ => ⟨S4x8x256x256, .f32⟩
  | .hbm, ⟨21, _⟩ => ⟨S_, .f32⟩
  | .hbm, ⟨22, _⟩ => ⟨S4x8x256, .f32⟩
  | .hbm, ⟨23, _⟩ => ⟨S4x8x256x1, .f32⟩
  | .hbm, ⟨24, _⟩ => ⟨S_, .f32⟩
  | .hbm, ⟨25, _⟩ => ⟨S4x8x256x1, .f32⟩
  | .hbm, ⟨26, _⟩ => ⟨S4x8x256x1, .f32⟩
  | .hbm, ⟨27, _⟩ => ⟨S4x8x256x256, .f32⟩
  | .hbm, ⟨28, _⟩ => ⟨S4x8x256x256, .f32⟩
  | .hbm, ⟨29, _⟩ => ⟨S4x8x256x256, .bf16⟩
  | .hbm, ⟨30, _⟩ => ⟨S4x8x256x256, .f32⟩
  | .hbm, ⟨31, _⟩ => ⟨S4x8x128x256, .f32⟩
  | .hbm, ⟨32, _⟩ => ⟨S4x256x8x128, .f32⟩
  | .hbm, ⟨33, _⟩ => ⟨S1024x1024, .f32⟩
  | .hbm, ⟨34, _⟩ => ⟨S1024x1024, .bf16⟩
  | _, _ => ⟨S17408x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Na.lean ====
abbrev S17408x3072 : Shape := ⟨2, ![17408, 3072]⟩
abbrev S8x15x64x64 : Shape := ⟨4, ![8, 15, 64, 64]⟩
abbrev S3 : Shape := ⟨1, ![3]⟩
abbrev S3x1x1 : Shape := ⟨3, ![3, 1, 1]⟩
abbrev S8 : Shape := ⟨1, ![8]⟩
abbrev S1x8x1 : Shape := ⟨3, ![1, 8, 1]⟩
abbrev S3x8x1 : Shape := ⟨3, ![3, 8, 1]⟩
abbrev S_ : Shape := ⟨0, ![]⟩
abbrev S16 : Shape := ⟨1, ![16]⟩
abbrev S1x1x16 : Shape := ⟨3, ![1, 1, 16]⟩
abbrev S3x1x16 : Shape := ⟨3, ![3, 1, 16]⟩
abbrev S64 : Shape := ⟨1, ![64]⟩
abbrev S64x1 : Shape := ⟨2, ![64, 1]⟩
abbrev S3x8x16 : Shape := ⟨3, ![3, 8, 16]⟩
abbrev S1x3x8x1x16x1 : Shape := ⟨6, ![1, 3, 8, 1, 16, 1]⟩
abbrev S1x64 : Shape := ⟨2, ![1, 64]⟩
abbrev S64x64 : Shape := ⟨2, ![64, 64]⟩
abbrev S1x1x1x64x1x64 : Shape := ⟨6, ![1, 1, 1, 64, 1, 64]⟩
abbrev S1x3x8x64x16x64 : Shape := ⟨6, ![1, 3, 8, 64, 16, 64]⟩
abbrev S384 : Shape := ⟨1, ![384]⟩
abbrev S15x8x64x64 : Shape := ⟨4, ![15, 8, 64, 64]⟩
abbrev S15x32768 : Shape := ⟨2, ![15, 32768]⟩
abbrev S384x1 : Shape := ⟨2, ![384, 1]⟩
abbrev S384x32768 : Shape := ⟨2, ![384, 32768]⟩
abbrev S3x8x16x8x64x64 : Shape := ⟨6, ![3, 8, 16, 8, 64, 64]⟩
abbrev S8x3x8x64x16x64 : Shape := ⟨6, ![8, 3, 8, 64, 16, 64]⟩
abbrev S8x3x512x1024 : Shape := ⟨4, ![8, 3, 512, 1024]⟩
abbrev S4x4352x3072 : Shape := ⟨3, ![4, 4352, 3072]⟩
abbrev S16384x1024 : Shape := ⟨2, ![16384, 1024]⟩
abbrev S1x512x128 : Shape := ⟨3, ![1, 512, 128]⟩
abbrev S1x4352x128 : Shape := ⟨3, ![1, 4352, 128]⟩
abbrev S1x1x512x1024 : Shape := ⟨4, ![1, 1, 512, 1024]⟩
abbrev S512x128 : Shape := ⟨2, ![512, 128]⟩
abbrev S1x1024x128 : Shape := ⟨3, ![1, 1024, 128]⟩
abbrev S1024x128 : Shape := ⟨2, ![1024, 128]⟩
abbrev S512x1024 : Shape := ⟨2, ![512, 1024]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 107
  | .vmem => 10
  | .smem => 0
  | _ => 0

abbrev bufTy : (tb : Table) → Fin (tcTables nBuf tb) → BufTy
  | .hbm, ⟨0, _⟩ => ⟨S17408x3072, .bf16⟩
  | .hbm, ⟨1, _⟩ => ⟨S8x15x64x64, .f32⟩
  | .hbm, ⟨2, _⟩ => ⟨S3, .i32⟩
  | .hbm, ⟨3, _⟩ => ⟨S3x1x1, .i32⟩
  | .hbm, ⟨4, _⟩ => ⟨S8, .i32⟩
  | .hbm, ⟨5, _⟩ => ⟨S1x8x1, .i32⟩
  | .hbm, ⟨6, _⟩ => ⟨S3x8x1, .i32⟩
  | .hbm, ⟨7, _⟩ => ⟨S3x8x1, .i32⟩
  | .hbm, ⟨8, _⟩ => ⟨S3x8x1, .i32⟩
  | .hbm, ⟨9, _⟩ => ⟨S_, .i32⟩
  | .hbm, ⟨10, _⟩ => ⟨S3x1x1, .i32⟩
  | .hbm, ⟨11, _⟩ => ⟨S3x1x1, .i32⟩
  | .hbm, ⟨12, _⟩ => ⟨S_, .i32⟩
  | .hbm, ⟨13, _⟩ => ⟨S3x1x1, .i32⟩
  | .hbm, ⟨14, _⟩ => ⟨S3x1x1, .i32⟩
  | .hbm, ⟨15, _⟩ => ⟨S_, .i32⟩
  | .hbm, ⟨16, _⟩ => ⟨S3x1x1, .i32⟩
  | .hbm, ⟨17, _⟩ => ⟨S3x1x1, .i32⟩
  | .hbm, ⟨18, _⟩ => ⟨S16, .i32⟩
  | .hbm, ⟨19, _⟩ => ⟨S1x1x16, .i32⟩
  | .hbm, ⟨20, _⟩ => ⟨S3x1x16, .i32⟩
  | .hbm, ⟨21, _⟩ => ⟨S3x1x16, .i32⟩
  | .hbm, ⟨22, _⟩ => ⟨S3x1x16, .i32⟩
  | .hbm, ⟨23, _⟩ => ⟨S_, .i32⟩
  | .hbm, ⟨24, _⟩ => ⟨S3x8x1, .i32⟩
  | .hbm, ⟨25, _⟩ => ⟨S3x8x1, .i32⟩
  | .hbm, ⟨26, _⟩ => ⟨S_, .i32⟩
  | .hbm, ⟨27, _⟩ => ⟨S3x8x1, .i32⟩
  | .hbm, ⟨28, _⟩ => ⟨S3x8x1, .i32⟩
  | .hbm, ⟨29, _⟩ => ⟨S_, .i32⟩
  | .hbm, ⟨30, _⟩ => ⟨S3x8x1, .i32⟩
  | .hbm, ⟨31, _⟩ => ⟨S3x8x1, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64x1, .i32⟩
  | .hbm, ⟨43, _⟩ => ⟨S3x8x16, .i32⟩
  | .hbm, ⟨44, _⟩ => ⟨S3x8x16, .i32⟩
  | .hbm, ⟨45, _⟩ => ⟨S3x8x16, .i1⟩
  | .hbm, ⟨46, _⟩ => ⟨S_, .i32⟩
  | .hbm, ⟨47, _⟩ => ⟨S3x8x1, .i32⟩
  | .hbm, ⟨48, _⟩ => ⟨S3x8x1, .i32⟩
  | .hbm, ⟨49, _⟩ => ⟨S3x8x16, .i32⟩
  | .hbm, ⟨50, _⟩ => ⟨S3x8x16, .i32⟩
  | .hbm, ⟨51, _⟩ => ⟨S3x8x16, .i1⟩
  | .hbm, ⟨52, _⟩ => ⟨S3x8x16, .i1⟩
  | .hbm, ⟨53, _⟩ => ⟨S1x3x8x1x16x1, .i1⟩
  | .hbm, ⟨54, _⟩ => ⟨S1x64, .i32⟩
  | .hbm, ⟨55, _⟩ => ⟨S64x64, .i32⟩
  | .hbm, ⟨56, _⟩ => ⟨S64x64, .i32⟩
  | .hbm, ⟨57, _⟩ => ⟨S64x64, .i1⟩
  | .hbm, ⟨58, _⟩ => ⟨S_, .i32⟩
  | .hbm, ⟨59, _⟩ => ⟨S64x1, .i32⟩
  | .hbm, ⟨60, _⟩ => ⟨S64x1, .i32⟩
  | .hbm, ⟨61, _⟩ => ⟨S1x64, .i32⟩
  | .hbm, ⟨62, _⟩ => ⟨S64x64, .i32⟩
  | .hbm, ⟨63, _⟩ => ⟨S64x64, .i32⟩
  | .hbm, ⟨64, _⟩ => ⟨S64x64, .i1⟩
  | .hbm, ⟨65, _⟩ => ⟨S64x64, .i1⟩
  | .hbm, ⟨66, _⟩ => ⟨S1x1x1x64x1x64, .i1⟩
  | .hbm, ⟨67, _⟩ => ⟨S1x3x8x64x16x64, .i1⟩
  | .hbm, ⟨68, _⟩ => ⟨S1x3x8x64x16x64, .i1⟩
  | .hbm, ⟨69, _⟩ => ⟨S1x3x8x64x16x64, .i1⟩
  | .hbm, ⟨70, _⟩ => ⟨S3x8x16, .i32⟩
  | .hbm, ⟨71, _⟩ => ⟨S3x8x16, .i32⟩
  | .hbm, ⟨72, _⟩ => ⟨S3x8x16, .i32⟩
  | .hbm, ⟨73, _⟩ => ⟨S_, .i32⟩
  | .hbm, ⟨74, _⟩ => ⟨S3x8x16, .i32⟩
  | .hbm, ⟨75, _⟩ => ⟨S3x8x16, .i32⟩
  | .hbm, ⟨76, _⟩ => ⟨S_, .i32⟩
  | .hbm, ⟨77, _⟩ => ⟨S3x8x16, .i32⟩
  | .hbm, ⟨78, _⟩ => ⟨S3x8x16, .i32⟩
  | .hbm, ⟨79, _⟩ => ⟨S_, .i32⟩
  | .hbm, ⟨80, _⟩ => ⟨S3x8x16, .i32⟩
  | .hbm, ⟨81, _⟩ => ⟨S3x8x16, .i32⟩
  | .hbm, ⟨82, _⟩ => ⟨S384, .i32⟩
  | .hbm, ⟨83, _⟩ => ⟨S15x8x64x64, .f32⟩
  | .hbm, ⟨84, _⟩ => ⟨S15x32768, .f32⟩
  | .hbm, ⟨85, _⟩ => ⟨S_, .i32⟩
  | .hbm, ⟨86, _⟩ => ⟨S384, .i32⟩
  | .hbm, ⟨87, _⟩ => ⟨S384, .i1⟩
  | .hbm, ⟨88, _⟩ => ⟨S_, .i32⟩
  | .hbm, ⟨89, _⟩ => ⟨S384, .i32⟩
  | .hbm, ⟨90, _⟩ => ⟨S384, .i32⟩
  | .hbm, ⟨91, _⟩ => ⟨S384, .i32⟩
  | .hbm, ⟨92, _⟩ => ⟨S384x1, .i32⟩
  | .hbm, ⟨93, _⟩ => ⟨S384x32768, .f32⟩
  | .hbm, ⟨94, _⟩ => ⟨S3x8x16x8x64x64, .f32⟩
  | .hbm, ⟨95, _⟩ => ⟨S8x3x8x64x16x64, .f32⟩
  | .hbm, ⟨96, _⟩ => ⟨S_, .f32⟩
  | .hbm, ⟨97, _⟩ => ⟨S_, .f32⟩
  | .hbm, ⟨98, _⟩ => ⟨S8x3x8x64x16x64, .f32⟩
  | .hbm, ⟨99, _⟩ => ⟨S8x3x8x64x16x64, .f32⟩
  | .hbm, ⟨100, _⟩ => ⟨S8x3x8x64x16x64, .i1⟩
  | .hbm, ⟨101, _⟩ => ⟨S_, .f32⟩
  | .hbm, ⟨102, _⟩ => ⟨S8x3x8x64x16x64, .f32⟩
  | .hbm, ⟨103, _⟩ => ⟨S8x3x8x64x16x64, .f32⟩
  | .hbm, ⟨104, _⟩ => ⟨S8x3x512x1024, .f32⟩
  | .hbm, ⟨105, _⟩ => ⟨S4x4352x3072, .bf16⟩
  | .hbm, ⟨106, _⟩ => ⟨S16384x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x1x512x1024, .f32⟩
  | .local _ .vmem, ⟨7, _⟩ => ⟨S1x1x512x1024, .f32⟩
  | .local _ .vmem, ⟨8, _⟩ => ⟨S512x128, .bf16⟩
  | .local _ .vmem, ⟨9, _⟩ => ⟨S512x128, .bf16⟩
  | _, _ => ⟨S17408x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_11 : Ref sig .tc := ⟨.hbm, 73, rfl⟩
abbrev main_v59 : Ref sig .tc := ⟨.hbm, 74, rfl⟩
abbrev main_v60 : Ref sig .tc := ⟨.hbm, 75, rfl⟩
abbrev main_c_12 : Ref sig .tc := ⟨.hbm, 76, rfl⟩
abbrev main_v61 : Ref sig .tc := ⟨.hbm, 77, rfl⟩
abbrev main_v62 : Ref sig .tc := ⟨.hbm, 78, rfl⟩
abbrev main_c_13 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_14 : Ref sig .tc := ⟨.hbm, 85, rfl⟩
abbrev main_v68 : Ref sig .tc := ⟨.hbm, 86, rfl⟩
abbrev main_v69 : Ref sig .tc := ⟨.hbm, 87, rfl⟩
abbrev main_c_15 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_16 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let c48_i32 : BitVec 32 := 48#32
  let c0_i32 : BitVec 32 := 0#32
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let v2 : BitVec 32 := Scalar.maxsi c0_i32 v1
  let v3 : BitVec 32 := Scalar.minsi c48_i32 v2
  let c64_i32 : BitVec 32 := 64#32
  let v4 : BitVec 32 := Scalar.muli v3 c64_i32
  v4
def k0_off1 (i : grid0.Coords) : Fin 3 → Nat :=
  let c0_2 : Index := 0#32
  let c48_i32 : BitVec 32 := 48#32
  let c0_i32 : BitVec 32 := 0#32
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let v2 : BitVec 32 := Scalar.maxsi c0_i32 v1
  let v3 : BitVec 32 := Scalar.minsi c48_i32 v2
  let c64_i32 : BitVec 32 := 64#32
  let v4 : BitVec 32 := Scalar.muli v3 c64_i32
  let v5 : BitVec 32 := v4
  let v12 : Index := Scalar.indexCast v5
  let c0_3 : Index := 0#32
  ![0, v12.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![arg1.toNat, v3.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== NaIdeal.lean ====
variable {F : FTy → Type} [FloatOps F] [Named F]
def κ : String → Option EReal := fun
  | "scale_log2e" => some (((Real.sqrt 128)⁻¹ * (Real.log 2)⁻¹ : ℝ) : EReal)
  | _ => none
-- ==== RefNaIdeal.lean ====
abbrev S17408x3072 : Shape := ⟨2, ![17408, 3072]⟩
abbrev S8x15x64x64 : Shape := ⟨4, ![8, 15, 64, 64]⟩
abbrev S4x4352x3072 : Shape := ⟨3, ![4, 4352, 3072]⟩
abbrev S4x4352x1024 : Shape := ⟨3, ![4, 4352, 1024]⟩
abbrev S4x4352x8x128 : Shape := ⟨4, ![4, 4352, 8, 128]⟩
abbrev S4x4096x8x128 : Shape := ⟨4, ![4, 4096, 8, 128]⟩
abbrev S4x8x4096x4352 : Shape := ⟨4, ![4, 8, 4096, 4352]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S4096 : Shape := ⟨1, ![4096]⟩
abbrev S15x8x64x64 : Shape := ⟨4, ![15, 8, 64, 64]⟩
abbrev S15x32768 : Shape := ⟨2, ![15, 32768]⟩
abbrev S4096x1 : Shape := ⟨2, ![4096, 1]⟩
abbrev S4096x32768 : Shape := ⟨2, ![4096, 32768]⟩
abbrev S64x64x8x64x64 : Shape := ⟨5, ![64, 64, 8, 64, 64]⟩
abbrev S8x64x64x64x64 : Shape := ⟨5, ![8, 64, 64, 64, 64]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x4096x256 : Shape := ⟨4, ![4, 8, 4096, 256]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 133
  | .vmem => 0
  | .smem => 0
  | _ => 0

abbrev hbmTy0_0 (i : Nat) : BufTy := match i % 128 with
  | 0 => ⟨S17408x3072, .bf16⟩
  | 1 => ⟨S8x15x64x64, .f32⟩
  | 2 => ⟨S4x4352x3072, .bf16⟩
  | 3 => ⟨S4x4352x3072, .f32⟩
  | 4 => ⟨S4x4352x1024, .f32⟩
  | 5 => ⟨S4x4352x8x128, .f32⟩
  | 6 => ⟨S4x4352x1024, .f32⟩
  | 7 => ⟨S4x4352x8x128, .f32⟩
  | 8 => ⟨S4x4352x1024, .f32⟩
  | 9 => ⟨S4x4352x8x128, .f32⟩
  | 10 => ⟨S4x4096x8x128, .f32⟩
  | 11 => ⟨S4x8x4096x4352, .f32⟩
  | 12 => ⟨S_, .f32⟩
  | 13 => ⟨S_, .f32⟩
  | 14 => ⟨S4x8x4096x4352, .f32⟩
  | 15 => ⟨S4x8x4096x4352, .f32⟩
  | 16 => ⟨S64, .i32⟩
  | 17 => ⟨S_, .i32⟩
  | 18 => ⟨S64, .i32⟩
  | 19 => ⟨S64, .i32⟩
  | 20 => ⟨S_, .i32⟩
  | 21 => ⟨S_, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S_, .i32⟩
  | 30 => ⟨S64, .i32⟩
  | 31 => ⟨S64, .i32⟩
  | 32 => ⟨S_, .i32⟩
  | 33 => ⟨S_, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S64x1, .i32⟩
  | 41 => ⟨S1x64, .i32⟩
  | 42 => ⟨S64x64, .i32⟩
  | 43 => ⟨S64x64, .i32⟩
  | 44 => ⟨S64x64, .i1⟩
  | 45 => ⟨S_, .i32⟩
  | 46 => ⟨S64x1, .i32⟩
  | 47 => ⟨S64x1, .i32⟩
  | 48 => ⟨S1x64, .i32⟩
  | 49 => ⟨S64x64, .i32⟩
  | 50 => ⟨S64x64, .i32⟩
  | 51 => ⟨S64x64, .i1⟩
  | 52 => ⟨S64x64, .i1⟩
  | 53 => ⟨S1x64, .i32⟩
  | 54 => ⟨S64x64, .i32⟩
  | 55 => ⟨S64x64, .i32⟩
  | 56 => ⟨S64x64, .i1⟩
  | 57 => ⟨S_, .i32⟩
  | 58 => ⟨S64x1, .i32⟩
  | 59 => ⟨S64x1, .i32⟩
  | 60 => ⟨S1x64, .i32⟩
  | 61 => ⟨S64x64, .i32⟩
  | 62 => ⟨S64x64, .i32⟩
  | 63 => ⟨S64x64, .i1⟩
  | 64 => ⟨S64x64, .i1⟩
  | 65 => ⟨S64x1x64x1, .i1⟩
  | 66 => ⟨S1x64x1x64, .i1⟩
  | 67 => ⟨S64x64x64x64, .i1⟩
  | 68 => ⟨S64x64x64x64, .i1⟩
  | 69 => ⟨S64x64x64x64, .i1⟩
  | 70 => ⟨S4096x4096, .i1⟩
  | 71 => ⟨S64x1, .i32⟩
  | 72 => ⟨S1x64, .i32⟩
  | 73 => ⟨S64x64, .i32⟩
  | 74 => ⟨S64x64, .i32⟩
  | 75 => ⟨S64x64, .i32⟩
  | 76 => ⟨S_, .i32⟩
  | 77 => ⟨S64x64, .i32⟩
  | 78 => ⟨S64x64, .i32⟩
  | 79 => ⟨S_, .i32⟩
  | 80 => ⟨S_, .i32⟩
  | 81 => ⟨S_, .i32⟩
  | 82 => ⟨S64x64, .i32⟩
  | 83 => ⟨S64x64, .i32⟩
  | 84 => ⟨S_, .i32⟩
  | 85 => ⟨S64x64, .i32⟩
  | 86 => ⟨S64x64, .i32⟩
  | 87 => ⟨S4096, .i32⟩
  | 88 => ⟨S15x8x64x64, .f32⟩
  | 89 => ⟨S15x32768, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096x32768, .f32⟩
  | 99 => ⟨S64x64x8x64x64, .f32⟩
  | 100 => ⟨S8x64x64x64x64, .f32⟩
  | 101 => ⟨S8x4096x4096, .f32⟩
  | 102 => ⟨S4x8x4096x4096, .f32⟩
  | 103 => ⟨S1x8x4096x4096, .f32⟩
  | 104 => ⟨S4x8x4096x4096, .f32⟩
  | 105 => ⟨S4x8x4096x4096, .f32⟩
  | 106 => ⟨S_, .f32⟩
  | 107 => ⟨S_, .f32⟩
  | 108 => ⟨S4x8x4096x4096, .i1⟩
  | 109 => ⟨S4x8x4096x4096, .f32⟩
  | 110 => ⟨S4x8x4096x4096, .f32⟩
  | 111 => ⟨S4x8x4096x256, .f32⟩
  | 112 => ⟨S4x8x4096x4352, .f32⟩
  | 113 => ⟨S_, .f32⟩
  | 114 => ⟨S4x8x4096, .f32⟩
  | 115 => ⟨S4x8x4096x1, .f32⟩
  | 116 => ⟨S4x8x4096x4352, .f32⟩
  | 117 => ⟨S4x8x4096x4352, .f32⟩
  | 118 => ⟨S4x8x4096x4352, .f32⟩
  | 119 => ⟨S_, .f32⟩
  | 120 => ⟨S4x8x4096, .f32⟩
  | 121 => ⟨S4x8x4096x1, .f32⟩
  | 122 => ⟨S_, .f32⟩
  | 123 => ⟨S4x8x4096x1, .f32⟩
  | 124 => ⟨S4x8x4096x1, .f32⟩
  | 125 => ⟨S4x8x4096x4352, .f32⟩
  | 126 => ⟨S4x8x4096x4352, .f32⟩
  | 127 => ⟨S4x8x4096x4352, .bf16⟩
  | _ => ⟨S17408x3072, .bf16⟩

abbrev hbmTy0_1 (i : Nat) : BufTy := match i % 128 with
  | 0 => ⟨S4x8x4096x4352, .f32⟩
  | 1 => ⟨S4x8x128x4096, .f32⟩
  | 2 => ⟨S4x4096x8x128, .f32⟩
  | 3 => ⟨S16384x1024, .f32⟩
  | 4 => ⟨S16384x1024, .bf16⟩
  | _ => ⟨S17408x3072, .bf16⟩

abbrev hbmTy (i : Nat) : BufTy := match i / 128 with
  | 0 => hbmTy0_0 i
  | 1 => hbmTy0_1 i
  | _ => ⟨S17408x3072, .bf16⟩

abbrev bufTy : (tb : Table) → Fin (tcTables nBuf tb) → BufTy
  | .hbm, ⟨i, _⟩ => hbmTy i
  | _, _ => ⟨S17408x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_7 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_c_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== QUp.lean ====
abbrev S17408x768 : Shape := ⟨2, ![17408, 768]⟩
abbrev S768x2048 : Shape := ⟨2, ![768, 2048]⟩
abbrev S17408x2048 : Shape := ⟨2, ![17408, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x768, .bf16⟩
  | .hbm, ⟨1, _⟩ => ⟨S768x2048, .bf16⟩
  | .hbm, ⟨2, _⟩ => ⟨S17408x2048, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefQUpIdeal.lean ====
abbrev S17408x768 : Shape := ⟨2, ![17408, 768]⟩
abbrev S768x2048 : Shape := ⟨2, ![768, 2048]⟩
abbrev S17408x2048 : Shape := ⟨2, ![17408, 2048]⟩

abbrev nBuf : Space → Nat
  | .hbm => 6
  | .vmem => 0
  | .smem => 0
  | _ => 0

abbrev bufTy : (tb : Table) → Fin (tcTables nBuf tb) → BufTy
  | .hbm, ⟨0, _⟩ => ⟨S17408x768, .bf16⟩
  | .hbm, ⟨1, _⟩ => ⟨S768x2048, .bf16⟩
  | .hbm, ⟨2, _⟩ => ⟨S17408x768, .f32⟩
  | .hbm, ⟨3, _⟩ => ⟨S768x2048, .f32⟩
  | .hbm, ⟨4, _⟩ => ⟨S17408x2048, .f32⟩
  | .hbm, ⟨5, _⟩ => ⟨S17408x2048, .bf16⟩
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvUp.lean ====
abbrev S17408x512 : Shape := ⟨2, ![17408, 512]⟩
abbrev S512x2048 : Shape := ⟨2, ![512, 2048]⟩
abbrev S17408x2048 : Shape := ⟨2, ![17408, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x512, .bf16⟩
  | .hbm, ⟨1, _⟩ => ⟨S512x2048, .bf16⟩
  | .hbm, ⟨2, _⟩ => ⟨S17408x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefKvUpIdeal.lean ====
abbrev S17408x512 : Shape := ⟨2, ![17408, 512]⟩
abbrev S512x2048 : Shape := ⟨2, ![512, 2048]⟩
abbrev S17408x2048 : Shape := ⟨2, ![17408, 2048]⟩

abbrev nBuf : Space → Nat
  | .hbm => 6
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S512x2048, .bf16⟩
  | .hbm, ⟨2, _⟩ => ⟨S17408x512, .f32⟩
  | .hbm, ⟨3, _⟩ => ⟨S512x2048, .f32⟩
  | .hbm, ⟨4, _⟩ => ⟨S17408x2048, .f32⟩
  | .hbm, ⟨5, _⟩ => ⟨S17408x2048, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateLat.lean ====
abbrev S4x4352x4096 : Shape := ⟨3, ![4, 4352, 4096]⟩
abbrev S4096x16384 : Shape := ⟨2, ![4096, 16384]⟩
abbrev S16384x16384 : Shape := ⟨2, ![16384, 16384]⟩
abbrev S1x1024x4096 : Shape := ⟨3, ![1, 1024, 4096]⟩
abbrev S4096x1024 : Shape := ⟨2, ![4096, 1024]⟩
abbrev S1024x1024 : Shape := ⟨2, ![1024, 1024]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4x4352x4096, .bf16⟩
  | .hbm, ⟨1, _⟩ => ⟨S4096x16384, .bf16⟩
  | .hbm, ⟨2, _⟩ => ⟨S16384x16384, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== RefGateLatIdeal.lean ====
abbrev S4x4352x4096 : Shape := ⟨3, ![4, 4352, 4096]⟩
abbrev S4096x16384 : Shape := ⟨2, ![4096, 16384]⟩
abbrev S4x4096x4096 : Shape := ⟨3, ![4, 4096, 4096]⟩
abbrev S4x4096x16384 : Shape := ⟨3, ![4, 4096, 16384]⟩
abbrev S16384x16384 : Shape := ⟨2, ![16384, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S4096x16384, .bf16⟩
  | .hbm, ⟨2, _⟩ => ⟨S4x4096x4096, .bf16⟩
  | .hbm, ⟨3, _⟩ => ⟨S4x4096x4096, .f32⟩
  | .hbm, ⟨4, _⟩ => ⟨S4096x16384, .f32⟩
  | .hbm, ⟨5, _⟩ => ⟨S4x4096x16384, .f32⟩
  | .hbm, ⟨6, _⟩ => ⟨S16384x16384, .f32⟩
  | .hbm, ⟨7, _⟩ => ⟨S16384x16384, .bf16⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NormMod.lean ====
abbrev S4x4352x4096 : Shape := ⟨3, ![4, 4352, 4096]⟩
abbrev S4096 : Shape := ⟨1, ![4096]⟩
abbrev S8x1x4096 : Shape := ⟨3, ![8, 1, 4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4352x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S4x4352x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefNormModIdeal.lean ====
abbrev S4x4352x4096 : Shape := ⟨3, ![4, 4352, 4096]⟩
abbrev S4096 : Shape := ⟨1, ![4096]⟩
abbrev S8x1x4096 : Shape := ⟨3, ![8, 1, 4096]⟩
abbrev S_ : Shape := ⟨0, ![]⟩
abbrev S4x4352 : Shape := ⟨2, ![4, 4352]⟩
abbrev S4x4352x1 : Shape := ⟨3, ![4, 4352, 1]⟩
abbrev S1x1x4096 : Shape := ⟨3, ![1, 1, 4096]⟩
abbrev S4x2x4096 : Shape := ⟨3, ![4, 2, 4096]⟩
abbrev S4x1x4096 : Shape := ⟨3, ![4, 1, 4096]⟩
abbrev S4x4096x4096 : Shape := ⟨3, ![4, 4096, 4096]⟩
abbrev S4x256x4096 : Shape := ⟨3, ![4, 256, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4x4352x4096, .f32⟩
  | .hbm, ⟨5, _⟩ => ⟨S_, .f32⟩
  | .hbm, ⟨6, _⟩ => ⟨S4x4352, .f32⟩
  | .hbm, ⟨7, _⟩ => ⟨S4x4352x1, .f32⟩
  | .hbm, ⟨8, _⟩ => ⟨S_, .f32⟩
  | .hbm, ⟨9, _⟩ => ⟨S4x4352x1, .f32⟩
  | .hbm, ⟨10, _⟩ => ⟨S4x4352x1, .f32⟩
  | .hbm, ⟨11, _⟩ => ⟨S_, .f32⟩
  | .hbm, ⟨12, _⟩ => ⟨S4x4352x1, .f32⟩
  | .hbm, ⟨13, _⟩ => ⟨S4x4352x1, .f32⟩
  | .hbm, ⟨14, _⟩ => ⟨S4x4352x1, .f32⟩
  | .hbm, ⟨15, _⟩ => ⟨S4x4352x4096, .f32⟩
  | .hbm, ⟨16, _⟩ => ⟨S4x4352x4096, .f32⟩
  | .hbm, ⟨17, _⟩ => ⟨S1x1x4096, .f32⟩
  | .hbm, ⟨18, _⟩ => ⟨S4x4352x4096, .f32⟩
  | .hbm, ⟨19, _⟩ => ⟨S4x4352x4096, .f32⟩
  | .hbm, ⟨20, _⟩ => ⟨S4x2x4096, .f32⟩
  | .hbm, ⟨21, _⟩ => ⟨S4x1x4096, .f32⟩
  | .hbm, ⟨22, _⟩ => ⟨S4x4096x4096, .f32⟩
  | .hbm, ⟨23, _⟩ => ⟨S4x1x4096, .f32⟩
  | .hbm, ⟨24, _⟩ => ⟨S4x256x4096, .f32⟩
  | .hbm, ⟨25, _⟩ => ⟨S4x4352x4096, .f32⟩
  | .hbm, ⟨26, _⟩ => ⟨S_, .f32⟩
  | .hbm, ⟨27, _⟩ => ⟨S4x4352x4096, .f32⟩
  | .hbm, ⟨28, _⟩ => ⟨S4x4352x4096, .f32⟩
  | .hbm, ⟨29, _⟩ => ⟨S4x4352x4096, .f32⟩
  | .hbm, ⟨30, _⟩ => ⟨S4x2x4096, .f32⟩
  | .hbm, ⟨31, _⟩ => ⟨S4x1x4096, .f32⟩
  | .hbm, ⟨32, _⟩ => ⟨S4x4096x4096, .f32⟩
  | .hbm, ⟨33, _⟩ => ⟨S4x1x4096, .f32⟩
  | .hbm, ⟨34, _⟩ => ⟨S4x256x4096, .f32⟩
  | .hbm, ⟨35, _⟩ => ⟨S4x4352x4096, .f32⟩
  | .hbm, ⟨36, _⟩ => ⟨S4x4352x4096, .f32⟩
  | .hbm, ⟨37, _⟩ => ⟨S4x4352x4096, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== ResidNorm.lean ====
abbrev S4x4352x4096 : Shape := ⟨3, ![4, 4352, 4096]⟩
abbrev S8x1x4096 : Shape := ⟨3, ![8, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .bf16⟩
  | .hbm, ⟨2, _⟩ => ⟨S8x1x4096, .f32⟩
  | .hbm, ⟨3, _⟩ => ⟨S4096, .f32⟩
  | .hbm, ⟨4, _⟩ => ⟨S4096, .f32⟩
  | .hbm, ⟨5, _⟩ => ⟨S8x1x4096, .f32⟩
  | .hbm, ⟨6, _⟩ => ⟨S8x1x4096, .f32⟩
  | .hbm, ⟨7, _⟩ => ⟨S1x4096, .f32⟩
  | .hbm, ⟨8, _⟩ => ⟨S1x4096, .f32⟩
  | .hbm, ⟨9, _⟩ => ⟨S4x4352x4096, .f32⟩
  | .hbm, ⟨10, _⟩ => ⟨S4x4352x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefResidNormIdeal.lean ====
abbrev S4x4352x4096 : Shape := ⟨3, ![4, 4352, 4096]⟩
abbrev S8x1x4096 : Shape := ⟨3, ![8, 1, 4096]⟩
abbrev S4096 : Shape := ⟨1, ![4096]⟩
abbrev S4x2x4096 : Shape := ⟨3, ![4, 2, 4096]⟩
abbrev S4x1x4096 : Shape := ⟨3, ![4, 1, 4096]⟩
abbrev S4x4096x4096 : Shape := ⟨3, ![4, 4096, 4096]⟩
abbrev S4x256x4096 : Shape := ⟨3, ![4, 256, 4096]⟩
abbrev S_ : Shape := ⟨0, ![]⟩
abbrev S4x4352 : Shape := ⟨2, ![4, 4352]⟩
abbrev S4x4352x1 : Shape := ⟨3, ![4, 4352, 1]⟩
abbrev S1x1x4096 : Shape := ⟨3, ![1, 1, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .bf16⟩
  | .hbm, ⟨2, _⟩ => ⟨S8x1x4096, .f32⟩
  | .hbm, ⟨3, _⟩ => ⟨S4096, .f32⟩
  | .hbm, ⟨4, _⟩ => ⟨S4096, .f32⟩
  | .hbm, ⟨5, _⟩ => ⟨S8x1x4096, .f32⟩
  | .hbm, ⟨6, _⟩ => ⟨S8x1x4096, .f32⟩
  | .hbm, ⟨7, _⟩ => ⟨S4x2x4096, .f32⟩
  | .hbm, ⟨8, _⟩ => ⟨S4x1x4096, .f32⟩
  | .hbm, ⟨9, _⟩ => ⟨S4x4096x4096, .f32⟩
  | .hbm, ⟨10, _⟩ => ⟨S4x1x4096, .f32⟩
  | .hbm, ⟨11, _⟩ => ⟨S4x256x4096, .f32⟩
  | .hbm, ⟨12, _⟩ => ⟨S4x4352x4096, .f32⟩
  | .hbm, ⟨13, _⟩ => ⟨S4x4352x4096, .f32⟩
  | .hbm, ⟨14, _⟩ => ⟨S4x4352x4096, .f32⟩
  | .hbm, ⟨15, _⟩ => ⟨S_, .f32⟩
  | .hbm, ⟨16, _⟩ => ⟨S4x4352, .f32⟩
  | .hbm, ⟨17, _⟩ => ⟨S4x4352x1, .f32⟩
  | .hbm, ⟨18, _⟩ => ⟨S_, .f32⟩
  | .hbm, ⟨19, _⟩ => ⟨S4x4352x1, .f32⟩
  | .hbm, ⟨20, _⟩ => ⟨S4x4352x1, .f32⟩
  | .hbm, ⟨21, _⟩ => ⟨S_, .f32⟩
  | .hbm, ⟨22, _⟩ => ⟨S4x4352x1, .f32⟩
  | .hbm, ⟨23, _⟩ => ⟨S4x4352x1, .f32⟩
  | .hbm, ⟨24, _⟩ => ⟨S4x4352x1, .f32⟩
  | .hbm, ⟨25, _⟩ => ⟨S4x4352x4096, .f32⟩
  | .hbm, ⟨26, _⟩ => ⟨S4x4352x4096, .f32⟩
  | .hbm, ⟨27, _⟩ => ⟨S1x1x4096, .f32⟩
  | .hbm, ⟨28, _⟩ => ⟨S4x4352x4096, .f32⟩
  | .hbm, ⟨29, _⟩ => ⟨S4x4352x4096, .f32⟩
  | .hbm, ⟨30, _⟩ => ⟨S4x4352x4096, .f32⟩
  | .hbm, ⟨31, _⟩ => ⟨S4x4352x4096, .f32⟩
  | .hbm, ⟨32, _⟩ => ⟨S4x4352x4096, .f32⟩
  | .hbm, ⟨33, _⟩ => ⟨S_, .f32⟩
  | .hbm, ⟨34, _⟩ => ⟨S4x4352, .f32⟩
  | .hbm, ⟨35, _⟩ => ⟨S4x4352x1, .f32⟩
  | .hbm, ⟨36, _⟩ => ⟨S_, .f32⟩
  | .hbm, ⟨37, _⟩ => ⟨S4x4352x1, .f32⟩
  | .hbm, ⟨38, _⟩ => ⟨S4x4352x1, .f32⟩
  | .hbm, ⟨39, _⟩ => ⟨S_, .f32⟩
  | .hbm, ⟨40, _⟩ => ⟨S4x4352x1, .f32⟩
  | .hbm, ⟨41, _⟩ => ⟨S4x4352x1, .f32⟩
  | .hbm, ⟨42, _⟩ => ⟨S4x4352x1, .f32⟩
  | .hbm, ⟨43, _⟩ => ⟨S4x4352x4096, .f32⟩
  | .hbm, ⟨44, _⟩ => ⟨S4x4352x4096, .f32⟩
  | .hbm, ⟨45, _⟩ => ⟨S1x1x4096, .f32⟩
  | .hbm, ⟨46, _⟩ => ⟨S4x4352x4096, .f32⟩
  | .hbm, ⟨47, _⟩ => ⟨S4x4352x4096, .f32⟩
  | .hbm, ⟨48, _⟩ => ⟨S4x2x4096, .f32⟩
  | .hbm, ⟨49, _⟩ => ⟨S4x1x4096, .f32⟩
  | .hbm, ⟨50, _⟩ => ⟨S4x4096x4096, .f32⟩
  | .hbm, ⟨51, _⟩ => ⟨S4x1x4096, .f32⟩
  | .hbm, ⟨52, _⟩ => ⟨S4x256x4096, .f32⟩
  | .hbm, ⟨53, _⟩ => ⟨S4x4352x4096, .f32⟩
  | .hbm, ⟨54, _⟩ => ⟨S_, .f32⟩
  | .hbm, ⟨55, _⟩ => ⟨S4x4352x4096, .f32⟩
  | .hbm, ⟨56, _⟩ => ⟨S4x4352x4096, .f32⟩
  | .hbm, ⟨57, _⟩ => ⟨S4x4352x4096, .f32⟩
  | .hbm, ⟨58, _⟩ => ⟨S4x2x4096, .f32⟩
  | .hbm, ⟨59, _⟩ => ⟨S4x1x4096, .f32⟩
  | .hbm, ⟨60, _⟩ => ⟨S4x4096x4096, .f32⟩
  | .hbm, ⟨61, _⟩ => ⟨S4x1x4096, .f32⟩
  | .hbm, ⟨62, _⟩ => ⟨S4x256x4096, .f32⟩
  | .hbm, ⟨63, _⟩ => ⟨S4x4352x4096, .f32⟩
  | .hbm, ⟨64, _⟩ => ⟨S4x4352x4096, .f32⟩
  | .hbm, ⟨65, _⟩ => ⟨S4x4352x4096, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Resid.lean ====
abbrev S4x4352x4096 : Shape := ⟨3, ![4, 4352, 4096]⟩
abbrev S4x4096x4096 : Shape := ⟨3, ![4, 4096, 4096]⟩
abbrev S8x1x4096 : Shape := ⟨3, ![8, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4352x4096, .f32⟩
  | .hbm, ⟨1, _⟩ => ⟨S4x4096x4096, .bf16⟩
  | .hbm, ⟨2, _⟩ => ⟨S8x1x4096, .f32⟩
  | .hbm, ⟨3, _⟩ => ⟨S4096, .f32⟩
  | .hbm, ⟨4, _⟩ => ⟨S1x4096, .f32⟩
  | .hbm, ⟨5, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x256x4096, .f32⟩
  | .local _ .vmem, ⟨8, _⟩ => ⟨S1x256x4096, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefResidIdeal.lean ====
abbrev S4x4352x4096 : Shape := ⟨3, ![4, 4352, 4096]⟩
abbrev S4x4096x4096 : Shape := ⟨3, ![4, 4096, 4096]⟩
abbrev S8x1x4096 : Shape := ⟨3, ![8, 1, 4096]⟩
abbrev S4096 : Shape := ⟨1, ![4096]⟩
abbrev S4x2x4096 : Shape := ⟨3, ![4, 2, 4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4096x4096, .bf16⟩
  | .hbm, ⟨2, _⟩ => ⟨S8x1x4096, .f32⟩
  | .hbm, ⟨3, _⟩ => ⟨S4096, .f32⟩
  | .hbm, ⟨4, _⟩ => ⟨S4x4096x4096, .f32⟩
  | .hbm, ⟨5, _⟩ => ⟨S4x2x4096, .f32⟩
  | .hbm, ⟨6, _⟩ => ⟨S4x1x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S1x1x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ada.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefAdaIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 24
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .bf16⟩
  | .hbm, ⟨13, _⟩ => ⟨S8x4096, .f32⟩
  | .hbm, ⟨14, _⟩ => ⟨S1x4096x24576, .f32⟩
  | .hbm, ⟨15, _⟩ => ⟨S4096x24576, .f32⟩
  | .hbm, ⟨16, _⟩ => ⟨S4096x24576, .bf16⟩
  | .hbm, ⟨17, _⟩ => ⟨S4096x24576, .f32⟩
  | .hbm, ⟨18, _⟩ => ⟨S8x24576, .f32⟩
  | .hbm, ⟨19, _⟩ => ⟨S1x24576, .f32⟩
  | .hbm, ⟨20, _⟩ => ⟨S24576, .f32⟩
  | .hbm, ⟨21, _⟩ => ⟨S1x24576, .f32⟩
  | .hbm, ⟨22, _⟩ => ⟨S8x24576, .f32⟩
  | .hbm, ⟨23, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Readout.lean ====
abbrev S17408x1024 : Shape := ⟨2, ![17408, 1024]⟩
abbrev S17408x5120 : Shape := ⟨2, ![17408, 5120]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x5120, .bf16⟩
  | .hbm, ⟨3, _⟩ => ⟨S128, .f32⟩
  | .hbm, ⟨4, _⟩ => ⟨S1x128, .f32⟩
  | .hbm, ⟨5, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefReadoutIdeal.lean ====
abbrev S17408x1024 : Shape := ⟨2, ![17408, 1024]⟩
abbrev S17408x5120 : Shape := ⟨2, ![17408, 5120]⟩
abbrev S128 : Shape := ⟨1, ![128]⟩
abbrev S17408x8x128 : Shape := ⟨3, ![17408, 8, 128]⟩
abbrev S_ : Shape := ⟨0, ![]⟩
abbrev S17408x8 : Shape := ⟨2, ![17408, 8]⟩
abbrev S17408x8x1 : Shape := ⟨3, ![17408, 8, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x5120, .bf16⟩
  | .hbm, ⟨3, _⟩ => ⟨S128, .f32⟩
  | .hbm, ⟨4, _⟩ => ⟨S17408x1024, .f32⟩
  | .hbm, ⟨5, _⟩ => ⟨S17408x8x128, .f32⟩
  | .hbm, ⟨6, _⟩ => ⟨S17408x8x128, .f32⟩
  | .hbm, ⟨7, _⟩ => ⟨S_, .f32⟩
  | .hbm, ⟨8, _⟩ => ⟨S17408x8, .f32⟩
  | .hbm, ⟨9, _⟩ => ⟨S17408x8x1, .f32⟩
  | .hbm, ⟨10, _⟩ => ⟨S_, .f32⟩
  | .hbm, ⟨11, _⟩ => ⟨S17408x8x1, .f32⟩
  | .hbm, ⟨12, _⟩ => ⟨S17408x8x1, .f32⟩
  | .hbm, ⟨13, _⟩ => ⟨S_, .f32⟩
  | .hbm, ⟨14, _⟩ => ⟨S17408x8x1, .f32⟩
  | .hbm, ⟨15, _⟩ => ⟨S17408x8x1, .f32⟩
  | .hbm, ⟨16, _⟩ => ⟨S17408x8x1, .f32⟩
  | .hbm, ⟨17, _⟩ => ⟨S17408x8x128, .f32⟩
  | .hbm, ⟨18, _⟩ => ⟨S17408x8x128, .f32⟩
  | .hbm, ⟨19, _⟩ => ⟨S1x1x128, .f32⟩
  | .hbm, ⟨20, _⟩ => ⟨S17408x8x128, .f32⟩
  | .hbm, ⟨21, _⟩ => ⟨S17408x8x128, .f32⟩
  | .hbm, ⟨22, _⟩ => ⟨S17408x1024, .bf16⟩
  | .hbm, ⟨23, _⟩ => ⟨S17408x1024, .f32⟩
  | .hbm, ⟨24, _⟩ => ⟨S17408x8x128, .f32⟩
  | .hbm, ⟨25, _⟩ => ⟨S17408x8x128, .f32⟩
  | .hbm, ⟨26, _⟩ => ⟨S17408x8x128, .f32⟩
  | .hbm, ⟨27, _⟩ => ⟨S_, .f32⟩
  | .hbm, ⟨28, _⟩ => ⟨S17408x8x128, .f32⟩
  | .hbm, ⟨29, _⟩ => ⟨S17408x8x128, .f32⟩
  | .hbm, ⟨30, _⟩ => ⟨S_, .f32⟩
  | .hbm, ⟨31, _⟩ => ⟨S17408x8x128, .f32⟩
  | .hbm, ⟨32, _⟩ => ⟨S17408x8x128, .f32⟩
  | .hbm, ⟨33, _⟩ => ⟨S17408x8x128, .f32⟩
  | .hbm, ⟨34, _⟩ => ⟨S17408x8x128, .f32⟩
  | .hbm, ⟨35, _⟩ => ⟨S17408x1024, .f32⟩
  | .hbm, ⟨36, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.MmInGate.lean ====
/- The gate projection: the array that the blocked call leaves is the product of the whole operands. -/
module

public import proofs.«01_k».proof.Defs
public import proofs.«01_k».proof.Proof.Gen.InGate.Frame
public import proofs.«01_k».proof.Proof.Gen.InGateIdeal.Value
public import proofs.«01_k».proof.Proof.Gen.RefInGateIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InGateIdeal.Whole

open Cert.InGateIdeal Cert.InGateIdeal.Gen

variable (m : (ℓ : Loc nD τ sig) → Buf (Elt Ideal) ℓ)

/-- The reference's term: the rows times the weight. -/
abbrev prod (X : FVec Ideal S17408x4096 .bf16) (W : FVec Ideal S4096x16384 .bf16) : FVec Ideal S17408x16384 .bf16 :=
  truncf .bf16 (Host.dotGeneral Cert.RefInGateIdeal.dot_S17408x4096_S4096x16384_S17408x16384_1_0_0_1_n_n none
    (extf .f32 X Cert.RefInGateIdeal.Gen.bitsLt_bf16_f32) (extf .f32 W Cert.RefInGateIdeal.Gen.bitsLt_bf16_f32)) Cert.RefInGateIdeal.Gen.bitsLt_bf16_f32

/-- Which blocks each grid point works on. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InGateIdeal.Whole

namespace Cert.Proof.InGate

theorem frame_p : Cert.quiescent_InGate := fun m ρ _ => Cert.InGate.Gen.frame m ρ
theorem frame_pi : Cert.quiescent_InGateIdeal := fun m ρ _ => Cert.InGateIdeal.Gen.frame m ρ
theorem frame_ri : Cert.quiescent_RefInGateIdeal := fun m ρ _ =>
  (θ_run Cert.RefInGateIdeal.defs _ _).mono (fun r h => ⟨fun c => (h c).2, sem_eq_zero_of_no_sems (by decide) r.2⟩)
    (Cert.RefInGateIdeal.Value.run (F := Ideal) m ρ)
theorem preserves : Cert.preserves_InGate_InGateIdeal := trivial
theorem algebraic : Cert.algebraic_InGateIdeal_RefInGateIdeal := by
  pair_intro
  · run_from Cert.InGateIdeal.Gen.run_main m g
  · run_from Cert.RefInGateIdeal.Value.run m' g'
    exact (Cert.InGateIdeal.Whole.final m c).symm

end Cert.Proof.InGate

end
-- ==== Proof.MmInC.lean ====
/- The HGRN2 branch's input projection: the array that the blocked call leaves is the product of the whole operands. -/
module

public import proofs.«01_k».proof.Defs
public import proofs.«01_k».proof.Proof.Gen.InC.Frame
public import proofs.«01_k».proof.Proof.Gen.InCIdeal.Value
public import proofs.«01_k».proof.Proof.Gen.RefInCIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InCIdeal.Whole

open Cert.InCIdeal Cert.InCIdeal.Gen

variable (m : (ℓ : Loc nD τ sig) → Buf (Elt Ideal) ℓ)

/-- The reference's term: the rows times the weight. -/
abbrev prod (X : FVec Ideal S17408x4096 .bf16) (W : FVec Ideal S4096x5120 .bf16) : FVec Ideal S17408x5120 .bf16 :=
  truncf .bf16 (Host.dotGeneral Cert.RefInCIdeal.dot_S17408x4096_S4096x5120_S17408x5120_1_0_0_1_n_n none
    (extf .f32 X Cert.RefInCIdeal.Gen.bitsLt_bf16_f32) (extf .f32 W Cert.RefInCIdeal.Gen.bitsLt_bf16_f32)) Cert.RefInCIdeal.Gen.bitsLt_bf16_f32

/-- Which blocks each grid point works on. -/
theorem idx : ∀ t : Fin cfg0.N, win0_0.index t = ![t.val / 5, 0] ∧ win0_1.index t = ![0, t.val % 5]
    ∧ win0_2.index t = ![t.val / 5, t.val % 5] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InCIdeal.Whole

namespace Cert.Proof.InC

theorem frame_p : Cert.quiescent_InC := fun m ρ _ => Cert.InC.Gen.frame m ρ
theorem frame_pi : Cert.quiescent_InCIdeal := fun m ρ _ => Cert.InCIdeal.Gen.frame m ρ
theorem frame_ri : Cert.quiescent_RefInCIdeal := fun m ρ _ =>
  (θ_run Cert.RefInCIdeal.defs _ _).mono (fun r h => ⟨fun c => (h c).2, sem_eq_zero_of_no_sems (by decide) r.2⟩)
    (Cert.RefInCIdeal.Value.run (F := Ideal) m ρ)
theorem preserves : Cert.preserves_InC_InCIdeal := trivial
theorem algebraic : Cert.algebraic_InCIdeal_RefInCIdeal := by
  pair_intro
  · run_from Cert.InCIdeal.Gen.run_main m g
  · run_from Cert.RefInCIdeal.Value.run m' g'
    exact (Cert.InCIdeal.Whole.final m c).symm

end Cert.Proof.InC

end
-- ==== Proof.MmInA.lean ====
/- The input projection of the differential attention, whose shape that of the neighbourhood attention shares: the array that the blocked call leaves is the product of the whole operands. -/
module

public import proofs.«01_k».proof.Defs
public import proofs.«01_k».proof.Proof.Gen.InA.Frame
public import proofs.«01_k».proof.Proof.Gen.InAIdeal.Value
public import proofs.«01_k».proof.Proof.Gen.RefInAIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InAIdeal.Whole

open Cert.InAIdeal Cert.InAIdeal.Gen

variable (m : (ℓ : Loc nD τ sig) → Buf (Elt Ideal) ℓ)

/-- The reference's term: the rows times the weight. -/
abbrev prod (X : FVec Ideal S17408x4096 .bf16) (W : FVec Ideal S4096x3072 .bf16) : FVec Ideal S17408x3072 .bf16 :=
  truncf .bf16 (Host.dotGeneral Cert.RefInAIdeal.dot_S17408x4096_S4096x3072_S17408x3072_1_0_0_1_n_n none
    (extf .f32 X Cert.RefInAIdeal.Gen.bitsLt_bf16_f32) (extf .f32 W Cert.RefInAIdeal.Gen.bitsLt_bf16_f32)) Cert.RefInAIdeal.Gen.bitsLt_bf16_f32

/-- Which blocks each grid point works on. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InAIdeal.Whole

namespace Cert.Proof.InA

theorem frame_p : Cert.quiescent_InA := fun m ρ _ => Cert.InA.Gen.frame m ρ
theorem frame_pi : Cert.quiescent_InAIdeal := fun m ρ _ => Cert.InAIdeal.Gen.frame m ρ
theorem frame_ri : Cert.quiescent_RefInAIdeal := fun m ρ _ =>
  (θ_run Cert.RefInAIdeal.defs _ _).mono (fun r h => ⟨fun c => (h c).2, sem_eq_zero_of_no_sems (by decide) r.2⟩)
    (Cert.RefInAIdeal.Value.run (F := Ideal) m ρ)
theorem preserves : Cert.preserves_InA_InAIdeal := trivial
theorem algebraic : Cert.algebraic_InAIdeal_RefInAIdeal := by
  pair_intro
  · run_from Cert.InAIdeal.Gen.run_main m g
  · run_from Cert.RefInAIdeal.Value.run m' g'
    exact (Cert.InAIdeal.Whole.final m c).symm

end Cert.Proof.InA

end
-- ==== Proof.MmInB.lean ====
/- The latent attention's input projection: the array that the blocked call leaves is the product of the whole operands. -/
module

public import proofs.«01_k».proof.Defs
public import proofs.«01_k».proof.Proof.Gen.InB.Frame
public import proofs.«01_k».proof.Proof.Gen.InBIdeal.Value
public import proofs.«01_k».proof.Proof.Gen.RefInBIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InBIdeal.Whole

open Cert.InBIdeal Cert.InBIdeal.Gen

variable (m : (ℓ : Loc nD τ sig) → Buf (Elt Ideal) ℓ)

/-- The reference's term: the rows times the weight. -/
abbrev prod (X : FVec Ideal S17408x4096 .bf16) (W : FVec Ideal S4096x1536 .bf16) : FVec Ideal S17408x1536 .bf16 :=
  truncf .bf16 (Host.dotGeneral Cert.RefInBIdeal.dot_S17408x4096_S4096x1536_S17408x1536_1_0_0_1_n_n none
    (extf .f32 X Cert.RefInBIdeal.Gen.bitsLt_bf16_f32) (extf .f32 W Cert.RefInBIdeal.Gen.bitsLt_bf16_f32)) Cert.RefInBIdeal.Gen.bitsLt_bf16_f32

/-- Which blocks each grid point works on. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InBIdeal.Whole

namespace Cert.Proof.InB

theorem frame_p : Cert.quiescent_InB := fun m ρ _ => Cert.InB.Gen.frame m ρ
theorem frame_pi : Cert.quiescent_InBIdeal := fun m ρ _ => Cert.InBIdeal.Gen.frame m ρ
theorem frame_ri : Cert.quiescent_RefInBIdeal := fun m ρ _ =>
  (θ_run Cert.RefInBIdeal.defs _ _).mono (fun r h => ⟨fun c => (h c).2, sem_eq_zero_of_no_sems (by decide) r.2⟩)
    (Cert.RefInBIdeal.Value.run (F := Ideal) m ρ)
theorem preserves : Cert.preserves_InB_InBIdeal := trivial
theorem algebraic : Cert.algebraic_InBIdeal_RefInBIdeal := by
  pair_intro
  · run_from Cert.InBIdeal.Gen.run_main m g
  · run_from Cert.RefInBIdeal.Value.run m' g'
    exact (Cert.InBIdeal.Whole.final m c).symm

end Cert.Proof.InB

end
-- ==== Proof.MmOutProj.lean ====
/- The output projection: the array that the blocked call leaves is the product of the whole operands. -/
module

public import proofs.«01_k».proof.Defs
public import proofs.«01_k».proof.Proof.Gen.OutProj.Frame
public import proofs.«01_k».proof.Proof.Gen.OutProjIdeal.Value
public import proofs.«01_k».proof.Proof.Gen.RefOutProjIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Whole

open Cert.OutProjIdeal Cert.OutProjIdeal.Gen

variable (m : (ℓ : Loc nD τ sig) → Buf (Elt Ideal) ℓ)

/-- The reference's term: the rows times the first layer's weight. -/
abbrev prod (X : FVec Ideal S17408x4096 .bf16) (W : FVec Ideal S2x4096x4096 .bf16) : FVec Ideal S17408x4096 .bf16 :=
  truncf .bf16 (Host.dotGeneral Cert.RefOutProjIdeal.dot_S17408x4096_S4096x4096_S17408x4096_1_0_0_1_n_n none
    (extf .f32 X Cert.RefOutProjIdeal.Gen.bitsLt_bf16_f32) (extf .f32 (shapeCast _ (extractStridedSlice Cert.RefOutProjIdeal.S1x4096x4096 ![0, 0, 0] W
      Cert.RefOutProjIdeal.Gen.slices_S2x4096x4096_S1x4096x4096_0_0_0) Cert.RefOutProjIdeal.Gen.shapeCasts_S1x4096x4096_S4096x4096) Cert.RefOutProjIdeal.Gen.bitsLt_bf16_f32)) Cert.RefOutProjIdeal.Gen.bitsLt_bf16_f32

/-- Which blocks each grid point works on. -/
theorem idx : ∀ t : Fin cfg0.N, win0_0.index t = ![t.val / 4, 0] ∧ win0_1.index t = ![0, 0, t.val % 4]
    ∧ win0_2.index t = ![t.val / 4, t.val % 4] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjIdeal.Whole

namespace Cert.Proof.OutProj

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_RefOutProjIdeal := fun m ρ _ =>
  (θ_run Cert.RefOutProjIdeal.defs _ _).mono (fun r h => ⟨fun c => (h c).2, sem_eq_zero_of_no_sems (by decide) r.2⟩)
    (Cert.RefOutProjIdeal.Value.run (F := Ideal) m ρ)
theorem preserves : Cert.preserves_OutProj_OutProjIdeal := trivial
theorem algebraic : Cert.algebraic_OutProjIdeal_RefOutProjIdeal := by
  pair_intro
  · run_from Cert.OutProjIdeal.Gen.run_main m g
  · run_from Cert.RefOutProjIdeal.Value.run m' g'
    exact (Cert.OutProjIdeal.Whole.final m c).symm

end Cert.Proof.OutProj

end
-- ==== Proof.MmFfnDown.lean ====
/- The feed-forward down-projection: the array that the blocked call leaves is the product of the whole operands. -/
module

public import proofs.«01_k».proof.Defs
public import proofs.«01_k».proof.Proof.Gen.FfnDown.Frame
public import proofs.«01_k».proof.Proof.Gen.FfnDownIdeal.Value
public import proofs.«01_k».proof.Proof.Gen.RefFfnDownIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnDownIdeal.Whole

open Cert.FfnDownIdeal Cert.FfnDownIdeal.Gen

variable (m : (ℓ : Loc nD τ sig) → Buf (Elt Ideal) ℓ)

/-- The reference's term: the rows times the first layer's weight. -/
abbrev prod (X : FVec Ideal S17408x10880 .bf16) (W : FVec Ideal S2x10880x4096 .bf16) : FVec Ideal S17408x4096 .bf16 :=
  truncf .bf16 (Host.dotGeneral Cert.RefFfnDownIdeal.dot_S17408x10880_S10880x4096_S17408x4096_1_0_0_1_n_n none
    (extf .f32 X Cert.RefFfnDownIdeal.Gen.bitsLt_bf16_f32) (extf .f32 (shapeCast _ (extractStridedSlice Cert.RefFfnDownIdeal.S1x10880x4096 ![0, 0, 0] W
      Cert.RefFfnDownIdeal.Gen.slices_S2x10880x4096_S1x10880x4096_0_0_0) Cert.RefFfnDownIdeal.Gen.shapeCasts_S1x10880x4096_S10880x4096) Cert.RefFfnDownIdeal.Gen.bitsLt_bf16_f32)) Cert.RefFfnDownIdeal.Gen.bitsLt_bf16_f32

/-- Which blocks each grid point works on. -/
theorem idx : ∀ t : Fin cfg0.N, win0_0.index t = ![t.val / 8, 0] ∧ win0_1.index t = ![0, 0, t.val % 8]
    ∧ win0_2.index t = ![t.val / 8, t.val % 8] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FfnDownIdeal.Whole

namespace Cert.Proof.FfnDown

theorem frame_p : Cert.quiescent_FfnDown := fun m ρ _ => Cert.FfnDown.Gen.frame m ρ
theorem frame_pi : Cert.quiescent_FfnDownIdeal := fun m ρ _ => Cert.FfnDownIdeal.Gen.frame m ρ
theorem frame_ri : Cert.quiescent_RefFfnDownIdeal := fun m ρ _ =>
  (θ_run Cert.RefFfnDownIdeal.defs _ _).mono (fun r h => ⟨fun c => (h c).2, sem_eq_zero_of_no_sems (by decide) r.2⟩)
    (Cert.RefFfnDownIdeal.Value.run (F := Ideal) m ρ)
theorem preserves : Cert.preserves_FfnDown_FfnDownIdeal := trivial
theorem algebraic : Cert.algebraic_FfnDownIdeal_RefFfnDownIdeal := by
  pair_intro
  · run_from Cert.FfnDownIdeal.Gen.run_main m g
  · run_from Cert.RefFfnDownIdeal.Value.run m' g'
    exact (Cert.FfnDownIdeal.Whole.final m c).symm

end Cert.Proof.FfnDown

end
-- ==== Proof.Sigmoid.lean ====
/- The logistic function two ways: half a hyperbolic tangent of half the argument, plus a half. -/
module

public import Idealize.ShloMosaic.PureOps.Ideal

@[expose] public section

open Idealize.ShloMosaic

namespace Cert.Sigmoid

/-- The identity on the reals. -/
theorem real_half_tanh (r : ℝ) : (1 / 2 : ℝ) * Real.tanh (1 / 2 * r) + 1 / 2 = (1 + Real.exp (-r))⁻¹ := by
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h]
  generalize Real.exp (1 / 2 * r) = a at *
  generalize Real.exp (-(1 / 2 * r)) = b at *
  have ha : a = b⁻¹ := eq_inv_of_mul_eq_one_left h1
  subst ha
  field_simp
  ring

/-- … and at the infinities. -/
theorem half_tanh (x : EReal) : ((1 / 2 : ℝ) : EReal) * Ideal.tanh (((1 / 2 : ℝ) : EReal) * x) + ((1 / 2 : ℝ) : EReal)
    = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← real_half_tanh r]
    push_cast; rfl

/-- The f32 pattern of one half. -/
theorem ofBits_half : Ideal.ofBits .f32 0x3F000000#32 = ((1 / 2 : ℝ) : EReal) := by
  simp [Ideal.ofBits, Ideal.ieee, -EReal.coe_mul]; norm_num

/-- The form a program writes with the constants 0.5, as the quotient a plain program writes. -/
theorem gate (x : EReal) : Ideal.ofBits .f32 0x3F000000#32 * Ideal.tanh (Ideal.ofBits .f32 0x3F000000#32 * x)
    + Ideal.ofBits .f32 0x3F000000#32 = Ideal.div 1 (1 + Ideal.exp (-x)) := by
  rw [ofBits_half, half_tanh]; rfl

/-- The gated linear unit. -/
noncomputable def glu (g v : EReal) : EReal := g * Ideal.div 1 (1 + Ideal.exp (-g)) * v

end Cert.Sigmoid
-- ==== Proof.Merge.lean ====
/- The merge of the four branches: the array that the blocked call leaves is the sum of the gated branch projections. -/
module

public import proofs.«01_k».proof.Defs
public import proofs.«01_k».proof.Proof.Sigmoid
public import proofs.«01_k».proof.Proof.Gen.Merge.Frame
public import proofs.«01_k».proof.Proof.Gen.MergeIdeal.Value
public import proofs.«01_k».proof.Proof.Gen.RefMergeIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Whole

open Cert.MergeIdeal Cert.MergeIdeal.Gen

variable (m : (ℓ : Loc nD τ sig) → Buf (Elt Ideal) ℓ)

/-- Which blocks each grid point works on: the branches' rows, the gates' rows and columns, the weights' columns. -/
theorem idx : ∀ t : Fin cfg0.N, win0_0.index t = ![t.val / 4, 0] ∧ win0_1.index t = ![t.val / 4, 0]
    ∧ win0_2.index t = ![t.val / 4, 0] ∧ win0_3.index t = ![t.val / 4, 0]
    ∧ win0_4.index t = ![t.val / 4, t.val % 4] ∧ win0_5.index t = ![t.val / 4, 4 + t.val % 4]
    ∧ win0_6.index t = ![t.val / 4, 8 + t.val % 4] ∧ win0_7.index t = ![t.val / 4, 12 + t.val % 4]
    ∧ win0_8.index t = ![0, 0, 0, t.val % 4] ∧ win0_9.index t = ![t.val / 4, t.val % 4] :=
  (by decide +kernel : ∀ t : Fin grid0.N, _)

end Cert.MergeIdeal.Whole

namespace Cert.Proof.Merge

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_RefMergeIdeal := fun m ρ _ =>
  (θ_run Cert.RefMergeIdeal.defs _ _).mono (fun r h => ⟨fun c => (h c).2, sem_eq_zero_of_no_sems (by decide) r.2⟩)
    (Cert.RefMergeIdeal.Value.run (F := Ideal) m ρ)
theorem preserves : Cert.preserves_Merge_MergeIdeal := trivial

open Cert.MergeIdeal Cert.MergeIdeal.Gen Cert.MergeIdeal.Whole in
theorem algebraic : Cert.algebraic_MergeIdeal_RefMergeIdeal := by
  pair_intro
  · run_from Cert.MergeIdeal.Gen.run_main m g
  · run_from Cert.RefMergeIdeal.Value.run m' g'
    symm
    refine (dats m 0 c).arrAt_eq_of_covers 9 _ (by decide +kernel) fun t _ y => ?_
    blk_simp
    rw [after0_9]; frame_out
    pointwise [k0_pay1, k0_pay2]
    simp only [Cert.Sigmoid.gate]
    blk_point [iblk, V, idx t]

end Cert.Proof.Merge

end
-- ==== Proof.FfnUpPanel.lean ====
/- The panel that the feed-forward kernel keeps for a row block: the block's rows with sixteen rows of each neighbour. -/
module

public import proofs.«01_k».proof.Defs
public import proofs.«01_k».proof.Proof.Sigmoid
public import proofs.«01_k».proof.Proof.Gen.FfnUp.Frame
public import proofs.«01_k».proof.Proof.Gen.FfnUpIdeal.Value
public import proofs.«01_k».proof.Proof.Gen.RefFfnUpIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnUpIdeal.Whole

open Cert.FfnUpIdeal Cert.FfnUpIdeal.Gen

variable (m : (ℓ : Loc nD τ sig) → Buf (Elt Ideal) ℓ)

/-- Which blocks each grid point works on: the row block with its two neighbouring halos, and the column pair. -/
theorem idx : ∀ t : Fin cfg0.N, win0_0.index t = ![t.val / 17, 0] ∧ win0_1.index t = ![64 * (t.val / 17) - 1, 0]
    ∧ win0_2.index t = ![min (64 * (t.val / 17 + 1)) 1087, 0] ∧ win0_3.index t = ![0, t.val % 17]
    ∧ win0_4.index t = ![0, t.val % 17] ∧ win0_5.index t = ![0, t.val % 17] ∧ win0_6.index t = ![t.val / 17, t.val % 17] :=
  (by decide +kernel : ∀ t : Fin grid0.N, _)

/-- The token whose hidden state stands in row `a` of the panel of row block `i`: sixteen rows before the block, the block, sixteen rows after it
    (moved inside the array at its two ends). -/
def tok (i a : ℕ) : ℕ :=
  if a < 16 then 16 * (64 * i - 1) + a else if a < 1040 then 1024 * i + (a - 16) else 16 * min (64 * (i + 1)) 1087 + (a - 1040)

theorem tok_lt {i a : ℕ} (hi : i < 17) (ha : a < 1056) : tok i a < 17408 := by
  unfold tok; split_ifs <;> omega

/-- The panel the kernel keeps for row block `i`. -/
def panel (H : Vec Ideal S17408x4096 .bf16) (i : Fin 17) : Vec Ideal S1056x4096 .bf16 :=
  fun q => H (ix2 ⟨tok i.val (q 0).val, tok_lt i.isLt (q 0).isLt⟩ (q 1))

theorem quo_lt (t : Fin cfg0.N) : t.val / 17 < 17 := by
  have h := lt_of_lt_of_eq t.isLt N_0
  omega

/-- At the first point of a row block the kernel fills the panel. -/
theorem panel_A (c : Dev nD) (t : Fin cfg0.N) (h0 : t.val % 17 = 0) :
    (outsAt0 m c t.val t.isLt).2 = panel (V m c main_arg0) ⟨t.val / 17, quo_lt t⟩ := by
  rw [outsAt0_A m c t h0]
  dsimp only
  frame_out
  funext q
  refine View.canon_apply_of_pieces (panel (V m c main_arg0) ⟨t.val / 17, quo_lt t⟩) _ ?_ q ?_
  · intro p hp
    simp only [List.mem_cons, List.not_mem_nil, or_false] at hp
    rcases hp with rfl | rfl | rfl
    · intro x
      have hx0 : (x 0).val < 16 := (x 0).isLt
      have hx1 : (x 1).val < 4096 := (x 1).isLt
      show k0_pay4 (iblk m c 2 t) x = _
      pointwise [k0_pay4, panel]

      blk_point [iblk, V, idx t, tok]
      split_ifs <;> omega
    · intro x
      have hx0 : (x 0).val < 1024 := (x 0).isLt
      have hx1 : (x 1).val < 4096 := (x 1).isLt
      show k0_pay3 (iblk m c 0 t) x = _
      pointwise [k0_pay3, panel]
      blk_point [iblk, V, idx t, tok]
      split_ifs <;> omega
    · intro x
      have hx0 : (x 0).val < 16 := (x 0).isLt
      have hx1 : (x 1).val < 4096 := (x 1).isLt
      show k0_pay2 (iblk m c 1 t) x = _
      pointwise [k0_pay2, panel]
      blk_point [iblk, V, idx t, tok]
      split_ifs <;> omega
  · simp only [List.mem_cons, List.not_mem_nil, or_false, exists_eq_or_imp, exists_eq_left, Rect.mem_set_unit]
    have hq0 : (q 0).val < 1056 := (q 0).isLt
    have hq1 : (q 1).val < 4096 := (q 1).isLt
    simp only [Fin.forall_fin_two, Matrix.cons_val_zero, Matrix.cons_val_one]
    omega

/-- At every point the panel is that of the point's row block. -/
theorem panel_eq (c : Dev nD) : ∀ (n : ℕ) (hn : n < cfg0.N),
    (outsAt0 m c n hn).2 = panel (V m c main_arg0) ⟨n / 17, quo_lt ⟨n, hn⟩⟩
  | 0, hn => panel_A m c ⟨0, hn⟩ rfl
  | n + 1, hn => by
    by_cases h0 : (n + 1) % 17 = 0
    · exact panel_A m c ⟨n + 1, hn⟩ h0
    · have e := outsAt0_B m c ⟨n + 1, hn⟩ h0
      rw [show outsAt0 m c (n + 1) hn = _ from e]
      dsimp only
      unfold sout0_B_0
      refine (panel_eq c n (Nat.lt_of_succ_lt hn)).trans ?_
      congr 2
      omega

end Cert.FfnUpIdeal.Whole
end
-- ==== Proof.FfnUpChunk.lean ====
/- The four chunks of the feed-forward kernel's body, lane by lane: a three-tap convolution along the tokens and a gated linear unit. -/
module

public import proofs.«01_k».proof.Defs
public import proofs.«01_k».proof.Proof.Sigmoid
public import proofs.«01_k».proof.Proof.Gen.FfnUp.Frame
public import proofs.«01_k».proof.Proof.Gen.FfnUpIdeal.Value
public import proofs.«01_k».proof.Proof.Gen.RefFfnUpIdeal.Run
public import Idealize.ShloMosaic.Lib.Pipeline.ValueKit
public import Idealize.ShloMosaic.Lib.Claim
public import Idealize.ShloMosaic.Lib.Pointwise
public import Idealize.ShloMosaic.Lib.Routing.Words

@[expose] public section

set_option maxRecDepth 16384

noncomputable section

open Idealize.ShloMosaic Idealize.ShloMosaic.TcCoe Idealize.SL.Sem
open Idealize.ShloMosaic.Pipeline (Dat)

namespace Cert.FfnUpIdeal.Whole

open Cert.Sigmoid (glu)
open Cert.FfnUpIdeal Cert.FfnUpIdeal.Gen

/-- One lane of the three-tap convolution along the tokens; at position `p` of its image a token has no left (right) neighbour where a
    sequence begins (ends). -/
def tap (p : ℕ) (cw : Vec Ideal S3x1280 .f32) (cb : Vec Ideal S1x1280 .f32) (x y z : EReal) (l : Fin 1280) : EReal :=
  (if p = 0 ∨ p = 4096 then 0 else x * cw (ix2 0 l)) + y * cw (ix2 1 l) + (if p = 4095 ∨ p = 4351 then 0 else z * cw (ix2 2 l)) + cb (ix2 0 l)

/-- One lane of a chunk's result. -/
def lane (p : ℕ) (cw : Vec Ideal S3x1280 .f32) (cb : Vec Ideal S1x1280 .f32) (U : Vec Ideal S272x1280 .f32) (k : Fin 256) (l : Fin 640) : EReal :=
  glu (tap p cw cb (U (ix2 ⟨k + 7, by omega⟩ ⟨l, by omega⟩)) (U (ix2 ⟨k + 8, by omega⟩ ⟨l, by omega⟩)) (U (ix2 ⟨k + 9, by omega⟩ ⟨l, by omega⟩)) ⟨l, by omega⟩)
    (tap p cw cb (U (ix2 ⟨k + 7, by omega⟩ ⟨640 + l, by omega⟩)) (U (ix2 ⟨k + 8, by omega⟩ ⟨640 + l, by omega⟩)) (U (ix2 ⟨k + 9, by omega⟩ ⟨640 + l, by omega⟩)) ⟨640 + l, by omega⟩)

/-- The kernel's position word of row `k` of a chunk that starts at row `o` of row block `i`. -/
theorem pos_word (i k o : ℕ) (hi : i < 17) (hk : k < 256) (ho : o < 1024) :
    IntOp.remsi ArithUnit.vector (IntOp.addi (Scalar.addi (Scalar.muli (BitVec.ofNat 32 i) 1024#32) (BitVec.ofNat 32 o)) (BitVec.ofNat 32 k)) 4352#32
      = BitVec.ofNat 32 ((1024 * i + o + k) % 4352) := by
  have e : IntOp.addi (Scalar.addi (Scalar.muli (BitVec.ofNat 32 i) 1024#32) (BitVec.ofNat 32 o)) (BitVec.ofNat 32 k) = BitVec.ofNat 32 (1024 * i + o + k) := by
    rw [mul_comm 1024 i, BitVec.ofNat_add, BitVec.ofNat_add, BitVec.ofNat_mul]; rfl
  rw [e]
  exact Routing.remsi_word _ (by omega) (by norm_num) (by norm_num)

/-- The kernel's edge test is the test on the position. -/
theorem edge (n a b : ℕ) (hn : n < 4352) (ha : a < 4352) (hb : b < 4352) (x y : EReal) :
    Scalar.select (IntOp.ori (IntOp.cmpi CmpIPredicate.eq (BitVec.ofNat 32 n) (BitVec.ofNat 32 a)) (IntOp.cmpi CmpIPredicate.eq (BitVec.ofNat 32 n) (BitVec.ofNat 32 b))) x y
      = if n = a ∨ n = b then x else y := by
  have h : ∀ c : ℕ, c < 4352 → ((BitVec.ofNat 32 n == BitVec.ofNat 32 c) = decide (n = c)) := fun c hc => by
    rw [Bool.eq_iff_iff]
    simp only [beq_iff_eq, decide_eq_true_eq, BitVec.toNat_eq, BitVec.toNat_ofNat]
    omega
  simp only [IntOp.cmpi, h a ha, h b hb, WordCmp.ori_ofBool, WordCmp.select_ofBool]
  simp

/-- The fourth chunk of 256 rows. -/
theorem chunk3 (i : ℕ) (hi : i < 17) (cw : Vec Ideal S3x1280 .f32) (cb : Vec Ideal S1x1280 .f32) (U : Vec Ideal S272x1280 .f32) (k : Fin 256) (l : Fin 640) :
    k0_pay1 (F := Ideal) (k0_pay6 cw) (k0_pay7 cb) (k0_pay27 (BitVec.ofNat 32 i)) (k0_pay28 (BitVec.ofNat 32 i)) U (ix2 k l) = lane ((1024 * i + 768 + k) % 4352) cw cb U k l := by
  pointwise [k0_pay1, k0_pay26, k0_pay27, k0_pay28, k0_pay6, k0_pay7, lane, tap, glu]
  simp only [pos_word i k 768 hi k.isLt (by norm_num), edge _ 0 4096 (Nat.mod_lt _ (by norm_num)) (by norm_num) (by norm_num),
    edge _ 4095 4351 (Nat.mod_lt _ (by norm_num)) (by norm_num) (by norm_num), Cert.Sigmoid.gate]
  blk_point []

/-- The third chunk. -/
theorem chunk2 (i : ℕ) (hi : i < 17) (cw : Vec Ideal S3x1280 .f32) (cb : Vec Ideal S1x1280 .f32) (U : Vec Ideal S272x1280 .f32) (k : Fin 256) (l : Fin 640) :
    k0_pay25 (F := Ideal) (k0_pay6 cw) (k0_pay7 cb) (k0_pay21 (BitVec.ofNat 32 i)) (k0_pay22 U) (k0_pay23 (BitVec.ofNat 32 i) (k0_pay6 cw) U) (k0_pay24 U) (ix2 k l) = lane ((1024 * i + 512 + k) % 4352) cw cb U k l := by
  pointwise [k0_pay20, k0_pay21, k0_pay22, k0_pay23, k0_pay24, k0_pay25, k0_pay6, k0_pay7, lane, tap, glu]
  simp only [pos_word i k 512 hi k.isLt (by norm_num), edge _ 0 4096 (Nat.mod_lt _ (by norm_num)) (by norm_num) (by norm_num),
    edge _ 4095 4351 (Nat.mod_lt _ (by norm_num)) (by norm_num) (by norm_num), Cert.Sigmoid.gate]
  blk_point []

/-- The second chunk. -/
theorem chunk1 (i : ℕ) (hi : i < 17) (cw : Vec Ideal S3x1280 .f32) (cb : Vec Ideal S1x1280 .f32) (U : Vec Ideal S272x1280 .f32) (k : Fin 256) (l : Fin 640) :
    k0_pay19 (F := Ideal) (k0_pay15 (k0_pay6 cw) (k0_pay7 cb) (k0_pay12 (BitVec.ofNat 32 i)) k0_pay13 U) (k0_pay16 (k0_pay6 cw) (k0_pay7 cb) (k0_pay12 (BitVec.ofNat 32 i)) k0_pay13 U) (k0_pay17 (k0_pay6 cw) (k0_pay7 cb) (k0_pay12 (BitVec.ofNat 32 i)) k0_pay13 U) k0_pay18 (ix2 k l) = lane ((1024 * i + 256 + k) % 4352) cw cb U k l := by
  pointwise [k0_pay12, k0_pay13, k0_pay14, k0_pay15, k0_pay16, k0_pay17, k0_pay18, k0_pay19, k0_pay6, k0_pay7, lane, tap, glu]
  simp only [pos_word i k 256 hi k.isLt (by norm_num), edge _ 0 4096 (Nat.mod_lt _ (by norm_num)) (by norm_num) (by norm_num),
    edge _ 4095 4351 (Nat.mod_lt _ (by norm_num)) (by norm_num) (by norm_num), Cert.Sigmoid.gate]
  blk_point []

/-- The first chunk. -/
theorem chunk0 (g : grid0.Coords) (cw : Vec Ideal S3x1280 .f32) (cb : Vec Ideal S1x1280 .f32) (U : Vec Ideal S272x1280 .f32) (k : Fin 256) (l : Fin 640) :
    k0_pay11 (F := Ideal) (k0_pay6 cw) (k0_pay7 cb) (k0_pay9 g) (k0_pay10 g) U (ix2 k l) = lane ((1024 * (g 0).val + 0 + k) % 4352) cw cb U k l := by
  pointwise [k0_pay8, k0_pay9, k0_pay10, k0_pay11, k0_pay6, k0_pay7, lane, tap, glu]
  simp only [pos_word (g 0).val k 0 (g 0).isLt k.isLt (by norm_num), edge _ 0 4096 (Nat.mod_lt _ (by norm_num)) (by norm_num) (by norm_num),
    edge _ 4095 4351 (Nat.mod_lt _ (by norm_num)) (by norm_num) (by norm_num), Cert.Sigmoid.gate]
  blk_point []

end Cert.FfnUpIdeal.Whole
end
-- ==== Proof.FfnUpBlock.lean ====
/- The feed-forward kernel's output block: every grid point writes the gated convolution of its row block's panel. -/
module

public import proofs.«01_k».proof.Defs
public import proofs.«01_k».proof.Proof.Sigmoid
public import proofs.«01_k».proof.Proof.Gen.FfnUp.Frame
public import proofs.«01_k».proof.Proof.Gen.FfnUpIdeal.Value
public import proofs.«01_k».proof.Proof.Gen.RefFfnUpIdeal.Run
public import Idealize.ShloMosaic.Lib.Pipeline.ValueKit
public import Idealize.ShloMosaic.Lib.Claim
public import Idealize.ShloMosaic.Lib.Pointwise
public import proofs.«01_k».proof.Proof.FfnUpPanel
public import proofs.«01_k».proof.Proof.FfnUpChunk
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnUpIdeal.Whole

open Cert.Sigmoid (glu)
open Cert.FfnUpIdeal Cert.FfnUpIdeal.Gen

variable (m : (ℓ : Loc nD τ sig) → Buf (Elt Ideal) ℓ)

/-- The first grid coordinate is the row block. -/
theorem coord0 : ∀ t : Fin cfg0.N, (grid0.coords t 0).val = t.val / 17 := (by decide +kernel : ∀ t : Fin grid0.N, _)

/-- One lane of the block that a row block's panel and a column pair give. -/
def cell (i : ℕ) (P : Vec Ideal S1056x4096 .bf16) (W : Vec Ideal S4096x1280 .bf16) (cw : Vec Ideal S3x1280 .f32) (cb : Vec Ideal S1x1280 .f32)
    (r : Fin 1024) (l : Fin 640) : EReal :=
  glu (tap ((1024 * i + r) % 4352) cw cb (k0_pay5 (F := Ideal) P W (ix2 ⟨r + 15, by omega⟩ ⟨l, by omega⟩))
      (k0_pay5 (F := Ideal) P W (ix2 ⟨r + 16, by omega⟩ ⟨l, by omega⟩)) (k0_pay5 (F := Ideal) P W (ix2 ⟨r + 17, by omega⟩ ⟨l, by omega⟩)) ⟨l, by omega⟩)
    (tap ((1024 * i + r) % 4352) cw cb (k0_pay5 (F := Ideal) P W (ix2 ⟨r + 15, by omega⟩ ⟨640 + l, by omega⟩))
      (k0_pay5 (F := Ideal) P W (ix2 ⟨r + 16, by omega⟩ ⟨640 + l, by omega⟩)) (k0_pay5 (F := Ideal) P W (ix2 ⟨r + 17, by omega⟩ ⟨640 + l, by omega⟩)) ⟨640 + l, by omega⟩)

/-- A chunk's lane, over the rows of the product that start eight above the chunk, is the block's lane. -/
theorem lane_cell (i o : ℕ) (ho : o ≤ 768) (P : Vec Ideal S1056x4096 .bf16) (W : Vec Ideal S4096x1280 .bf16) (cw : Vec Ideal S3x1280 .f32) (cb : Vec Ideal S1x1280 .f32)
    (U : Vec Ideal S272x1280 .f32) (hU : ∀ (r : Fin 272) (n : Fin 1280), U (ix2 r n) = k0_pay5 (F := Ideal) P W (ix2 ⟨o + 8 + r, by omega⟩ n))
    (k : Fin 256) (l : Fin 640) (q0 : Fin 1024) (q1 : Fin 640) (h0 : q0.val = o + k.val) (h1 : q1.val = l.val) :
    lane ((1024 * i + o + k) % 4352) cw cb U k l = cell i P W cw cb q0 q1 := by
  obtain rfl : q1 = l := Fin.ext h1
  obtain ⟨q0, hq⟩ := q0
  obtain rfl : q0 = o + k.val := h0
  have e (a b : ℕ) (ha : k.val + a < 272) (hb : o + k.val + b < 1056) (h : b = a + 8) : (⟨o + 8 + (k.val + a), by omega⟩ : Fin 1056) = ⟨o + k.val + b, hb⟩ :=
    Fin.ext (by simp only; omega)
  unfold lane cell
  rw [Nat.add_assoc (1024 * i)]
  simp only [hU, e 7 15 (by omega) (by omega) rfl, e 8 16 (by omega) (by omega) rfl, e 9 17 (by omega) (by omega) rfl]

/-- A load of the whole buffer reads what its stores leave. -/
theorem load_whole {Val : EltTy → Type} [∀ e, Nonempty (Val e)] {sg : RefSig} {κ : Kind} {sp : Space} {s : Shape} {e : EltTy} (v : View sg κ sp s e)
    (L : List (View.Piece Val s e)) (G : s.Idx → Val e) (h : View.canon L = G) {off : Fin s.rank → ℕ} (inb : ∀ a, off a + s.size a ≤ s.size a)
    (hz : ∀ a, off a = 0) : v.readCov L (Rect.unit off (no_index s.size) inb).toLoadRect = G := by
  rw [View.readCov_eq_canon', h]
  exact View.ld_unit_lit inb G hz

/-- A point that is not the first of its row block writes the block's lanes. -/
theorem out_B (c : Dev nD) (t : Fin cfg0.N) (h0 : ¬ t.val % 17 = 0) (q : S1024x640.Idx) :
    (outsAt0 m c t.val t.isLt).1 q
      = cell (t.val / 17) (panel (V m c main_arg0) ⟨t.val / 17, quo_lt t⟩) (iblk m c 3 t) (iblk m c 4 t) (iblk m c 5 t) (q 0) (q 1) := by
  have hP := panel_eq m c (t.val - 1) (Nat.lt_of_le_of_lt (Nat.sub_le _ _) t.isLt)
  have e : (⟨(t.val - 1) / 17, quo_lt ⟨t.val - 1, Nat.lt_of_le_of_lt (Nat.sub_le _ _) t.isLt⟩⟩ : Fin 17) = ⟨t.val / 17, quo_lt t⟩ := Fin.ext (by simp only; omega)
  rw [e] at hP
  rw [outsAt0_B m c t h0]
  dsimp only
  rw [hP]
  frame_out
  clear hP e
  canon_tiles x h
  all_goals
    rw [View.readCov_fill _ _ _ _ _ (by intro a; fin_cases a <;> rfl)]
    rw [read_unread_whole]
    obtain ⟨k, l, rfl⟩ : ∃ (k : Fin 256) (l : Fin 640), x = ix2 k l := ⟨x 0, x 1, by funext a; fin_cases a <;> rfl⟩
  case piece0 =>
    rw [coord0]
    refine (chunk3 _ (quo_lt t) _ _ _ k l).trans ?_
    exact lane_cell _ 768 (by norm_num) _ _ _ _ _ (fun r n => by pointwise; blk_ext) _ _ _ _ h0 h1
  case piece1 =>
    rw [coord0]
    refine (chunk2 _ (quo_lt t) _ _ _ k l).trans ?_
    exact lane_cell _ 512 (by norm_num) _ _ _ _ _ (fun r n => by pointwise; blk_ext) _ _ _ _ h0 h1
  case piece2 =>
    rw [coord0]
    refine (chunk1 _ (quo_lt t) _ _ _ k l).trans ?_
    exact lane_cell _ 256 (by norm_num) _ _ _ _ _ (fun r n => by pointwise; blk_ext) _ _ _ _ h0 h1
  case piece3 =>
    refine (chunk0 _ _ _ _ k l).trans ?_
    rw [coord0]
    exact lane_cell _ 0 (by norm_num) _ _ _ _ _ (fun r n => by pointwise; blk_ext) _ _ _ _ (h0.trans (Nat.zero_add _).symm) h1

/-- The first point of a row block likewise, over the panel it has just filled. -/
theorem out_A (c : Dev nD) (t : Fin cfg0.N) (h0 : t.val % 17 = 0) (q : S1024x640.Idx) :
    (outsAt0 m c t.val t.isLt).1 q
      = cell (t.val / 17) (panel (V m c main_arg0) ⟨t.val / 17, quo_lt t⟩) (iblk m c 3 t) (iblk m c 4 t) (iblk m c 5 t) (q 0) (q 1) := by
  have hP := panel_A m c t h0
  rw [outsAt0_A m c t h0] at hP ⊢
  dsimp only at hP ⊢
  frame_out at hP
  frame_out
  canon_tiles x h
  all_goals
    rw [load_whole _ _ _ hP _ (by intro a; fin_cases a <;> rfl), View.readCov_fill _ _ _ _ _ (by intro a; fin_cases a <;> rfl)]
    obtain ⟨k, l, rfl⟩ : ∃ (k : Fin 256) (l : Fin 640), x = ix2 k l := ⟨x 0, x 1, by funext a; fin_cases a <;> rfl⟩
  case piece0 =>
    rw [coord0]
    refine (chunk3 _ (quo_lt t) _ _ _ k l).trans ?_
    exact lane_cell _ 768 (by norm_num) _ _ _ _ _ (fun r n => by pointwise; blk_ext) _ _ _ _ h0 h1
  case piece1 =>
    rw [coord0]
    refine (chunk2 _ (quo_lt t) _ _ _ k l).trans ?_
    exact lane_cell _ 512 (by norm_num) _ _ _ _ _ (fun r n => by pointwise; blk_ext) _ _ _ _ h0 h1
  case piece2 =>
    rw [coord0]
    refine (chunk1 _ (quo_lt t) _ _ _ k l).trans ?_
    exact lane_cell _ 256 (by norm_num) _ _ _ _ _ (fun r n => by pointwise; blk_ext) _ _ _ _ h0 h1
  case piece3 =>
    refine (chunk0 _ _ _ _ k l).trans ?_
    rw [coord0]
    exact lane_cell _ 0 (by norm_num) _ _ _ _ _ (fun r n => by pointwise; blk_ext) _ _ _ _ (h0.trans (Nat.zero_add _).symm) h1

/-- Every point writes its block's lanes. -/
theorem out_eq (c : Dev nD) (t : Fin cfg0.N) (q : S1024x640.Idx) :
    (outsAt0 m c t.val t.isLt).1 q
      = cell (t.val / 17) (panel (V m c main_arg0) ⟨t.val / 17, quo_lt t⟩) (iblk m c 3 t) (iblk m c 4 t) (iblk m c 5 t) (q 0) (q 1) := by
  by_cases h0 : t.val % 17 = 0
  · exact out_A m c t h0 q
  · exact out_B m c t h0 q

end Cert.FfnUpIdeal.Whole
end
-- ==== Proof.FfnUpRef.lean ====
/- The feed-forward reference, lane by lane: the gated three-tap convolution of the product, the latents and the context apart. -/
module

public import proofs.«01_k».proof.Defs
public import proofs.«01_k».proof.Proof.Sigmoid
public import proofs.«01_k».proof.Proof.Gen.RefFfnUpIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefFfnUpIdeal.Whole

open Cert.Sigmoid (glu)
open Cert.RefFfnUpIdeal Cert.RefFfnUpIdeal.Gen Idealize.ShloMosaic.StableHlo

/-- The latents' part of the product of the hidden states by the weights, with a row of zeros before and after. -/
def padLat (H : Vec Ideal S17408x4096 .bf16) (W : Vec Ideal S2x4096x21760 .f32) : FVec Ideal S4x4098x21760 .f32 :=
  pad S4x4098x21760 ![0, 1, 0] ![0, 1, 0] ![0, 0, 0] (Host.dotGeneral dot_S4x4096x4096_S4096x21760_S4x4096x21760_2_0_01_1_n_n none
    (extractStridedSlice S4x4096x4096 ![0, 0, 0]
    (extf .f32 (shapeCast _ H shapeCasts_S17408x4096_S4x4352x4096) bitsLt_bf16_f32) slices_S4x4352x4096_S4x4096x4096_0_0_0)
    (extf .f32 (truncf .bf16 (shapeCast _
    (extractStridedSlice S1x4096x21760 ![0, 0, 0] W slices_S2x4096x21760_S1x4096x21760_0_0_0) shapeCasts_S1x4096x21760_S4096x21760) bitsLt_bf16_f32) bitsLt_bf16_f32)) (sitofp .f32 (constantI S_ 32 0#32)) pads_S4x4096x21760_S4x4098x21760_000_110_000 h_S_

/-- The latents' convolution. -/
def convLat (H : Vec Ideal S17408x4096 .bf16) (W : Vec Ideal S2x4096x21760 .f32) (C : Vec Ideal S2x3x21760 .f32) (B : Vec Ideal S2x21760 .f32) : FVec Ideal S4x4096x21760 .f32 :=
  addf (addf (addf
    (mulf
    (extractStridedSlice S4x4096x21760 ![0, 0, 0] (padLat H W) slices_S4x4098x21760_S4x4096x21760_0_0_0)
      (broadcastInDim S4x4096x21760 ![0, 1, 2] bcast_S1x1x21760_S4x4096x21760_0_1_2 (broadcastInDim S1x1x21760 ![2] bcast_S21760_S1x1x21760_2 (shapeCast _
    (extractStridedSlice S1x1x21760 ![0, 0, 0] C slices_S2x3x21760_S1x1x21760_0_0_0) shapeCasts_S1x1x21760_S21760))))
    (mulf
    (extractStridedSlice S4x4096x21760 ![0, 1, 0] (padLat H W) slices_S4x4098x21760_S4x4096x21760_0_1_0)
      (broadcastInDim S4x4096x21760 ![0, 1, 2] bcast_S1x1x21760_S4x4096x21760_0_1_2 (broadcastInDim S1x1x21760 ![2] bcast_S21760_S1x1x21760_2 (shapeCast _
    (extractStridedSlice S1x1x21760 ![0, 1, 0] C slices_S2x3x21760_S1x1x21760_0_1_0) shapeCasts_S1x1x21760_S21760)))))
    (mulf
    (extractStridedSlice S4x4096x21760 ![0, 2, 0] (padLat H W) slices_S4x4098x21760_S4x4096x21760_0_2_0)
      (broadcastInDim S4x4096x21760 ![0, 1, 2] bcast_S1x1x21760_S4x4096x21760_0_1_2 (broadcastInDim S1x1x21760 ![2] bcast_S21760_S1x1x21760_2 (shapeCast _
    (extractStridedSlice S1x1x21760 ![0, 2, 0] C slices_S2x3x21760_S1x1x21760_0_2_0) shapeCasts_S1x1x21760_S21760)))))
      (broadcastInDim S4x4096x21760 ![0, 1, 2] bcast_S1x1x21760_S4x4096x21760_0_1_2 (broadcastInDim S1x1x21760 ![2] bcast_S21760_S1x1x21760_2 (shapeCast _
    (extractStridedSlice S1x21760 ![0, 0] B slices_S2x21760_S1x21760_0_0) shapeCasts_S1x21760_S21760)))

/-- The latents' gated result. -/
def outLat (H : Vec Ideal S17408x4096 .bf16) (W : Vec Ideal S2x4096x21760 .f32) (C : Vec Ideal S2x3x21760 .f32) (B : Vec Ideal S2x21760 .f32) : FVec Ideal S4x4096x10880 .f32 :=
  mulf
    (mulf
    (extractStridedSlice S4x4096x10880 ![0, 0, 0] (convLat H W C B) slices_S4x4096x21760_S4x4096x10880_0_0_0) (Host.divf
      (broadcastInDim S4x4096x10880 ![] bcast_S_S4x4096x10880 (constant S_ .f32 0x3F800000#32)) (addf
      (broadcastInDim S4x4096x10880 ![] bcast_S_S4x4096x10880 (constant S_ .f32 0x3F800000#32)) (Host.exp (Host.negf
    (extractStridedSlice S4x4096x10880 ![0, 0, 0] (convLat H W C B) slices_S4x4096x21760_S4x4096x10880_0_0_0))))))
    (extractStridedSlice S4x4096x10880 ![0, 0, 10880] (convLat H W C B) slices_S4x4096x21760_S4x4096x10880_0_0_10880)

/-- The context's part of the product, padded likewise. -/
def padCtx (H : Vec Ideal S17408x4096 .bf16) (W : Vec Ideal S2x4096x21760 .f32) : FVec Ideal S4x258x21760 .f32 :=
  pad S4x258x21760 ![0, 1, 0] ![0, 1, 0] ![0, 0, 0] (Host.dotGeneral dot_S4x256x4096_S4096x21760_S4x256x21760_2_0_01_1_n_n none
    (extractStridedSlice S4x256x4096 ![0, 4096, 0]
    (extf .f32 (shapeCast _ H shapeCasts_S17408x4096_S4x4352x4096) bitsLt_bf16_f32) slices_S4x4352x4096_S4x256x4096_0_4096_0)
    (extf .f32 (truncf .bf16 (shapeCast _
    (extractStridedSlice S1x4096x21760 ![0, 0, 0] W slices_S2x4096x21760_S1x4096x21760_0_0_0) shapeCasts_S1x4096x21760_S4096x21760) bitsLt_bf16_f32) bitsLt_bf16_f32)) (sitofp .f32 (constantI S_ 32 0#32)) pads_S4x256x21760_S4x258x21760_000_110_000 h_S_

/-- The context's convolution. -/
def convCtx (H : Vec Ideal S17408x4096 .bf16) (W : Vec Ideal S2x4096x21760 .f32) (C : Vec Ideal S2x3x21760 .f32) (B : Vec Ideal S2x21760 .f32) : FVec Ideal S4x256x21760 .f32 :=
  addf (addf (addf
    (mulf
    (extractStridedSlice S4x256x21760 ![0, 0, 0] (padCtx H W) slices_S4x258x21760_S4x256x21760_0_0_0)
      (broadcastInDim S4x256x21760 ![0, 1, 2] bcast_S1x1x21760_S4x256x21760_0_1_2 (broadcastInDim S1x1x21760 ![2] bcast_S21760_S1x1x21760_2 (shapeCast _
    (extractStridedSlice S1x1x21760 ![0, 0, 0] C slices_S2x3x21760_S1x1x21760_0_0_0) shapeCasts_S1x1x21760_S21760))))
    (mulf
    (extractStridedSlice S4x256x21760 ![0, 1, 0] (padCtx H W) slices_S4x258x21760_S4x256x21760_0_1_0)
      (broadcastInDim S4x256x21760 ![0, 1, 2] bcast_S1x1x21760_S4x256x21760_0_1_2 (broadcastInDim S1x1x21760 ![2] bcast_S21760_S1x1x21760_2 (shapeCast _
    (extractStridedSlice S1x1x21760 ![0, 1, 0] C slices_S2x3x21760_S1x1x21760_0_1_0) shapeCasts_S1x1x21760_S21760)))))
    (mulf
    (extractStridedSlice S4x256x21760 ![0, 2, 0] (padCtx H W) slices_S4x258x21760_S4x256x21760_0_2_0)
      (broadcastInDim S4x256x21760 ![0, 1, 2] bcast_S1x1x21760_S4x256x21760_0_1_2 (broadcastInDim S1x1x21760 ![2] bcast_S21760_S1x1x21760_2 (shapeCast _
    (extractStridedSlice S1x1x21760 ![0, 2, 0] C slices_S2x3x21760_S1x1x21760_0_2_0) shapeCasts_S1x1x21760_S21760)))))
      (broadcastInDim S4x256x21760 ![0, 1, 2] bcast_S1x1x21760_S4x256x21760_0_1_2 (broadcastInDim S1x1x21760 ![2] bcast_S21760_S1x1x21760_2 (shapeCast _
    (extractStridedSlice S1x21760 ![0, 0] B slices_S2x21760_S1x21760_0_0) shapeCasts_S1x21760_S21760)))

/-- The context's gated result. -/
def outCtx (H : Vec Ideal S17408x4096 .bf16) (W : Vec Ideal S2x4096x21760 .f32) (C : Vec Ideal S2x3x21760 .f32) (B : Vec Ideal S2x21760 .f32) : FVec Ideal S4x256x10880 .f32 :=
  mulf
    (mulf
    (extractStridedSlice S4x256x10880 ![0, 0, 0] (convCtx H W C B) slices_S4x256x21760_S4x256x10880_0_0_0) (Host.divf
      (broadcastInDim S4x256x10880 ![] bcast_S_S4x256x10880 (constant S_ .f32 0x3F800000#32)) (addf
      (broadcastInDim S4x256x10880 ![] bcast_S_S4x256x10880 (constant S_ .f32 0x3F800000#32)) (Host.exp (Host.negf
    (extractStridedSlice S4x256x10880 ![0, 0, 0] (convCtx H W C B) slices_S4x256x21760_S4x256x10880_0_0_0))))))
    (extractStridedSlice S4x256x10880 ![0, 0, 10880] (convCtx H W C B) slices_S4x256x21760_S4x256x10880_0_0_10880)

/-- The reference's result, of its four arguments. -/
def whole (H : Vec Ideal S17408x4096 .bf16) (W : Vec Ideal S2x4096x21760 .f32) (C : Vec Ideal S2x3x21760 .f32) (B : Vec Ideal S2x21760 .f32) : FVec Ideal S17408x10880 .bf16 :=
  truncf .bf16 (shapeCast _ (concatenate S4x4352x10880 1 [⟨S4x4096x10880, (outLat H W C B)⟩, ⟨S4x256x10880, (outCtx H W C B)⟩] concatenates_S4x4096x10880_S4x256x10880_S4x4352x10880_d1) shapeCasts_S4x4352x10880_S17408x10880) bitsLt_bf16_f32

theorem res_eq (m' : (ℓ : Loc nD τ sig) → Buf (Elt Ideal) ℓ) (c : Dev nD) :
    Value.res_main_v84 m' c = whole (m' (c.tc.loc main_arg0)) (m' (c.tc.loc main_arg1)) (m' (c.tc.loc main_arg2)) (m' (c.tc.loc main_arg3)) := rfl

/-- The gated linear unit. -/
def glu (g v : EReal) : EReal := g * Ideal.div 1 (1 + Ideal.exp (-g)) * v

/-- One entry of the product of the hidden states by the weights, at token `R`. -/
def up (H : Vec Ideal S17408x4096 .bf16) (W : Vec Ideal S2x4096x21760 .f32) (R : ℕ) (N : Fin 21760) : EReal :=
  if h : R < 17408 then ∑ k : Fin 4096, H (ix2 ⟨R, h⟩ k) * W (ix3 0 k N) else 0

/-- One lane of the convolution at token `R`: position `R % 4352` of its image, the latents at 0 to 4095 and the context at 4096 to 4351. -/
def row (H : Vec Ideal S17408x4096 .bf16) (W : Vec Ideal S2x4096x21760 .f32) (C : Vec Ideal S2x3x21760 .f32) (B : Vec Ideal S2x21760 .f32) (R : ℕ) (N : Fin 21760) : EReal :=
  (if R % 4352 = 0 ∨ R % 4352 = 4096 then 0 else up H W (R - 1) N * C (ix3 0 0 N)) + up H W R N * C (ix3 0 1 N)
    + (if R % 4352 = 4095 ∨ R % 4352 = 4351 then 0 else up H W (R + 1) N * C (ix3 0 2 N)) + B (ix2 0 N)

theorem zero_word : (FloatOps.sitofp (F := Ideal) FTy.f32 (0#32) : EReal) = 0 := by
  simp [FloatOps.sitofp]

/-- A masked factor is a masked product. -/
theorem cut {p q : Prop} [Decidable p] [Decidable q] (f : ℕ → EReal) {x y : ℕ} (c : EReal) (h : p ↔ ¬ q) (e : p → x = y) :
    (if p then f x else 0) * c = if q then 0 else f y * c := by
  by_cases hp : p
  · rw [if_pos hp, if_neg (h.mp hp), e hp]
  · rw [if_neg hp, if_pos (not_not.mp fun hq => hp (h.mpr hq)), zero_mul]

/-- The padded product of the latents: zero in the first and the last row. -/
theorem padLat_at (H : Vec Ideal S17408x4096 .bf16) (W : Vec Ideal S2x4096x21760 .f32) (b : Fin 4) (p : Fin 4098) (N : Fin 21760) :
    padLat H W (ix3 b p N) = if 1 ≤ p.val ∧ p.val ≤ 4096 then up H W (b.val * 4352 + (p.val - 1)) N else 0 := by
  by_cases h : 1 ≤ p.val ∧ p.val ≤ 4096
  · rw [if_pos h, up, dif_pos (by omega)]
    pointwise [padLat]
    rw [dif_pos (by omega)]

  · rw [if_neg h]
    pointwise [padLat]
    rw [dif_neg (by omega)]
    exact zero_word

/-- The convolution of the latents, lane by lane. -/
theorem convLat_at (H : Vec Ideal S17408x4096 .bf16) (W : Vec Ideal S2x4096x21760 .f32) (C : Vec Ideal S2x3x21760 .f32) (B : Vec Ideal S2x21760 .f32) (b : Fin 4) (q : Fin 4096) (N : Fin 21760) :
    convLat H W C B (ix3 b q N) = row H W C B (b.val * 4352 + q.val) N := by
  have e : (b.val * 4352 + q.val) % 4352 = q.val := by omega
  pointwise [convLat]
  simp only [padLat_at, row, e]
  refine congrArg₂ (· + ·) (congrArg₂ (· + ·) (congrArg₂ (· + ·) ?_ ?_) ?_) rfl
  · exact cut (fun r => up H W r N) _ (by omega) (fun _ => by omega)
  · rw [if_pos (by omega)]
    congr 2
    omega
  · exact cut (fun r => up H W r N) _ (by omega) (fun _ => by omega)

/-- The gated result of the latents, lane by lane. -/
theorem outLat_at (H : Vec Ideal S17408x4096 .bf16) (W : Vec Ideal S2x4096x21760 .f32) (C : Vec Ideal S2x3x21760 .f32) (B : Vec Ideal S2x21760 .f32) (b : Fin 4) (q : Fin 4096) (N : Fin 10880) :
    outLat H W C B (ix3 b q N) = glu (row H W C B (b.val * 4352 + q.val) ⟨N.val, by omega⟩) (row H W C B (b.val * 4352 + q.val) ⟨10880 + N.val, by omega⟩) := by
  pointwise [outLat]
  simp only [convLat_at, glu]

/-- The padded product of the context: zero in the first and the last row. -/
theorem padCtx_at (H : Vec Ideal S17408x4096 .bf16) (W : Vec Ideal S2x4096x21760 .f32) (b : Fin 4) (p : Fin 258) (N : Fin 21760) :
    padCtx H W (ix3 b p N) = if 1 ≤ p.val ∧ p.val ≤ 256 then up H W (b.val * 4352 + 4096 + (p.val - 1)) N else 0 := by
  by_cases h : 1 ≤ p.val ∧ p.val ≤ 256
  · rw [if_pos h, up, dif_pos (by omega)]
    pointwise [padCtx]
    rw [dif_pos (by omega)]
    blk_point []
  · rw [if_neg h]
    pointwise [padCtx]
    rw [dif_neg (by omega)]
    exact zero_word

/-- The convolution of the context, lane by lane. -/
theorem convCtx_at (H : Vec Ideal S17408x4096 .bf16) (W : Vec Ideal S2x4096x21760 .f32) (C : Vec Ideal S2x3x21760 .f32) (B : Vec Ideal S2x21760 .f32) (b : Fin 4) (q : Fin 256) (N : Fin 21760) :
    convCtx H W C B (ix3 b q N) = row H W C B (b.val * 4352 + 4096 + q.val) N := by
  have e : (b.val * 4352 + 4096 + q.val) % 4352 = 4096 + q.val := by omega
  pointwise [convCtx]
  simp only [padCtx_at, row, e]
  refine congrArg₂ (· + ·) (congrArg₂ (· + ·) (congrArg₂ (· + ·) ?_ ?_) ?_) rfl
  · exact cut (fun r => up H W r N) _ (by omega) (fun _ => by omega)
  · rw [if_pos (by omega)]
    congr 2
    omega
  · exact cut (fun r => up H W r N) _ (by omega) (fun _ => by omega)

/-- The gated result of the context, lane by lane. -/
theorem outCtx_at (H : Vec Ideal S17408x4096 .bf16) (W : Vec Ideal S2x4096x21760 .f32) (C : Vec Ideal S2x3x21760 .f32) (B : Vec Ideal S2x21760 .f32) (b : Fin 4) (q : Fin 256) (N : Fin 10880) :
    outCtx H W C B (ix3 b q N) = glu (row H W C B (b.val * 4352 + 4096 + q.val) ⟨N.val, by omega⟩) (row H W C B (b.val * 4352 + 4096 + q.val) ⟨10880 + N.val, by omega⟩) := by
  pointwise [outCtx]
  simp only [convCtx_at, glu]

/-- The reference's result, lane by lane. -/
theorem whole_at (H : Vec Ideal S17408x4096 .bf16) (W : Vec Ideal S2x4096x21760 .f32) (C : Vec Ideal S2x3x21760 .f32) (B : Vec Ideal S2x21760 .f32) (R : Fin 17408) (N : Fin 10880) :
    whole H W C B (ix2 R N) = glu (row H W C B R.val ⟨N.val, by omega⟩) (row H W C B R.val ⟨10880 + N.val, by omega⟩) := by
  pointwise [whole]
  simp only [outLat_at, outCtx_at]
  split_ifs with h
  · rw [show R.val / 4352 * 4352 + R.val % 4352 = R.val by omega]
  · rw [show R.val / 4352 * 4352 + 4096 + (R.val % 4352 - 4096) = R.val by omega]

end Cert.RefFfnUpIdeal.Whole
end
-- ==== Proof.FfnUp.lean ====
/- The feed-forward expansion: the array that the blocked call leaves is the gated three-tap convolution of the whole product. -/
module

public import proofs.«01_k».proof.Defs
public import proofs.«01_k».proof.Proof.Sigmoid
public import proofs.«01_k».proof.Proof.Gen.FfnUp.Frame
public import proofs.«01_k».proof.Proof.Gen.FfnUpIdeal.Value
public import proofs.«01_k».proof.Proof.Gen.RefFfnUpIdeal.Run
public import Idealize.ShloMosaic.Lib.Pipeline.ValueKit
public import Idealize.ShloMosaic.Lib.Claim
public import Idealize.ShloMosaic.Lib.Pointwise
public import proofs.«01_k».proof.Proof.FfnUpBlock
public import proofs.«01_k».proof.Proof.FfnUpRef

@[expose] public section

set_option maxRecDepth 16384

noncomputable section

open Idealize.ShloMosaic Idealize.ShloMosaic.TcCoe Idealize.SL.Sem
open Idealize.ShloMosaic.Pipeline (Dat)

namespace Cert.FfnUpIdeal.Whole

open Cert.FfnUpIdeal Cert.FfnUpIdeal.Gen
open Cert.RefFfnUpIdeal.Whole (up row)

variable (m : (ℓ : Loc nD τ sig) → Buf (Elt Ideal) ℓ)

/-! The paired layout: column pair `j` holds the gate columns `640 j` to `640 j + 639`, then the value columns of the same numbers. -/

theorem w_gate (c : Dev nD) (k : Fin 4096) (j : Fin 17) (l : Fin 640) :
    V m c main_v10 (ix2 k ⟨j.val * 1280 + l.val, by omega⟩) = m (c.tc.loc main_arg1) (ix3 0 k ⟨j.val * 640 + l.val, by omega⟩) := by
  entry_read
  pointwise
  blk_point []

theorem w_val (c : Dev nD) (k : Fin 4096) (j : Fin 17) (l : Fin 640) :
    V m c main_v10 (ix2 k ⟨j.val * 1280 + (640 + l.val), by omega⟩) = m (c.tc.loc main_arg1) (ix3 0 k ⟨10880 + (j.val * 640 + l.val), by omega⟩) := by
  entry_read
  pointwise
  blk_point []

theorem cw_gate (c : Dev nD) (k : Fin 3) (j : Fin 17) (l : Fin 640) :
    V m c main_v20 (ix2 k ⟨j.val * 1280 + l.val, by omega⟩) = m (c.tc.loc main_arg2) (ix3 0 k ⟨j.val * 640 + l.val, by omega⟩) := by
  entry_read
  pointwise
  blk_point []

theorem cw_val (c : Dev nD) (k : Fin 3) (j : Fin 17) (l : Fin 640) :
    V m c main_v20 (ix2 k ⟨j.val * 1280 + (640 + l.val), by omega⟩) = m (c.tc.loc main_arg2) (ix3 0 k ⟨10880 + (j.val * 640 + l.val), by omega⟩) := by
  entry_read
  pointwise
  blk_point []

theorem cb_gate (c : Dev nD) (j : Fin 17) (l : Fin 640) :
    V m c main_v31 (ix2 0 ⟨j.val * 1280 + l.val, by omega⟩) = m (c.tc.loc main_arg3) (ix2 0 ⟨j.val * 640 + l.val, by omega⟩) := by
  entry_read
  pointwise
  blk_point []

theorem cb_val (c : Dev nD) (j : Fin 17) (l : Fin 640) :
    V m c main_v31 (ix2 0 ⟨j.val * 1280 + (640 + l.val), by omega⟩) = m (c.tc.loc main_arg3) (ix2 0 ⟨10880 + (j.val * 640 + l.val), by omega⟩) := by
  entry_read
  pointwise
  blk_point []

/-- The column pair of a grid point. -/
def pr (t : Fin cfg0.N) : Fin 17 := ⟨t.val % 17, Nat.mod_lt _ (by norm_num)⟩

/-- The windows' blocks are the column pair's columns. -/
theorem w_blk (c : Dev nD) (t : Fin cfg0.N) (k : Fin 4096) (n : Fin 1280) :
    iblk m c 3 t (ix2 k n) = V m c main_v10 (ix2 k ⟨(pr t).val * 1280 + n.val, by omega⟩) := by
  blk_point [iblk, idx t, pr]

theorem cw_blk (c : Dev nD) (t : Fin cfg0.N) (k : Fin 3) (n : Fin 1280) :
    iblk m c 4 t (ix2 k n) = V m c main_v20 (ix2 k ⟨(pr t).val * 1280 + n.val, by omega⟩) := by
  blk_point [iblk, idx t, pr]

theorem cb_blk (c : Dev nD) (t : Fin cfg0.N) (n : Fin 1280) :
    iblk m c 5 t (ix2 0 n) = V m c main_v31 (ix2 0 ⟨(pr t).val * 1280 + n.val, by omega⟩) := by
  blk_point [iblk, idx t, pr]

/-- Where the output's block lies. -/
theorem out_blk (t : Fin cfg0.N) (r : Fin 1024) (l : Fin 640) (f : Vec Ideal S17408x10880 .bf16) :
    f (ix2 ⟨1024 * (t.val / 17) + r.val, by have := quo_lt t; omega⟩ ⟨(pr t).val * 640 + l.val, by omega⟩)
      = f ((win0_6.blk t).view.emb (ix2 r l)) := by
  blk_point [idx t, pr]

/-- One entry of the product of a row block's panel by a block of columns. -/
theorem prod_at (H : Vec Ideal S17408x4096 .bf16) (i : Fin 17) (W : Vec Ideal S4096x1280 .bf16) (a : Fin 1056) (n : Fin 1280) :
    k0_pay5 (F := Ideal) (panel H i) W (ix2 a n) = ∑ k : Fin 4096, H (ix2 ⟨tok i.val a.val, tok_lt i.isLt a.isLt⟩ k) * W (ix2 k n) := by
  pointwise [k0_pay5, panel]

/-- A gate lane of the product, at the token its row holds. -/
theorem prod_gate (c : Dev nD) (t : Fin cfg0.N) (i : Fin 17) (a : Fin 1056) (l : Fin 640) (R : ℕ) (hR : tok i.val a.val = R) :
    k0_pay5 (F := Ideal) (panel (V m c main_arg0) i) (iblk m c 3 t) (ix2 a ⟨l.val, by omega⟩)
      = up (m (c.tc.loc main_arg0)) (m (c.tc.loc main_arg1)) R ⟨(pr t).val * 640 + l.val, by omega⟩ := by
  subst hR
  rw [prod_at, up, dif_pos (tok_lt i.isLt a.isLt)]
  exact Finset.sum_congr rfl fun k _ => by rw [w_blk, w_gate]; rfl

/-- A value lane likewise. -/
theorem prod_val (c : Dev nD) (t : Fin cfg0.N) (i : Fin 17) (a : Fin 1056) (l : Fin 640) (R : ℕ) (hR : tok i.val a.val = R) :
    k0_pay5 (F := Ideal) (panel (V m c main_arg0) i) (iblk m c 3 t) (ix2 a ⟨640 + l.val, by omega⟩)
      = up (m (c.tc.loc main_arg0)) (m (c.tc.loc main_arg1)) R ⟨10880 + ((pr t).val * 640 + l.val), by omega⟩ := by
  subst hR
  rw [prod_at, up, dif_pos (tok_lt i.isLt a.isLt)]
  exact Finset.sum_congr rfl fun k _ => by rw [w_blk, w_val]; rfl

/-- One lane of the kernel's convolution is the reference's, wherever the three products are. -/
theorem tap_row (H : Vec Ideal S17408x4096 .bf16) (W : Vec Ideal S2x4096x21760 .f32) (C : Vec Ideal S2x3x21760 .f32) (B : Vec Ideal S2x21760 .f32)
    (cw : Vec Ideal S3x1280 .f32) (cb : Vec Ideal S1x1280 .f32) (n : Fin 1280) (N : Fin 21760) (R : ℕ) (hC : ∀ k : Fin 3, cw (ix2 k n) = C (ix3 0 k N))
    (hB : cb (ix2 0 n) = B (ix2 0 N)) (x y z : EReal) (hx : R % 4352 ≠ 0 → x = up H W (R - 1) N) (hy : y = up H W R N)
    (hz : R % 4352 ≠ 4351 → z = up H W (R + 1) N) : tap (R % 4352) cw cb x y z n = row H W C B R N := by
  unfold tap row
  rw [hC, hC, hC, hB, hy]
  refine congrArg₂ (· + ·) (congrArg₂ (· + ·) (congrArg₂ (· + ·) ?_ rfl) ?_) rfl
  · split_ifs with h
    · rfl
    · rw [hx (fun e => h (Or.inl e))]
  · split_ifs with h
    · rfl
    · rw [hz (fun e => h (Or.inr e))]

/-- Every point writes the reference's lanes. -/
theorem cell_eq (c : Dev nD) (t : Fin cfg0.N) (r : Fin 1024) (l : Fin 640) :
    cell (t.val / 17) (panel (V m c main_arg0) ⟨t.val / 17, quo_lt t⟩) (iblk m c 3 t) (iblk m c 4 t) (iblk m c 5 t) r l
      = Cert.RefFfnUpIdeal.Whole.whole (m (c.tc.loc main_arg0)) (m (c.tc.loc main_arg1)) (m (c.tc.loc main_arg2)) (m (c.tc.loc main_arg3))
          (ix2 ⟨1024 * (t.val / 17) + r.val, by have := quo_lt t; omega⟩ ⟨(pr t).val * 640 + l.val, by omega⟩) := by
  have ht := quo_lt t
  rw [Cert.RefFfnUpIdeal.Whole.whole_at]
  unfold cell
  refine congrArg₂ Cert.Sigmoid.glu ?_ ?_
  · refine tap_row _ _ _ _ _ _ _ _ _ (fun k => by rw [cw_blk, cw_gate]) (by rw [cb_blk, cb_gate]) _ _ _ (fun h => ?_) ?_ (fun h => ?_)
    all_goals refine prod_gate m c t _ _ _ _ ?_; unfold tok; simp only; split_ifs <;> omega
  · refine tap_row _ _ _ _ _ _ _ _ _ (fun k => by rw [cw_blk, cw_val]) (by rw [cb_blk, cb_val]) _ _ _ (fun h => ?_) ?_ (fun h => ?_)
    all_goals refine prod_val m c t _ _ _ _ ?_; unfold tok; simp only; split_ifs <;> omega

end Cert.FfnUpIdeal.Whole

namespace Cert.Proof.FfnUp

theorem frame_p : Cert.quiescent_FfnUp := fun m ρ _ => Cert.FfnUp.Gen.frame m ρ
theorem frame_pi : Cert.quiescent_FfnUpIdeal := fun m ρ _ => Cert.FfnUpIdeal.Gen.frame m ρ
theorem frame_ri : Cert.quiescent_RefFfnUpIdeal := fun m ρ _ =>
  (θ_run Cert.RefFfnUpIdeal.defs _ _).mono (fun r h => ⟨fun c => (h c).2, sem_eq_zero_of_no_sems (by decide) r.2⟩)
    (Cert.RefFfnUpIdeal.Value.run (F := Ideal) m ρ)
theorem preserves : Cert.preserves_FfnUp_FfnUpIdeal := trivial

open Cert.FfnUpIdeal Cert.FfnUpIdeal.Gen Cert.FfnUpIdeal.Whole in
theorem algebraic : Cert.algebraic_FfnUpIdeal_RefFfnUpIdeal := by
  pair_intro
  · run_from Cert.FfnUpIdeal.Gen.run_main m g
  · run_from Cert.RefFfnUpIdeal.Value.run m' g'
    symm
    refine (dats m 0 c).arrAt_eq_of_covers 6 _ (by decide +kernel) fun t _ y => ?_
    blk_simp
    rw [after0_6, out_eq, Cert.RefFfnUpIdeal.Whole.res_eq]
    obtain ⟨r, l, rfl⟩ : ∃ (r : Fin 1024) (l : Fin 640), y = ix2 r l := ⟨y 0, y 1, by funext a; fin_cases a <;> rfl⟩
    refine (cell_eq m c t r l).trans ?_
    obtain ⟨h0, h1, h2, h3⟩ := hagree c
    rw [h0, h1, h2, h3]
    exact out_blk t r l _

end Cert.Proof.FfnUp
end
-- ==== Proof.Softmax.lean ====
/- Softmax on the extended reals: the kernels' form, in powers of two and normalised after the product, is the reference's,
   in powers of e and normalised before it — on every extended real. -/
module

public import Idealize.ShloMosaic.PureOps.Ideal

@[expose] public section

noncomputable section

open Idealize.ShloMosaic

namespace Cert.Softmax

/-- A nonnegative real factor goes into a sum. -/
theorem real_mul_sum {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a s h ih =>
    rw [Finset.sum_insert h, Finset.sum_insert h, ← ih]
    exact EReal.left_distrib_of_nonneg_of_ne_top (by exact_mod_cast hr) (EReal.coe_ne_top r) _ _

/-- The change of base. -/
def L : ℝ := (Real.log 2)⁻¹

theorem L_pos : 0 < L := inv_pos.mpr (Real.log_pos (by norm_num))

theorem exp2_eq (x : EReal) : Ideal.exp2 ((L : EReal) * x) = Ideal.exp x := by
  induction x with
  | bot => rw [EReal.coe_mul_bot_of_pos L_pos]; rfl
  | top => rw [EReal.coe_mul_top_of_pos L_pos]; rfl
  | coe x =>
    rw [← EReal.coe_mul, Ideal.exp2_coe, Ideal.exp_coe]
    congr 1
    show (2 : ℝ) ^ (L * x) = _
    rw [Real.rpow_def_of_pos (by norm_num), ← mul_assoc, L, mul_inv_cancel₀ (Real.log_pos (by norm_num)).ne', one_mul]

theorem sup_scale {ι : Type*} (s : Finset ι) (f : ι → EReal) : (s.sup fun i => (L : EReal) * f i) = (L : EReal) * s.sup f := by
  refine (Finset.comp_sup_eq_sup_comp (fun x => (L : EReal) * x) ?_ ?_).symm
  · intro x y
    have hm : Monotone fun x : EReal => (L : EReal) * x := fun a b h => mul_le_mul_of_nonneg_left h (by exact_mod_cast L_pos.le)
    exact hm.map_sup x y
  · exact EReal.coe_mul_bot_of_pos L_pos

theorem scale_sub (x y : EReal) : (L : EReal) * x - (L : EReal) * y = (L : EReal) * (x - y) := by
  rw [sub_eq_add_neg, sub_eq_add_neg, EReal.left_distrib_of_nonneg_of_ne_top (by exact_mod_cast L_pos.le) (EReal.coe_ne_top L), mul_neg]

/-- A query scaled by a constant and the change of base gives the scaled score in base 2. -/
theorem scale_score {ι : Type*} [Fintype ι] (r : ℝ) (hr : 0 ≤ r) (q k : ι → EReal) :
    ∑ e, k e * (q e * ((r * L : ℝ) : EReal)) = (L : EReal) * ((∑ e, q e * k e) * (r : EReal)) := by
  rw [mul_comm (∑ e, q e * k e), ← mul_assoc, ← EReal.coe_mul, real_mul_sum _ _ (mul_nonneg L_pos.le hr), mul_comm r L]
  exact Finset.sum_congr rfl fun e _ => by rw [mul_comm (q e), mul_left_comm, mul_comm (k e)]

theorem exp_nonneg (x : EReal) : 0 ≤ Ideal.exp x := by
  induction x with
  | bot => exact le_refl _
  | top => exact le_top
  | coe x => rw [Ideal.exp_coe]; exact_mod_cast (Real.exp_pos x).le

theorem exp_le_one (x : EReal) (h : x ≤ 0) : Ideal.exp x ≤ 1 := by
  induction x with
  | bot => exact zero_le_one
  | top => exact absurd h (by simp)
  | coe x => rw [Ideal.exp_coe]; exact_mod_cast Real.exp_le_one_iff.mpr (by exact_mod_cast h)

theorem sub_le_zero (x y : EReal) (h : x ≤ y) : x - y ≤ 0 := by
  induction x <;> induction y <;> simp_all
  · rename_i a b; rw [← EReal.coe_sub]; exact_mod_cast sub_nonpos.mpr h

section
variable {ι : Type*} [Fintype ι]

/-- The normaliser of weights between 0 and 1 may be applied before the product or after it. -/
theorem normalise (w v : ι → EReal) (h0 : ∀ i, 0 ≤ w i) (h1 : ∀ i, w i ≤ 1) :
    (∑ i, w i * v i) * Ideal.div 1 (∑ i, w i) = ∑ i, w i * Ideal.div 1 (∑ i, w i) * v i := by
  by_cases hl : ∑ i, w i = 0
  · have hw : ∀ i, w i = 0 := fun i => (Finset.sum_eq_zero_iff_of_nonneg fun i _ => h0 i).mp hl i (Finset.mem_univ i)
    simp [hw]
  · have hle : ∑ i, w i ≤ ((Fintype.card ι : ℝ) : EReal) := by
      refine (Finset.sum_le_sum fun i _ => h1 i).trans ?_
      simp
    have hpos : 0 ≤ ∑ i, w i := Finset.sum_nonneg fun i _ => h0 i
    obtain ⟨l, hl'⟩ : ∃ l : ℝ, ∑ i, w i = (l : EReal) := by
      refine ⟨(∑ i, w i).toReal, (EReal.coe_toReal ?_ ?_).symm⟩
      · exact (lt_of_le_of_lt hle (EReal.coe_lt_top _)).ne
      · exact (lt_of_lt_of_le EReal.bot_lt_zero hpos).ne'
    rw [hl'] at hl hpos ⊢
    have hl0 : l ≠ 0 := by exact_mod_cast hl
    have hlp : 0 ≤ l := by exact_mod_cast hpos
    rw [Ideal.div_coe hl0, one_mul, mul_comm, real_mul_sum _ _ (by positivity)]
    exact Finset.sum_congr rfl fun i _ => by rw [← mul_assoc, mul_comm ((1 / l : ℝ) : EReal)]

/-- The weight of a score among all. -/
def weight (s : ι → EReal) (i : ι) : EReal := Ideal.exp (s i - Finset.univ.sup s)

/-- The weighted mean of values by the softmax of scores. -/
def attend (s v : ι → EReal) : EReal := ∑ i, weight s i * Ideal.div 1 (∑ j, weight s j) * v i

/-- The kernels' weight: the power of two of scores in that base. -/
def weight2 (s : ι → EReal) (i : ι) : EReal := Ideal.exp2 (s i - Finset.univ.sup s)

theorem weight2_eq (s : ι → EReal) (i : ι) : weight2 (fun i => (L : EReal) * s i) i = weight s i := by
  rw [weight2, weight, sup_scale, scale_sub, exp2_eq]

theorem attend_eq (s v : ι → EReal) :
    (∑ i, weight2 (fun i => (L : EReal) * s i) i * v i) * Ideal.div 1 (∑ i, weight2 (fun i => (L : EReal) * s i) i) = attend s v := by
  simp only [weight2_eq]
  exact normalise _ _ (fun i => exp_nonneg _) fun i => exp_le_one _ (sub_le_zero _ _ (Finset.le_sup (Finset.mem_univ i)))

end

/-! Keys that take no part: a score of minus infinity has no weight. -/

section
variable {ι κ : Type*} [Fintype ι] [Fintype κ]

theorem weight_bot (s : ι → EReal) (i : ι) (h : s i = ⊥) : weight s i = 0 := by
  rw [weight, h, sub_eq_add_neg, EReal.bot_add]
  rfl

/-- The mean over all keys is the mean over those that an injection reaches, if the scores of the others are minus infinity. -/
theorem attend_embed (s v : ι → EReal) (e : κ → ι) (he : Function.Injective e) (hs : ∀ i, i ∉ Set.range e → s i = ⊥) :
    attend s v = attend (s ∘ e) (v ∘ e) := by
  have hsup : Finset.univ.sup s = Finset.univ.sup (s ∘ e) := by
    refine le_antisymm (Finset.sup_le fun i _ => ?_) (Finset.sup_le fun k _ => Finset.le_sup (f := s) (Finset.mem_univ (e k)))
    by_cases hi : i ∈ Set.range e
    · obtain ⟨k, rfl⟩ := hi
      exact Finset.le_sup (f := s ∘ e) (Finset.mem_univ k)
    · rw [hs i hi]
      exact bot_le
  have hw : ∀ k, weight (s ∘ e) k = weight s (e k) := fun k => by rw [weight, weight, hsup, Function.comp_apply]
  have h0 : ∀ i, i ∉ Set.range e → weight s i = 0 := fun i hi => weight_bot s i (hs i hi)
  have hl : ∑ k, weight (s ∘ e) k = ∑ i, weight s i := Fintype.sum_of_injective e he _ _ h0 hw
  rw [attend, attend, hl]
  refine (Fintype.sum_of_injective e he _ _ (fun i hi => ?_) fun k => ?_).symm
  · rw [h0 i hi, zero_mul, zero_mul]
  · rw [hw, Function.comp_apply]

end

/-! Sums and maxima over rows in groups of eight. -/

theorem sum_rows (n : ℕ) (f : Fin (n * 8) → EReal) : (∑ b : Fin 8, ∑ a : Fin n, f ⟨a.val * 8 + b.val, by omega⟩) = ∑ j, f j := by
  rw [Finset.sum_comm, ← Fintype.sum_prod_type', ← finProdFinEquiv.sum_comp]
  exact Finset.sum_congr rfl fun p _ => congrArg f (Fin.ext (by simp [finProdFinEquiv]; omega))

theorem sup_rows (n : ℕ) (f : Fin (n * 8) → EReal) :
    (Finset.univ.sup fun b : Fin 8 => Finset.univ.sup fun a : Fin n => f ⟨a.val * 8 + b.val, by omega⟩) = Finset.univ.sup f := by
  refine le_antisymm (Finset.sup_le fun b _ => Finset.sup_le fun a _ => Finset.le_sup (f := f) (Finset.mem_univ _)) (Finset.sup_le fun j _ => ?_)
  refine le_trans (le_of_eq (congrArg f (Fin.ext ?_))) ((Finset.le_sup (f := fun a : Fin n => f ⟨a.val * 8 + (j.val % 8), by omega⟩)
    (Finset.mem_univ ⟨j.val / 8, by omega⟩)).trans (Finset.le_sup (f := fun b : Fin 8 => Finset.univ.sup fun a : Fin n => f ⟨a.val * 8 + b.val, by omega⟩)
    (Finset.mem_univ ⟨j.val % 8, by omega⟩)))
  show j.val = j.val / 8 * 8 + j.val % 8
  omega

end Cert.Softmax

end
-- ==== Proof.Consts.lean ====
/- The constants of the attention programs, as the extended reals that their patterns denote. -/
module

public import Idealize.ShloMosaic.PureOps.Ideal

@[expose] public section

noncomputable section

open Idealize.ShloMosaic

namespace Cert.Consts

/-- The start of a maximum. -/
theorem neg_inf : Ideal.ofBits .f32 0xFF800000#32 = ⊥ := by
  simp [Ideal.ofBits, Ideal.ieee]

theorem c128 : Ideal.ofBits .f32 0x43000000#32 = ((128 : ℝ) : EReal) := by
  simp [Ideal.ofBits, Ideal.ieee, -EReal.coe_mul]; norm_num

/-- Division by a root is the product with its reciprocal. -/
theorem div_sqrt (r : ℝ) (h : 0 < r) (x : EReal) : Ideal.div x (Ideal.sqrt (r : EReal)) = x * ((1 / Real.sqrt r : ℝ) : EReal) := by
  rw [Ideal.sqrt_coe, if_neg h.not_gt, Ideal.div_coe (Real.sqrt_pos.mpr h).ne']

end Cert.Consts

end
-- ==== Proof.NaCtxBlock.lean ====
/- Context attention of the neighbourhood branch: what one block of the call computes. -/
module

public import proofs.«01_k».proof.Defs
public import proofs.«01_k».proof.Proof.Softmax
public import proofs.«01_k».proof.Proof.Consts
public import proofs.«01_k».proof.Proof.Gen.NaCtxIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NaCtxIdeal.Whole

open Cert.NaCtxIdeal Cert.NaCtxIdeal.Gen
open Cert.Softmax (L attend weight weight2)

variable (m : (ℓ : Loc nD τ sig) → Buf (Elt Ideal) ℓ)

/-- Which blocks each grid point works on: a sample's context rows; a head's queries, keys and values. -/
theorem idx : ∀ t : Fin cfg0.N, win0_0.index t = ![t.val / 8, 16, t.val % 8] ∧ win0_1.index t = ![t.val / 8, 16, 8 + t.val % 8]
    ∧ win0_2.index t = ![t.val / 8, 16, 16 + t.val % 8] ∧ win0_3.index t = ![t.val / 8, t.val % 8] :=
  (by decide +kernel : ∀ t : Fin grid0.N, _)

/-- The scale with the change of base. -/
def C : EReal := (((Real.sqrt 128)⁻¹ * (Real.log 2)⁻¹ : ℝ) : EReal)

theorem scale_named : Named.named (F := Ideal) κ "scale_log2e" (φ := .f32) 0x3E0293EE#32 = C :=
  IdealRules.named_const.ideal_named_scalar _ _ _ _ rfl

/-- A key's score, in base 2. -/
theorem pay4_at (q k : Vec Ideal S1x256x128 .bf16) (j n : Fin 256) :
    k0_pay4 (F := Ideal) q k (ix3 0 j n) = ∑ e : Fin 128, k (ix3 0 j e) * (q (ix3 0 n e) * C) := by
  pointwise [k0_pay4]
  rw [scale_named]

/-- A key's weight before the normalisation: the maximum is taken over rows in groups of eight. -/
theorem pay5_at (v : Vec Ideal S1x256x256 .f32) (j n : Fin 256) :
    k0_pay5 (F := Ideal) v v (ix2 j n) = weight2 (fun j : Fin 256 => v (ix3 0 j n)) j := by
  pointwise [k0_pay5]
  rw [Cert.Consts.neg_inf]
  exact congrArg (fun s => Ideal.exp2 (v (ix3 0 j n) - s)) (Cert.Softmax.sup_rows 32 fun j => v (ix3 0 j n))

theorem pay6_at (v w : Vec Ideal S1x256x256 .f32) (j : Fin 8) (n : Fin 256) :
    k0_pay6 (F := Ideal) v w (ix2 j n) = ∑ a : Fin 32, k0_pay5 (F := Ideal) v w (ix2 ⟨a.val * 8 + j.val, by omega⟩ n) := by
  pointwise [k0_pay6]

theorem pay2_at (v : FVec Ideal S8x256 .f32) (w : Vec Ideal S128x256 .bf16) (u : Vec Ideal S1x256x256 .bf16) (n : Fin 256) (d : Fin 128) :
    k0_pay2 (F := Ideal) v w u (ix2 n d) = (∑ j : Fin 256, w (ix2 d j) * u (ix3 0 j n)) * Ideal.div 1 (∑ b : Fin 8, v (ix2 b n)) := by
  pointwise [k0_pay2]

theorem pay3_at (v : Vec Ideal S1x256x128 .bf16) (j : Fin 256) (d : Fin 128) : k0_pay3 (F := Ideal) v (ix2 d j) = v (ix3 0 j d) := by
  pointwise [k0_pay3]

theorem pay1_at (u : FVec Ideal S256x256 .bf16) (j n : Fin 256) : k0_pay1 (F := Ideal) u (ix3 0 j n) = u (ix2 j n) := by
  pointwise [k0_pay1]

theorem pay7_at (v w : Vec Ideal S1x256x256 .f32) (j n : Fin 256) : k0_pay7 (F := Ideal) v w (ix2 j n) = k0_pay5 (F := Ideal) v w (ix2 j n) := by
  pointwise [k0_pay7]

/-- The scores are in base 2. -/
theorem pay4_base (q k : Vec Ideal S1x256x128 .bf16) (j n : Fin 256) :
    k0_pay4 (F := Ideal) q k (ix3 0 j n) = (L : EReal) * ((∑ e : Fin 128, q (ix3 0 n e) * k (ix3 0 j e)) * ((1 / Real.sqrt 128 : ℝ) : EReal)) := by
  rw [pay4_at, ← Cert.Softmax.scale_score _ (by positivity), C, one_div]
  rfl

/-- One entry of a block from its queries, keys and values. -/
def blk (q k v : Vec Ideal S1x256x128 .bf16) (n : Fin 256) (d : Fin 128) : EReal :=
  attend (fun j : Fin 256 => (∑ e : Fin 128, q (ix3 0 n e) * k (ix3 0 j e)) * ((1 / Real.sqrt 128 : ℝ) : EReal)) fun j => v (ix3 0 j d)

/-- The block from its queries, keys and values. -/
theorem block_at (q k v : Vec Ideal S1x256x128 .bf16) (n : Fin 256) (d : Fin 128) :
    k0_pay2 (F := Ideal) (k0_pay6 (k0_pay4 q k) (k0_pay4 q k)) (k0_pay3 v) (k0_pay1 (k0_pay7 (k0_pay4 q k) (k0_pay4 q k))) (ix2 n d) = blk q k v n d := by
  rw [pay2_at, blk, ← Cert.Softmax.attend_eq]
  simp only [pay6_at, pay1_at, pay7_at, pay5_at, pay4_base, pay3_at]
  refine congrArg₂ (· * ·) (Finset.sum_congr rfl fun j _ => mul_comm _ _) (congrArg (Ideal.div 1) ?_)
  exact Cert.Softmax.sum_rows 32 fun j => weight2 _ j

theorem out_at (c : Dev nD) (t : Fin cfg0.N) (n : Fin 256) (d : Fin 128) :
    (outsAt0 m c t) (ix2 n d) = blk (iblk m c 0 t) (iblk m c 1 t) (iblk m c 2 t) n d := by
  rw [outsAt0]
  frame_open
  simp (disch := decide) only [↓ View.readCov_skip, ↓ View.readCov_cons_toLoadRect, ↓ View.readCov_fill]
  frame_out
  exact block_at _ _ _ n d

end Cert.NaCtxIdeal.Whole

end
-- ==== Proof.NaCtxRef.lean ====
/- Context attention of the neighbourhood branch: the reference's stages, entry by entry. -/
module

public import proofs.«01_k».proof.Defs
public import proofs.«01_k».proof.Proof.Softmax
public import proofs.«01_k».proof.Proof.Consts
public import proofs.«01_k».proof.Proof.Gen.RefNaCtxIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefNaCtxIdeal.Whole

open Cert.RefNaCtxIdeal Cert.RefNaCtxIdeal.Gen
open Cert.Softmax (attend weight)

/-! The reference's stages. -/

def scores (X : Vec Ideal S17408x3072 .bf16) : FVec Ideal S4x8x256x256 .f32 :=
  Host.divf (Host.dotGeneral dot_S4x256x8x128_S4x256x8x128_S4x8x256x256_3_3_1_1_02_02 none (shapeCast _ (extractStridedSlice S4x256x1024 ![0, 0, 0] (extf .f32 (extractStridedSlice S4x256x3072 ![0, 4096, 0] (shapeCast _ X shapeCasts_S17408x3072_S4x4352x3072) slices_S4x4352x3072_S4x256x3072_0_4096_0) bitsLt_bf16_f32) slices_S4x256x3072_S4x256x1024_0_0_0) shapeCasts_S4x256x1024_S4x256x8x128) (shapeCast _ (extractStridedSlice S4x256x1024 ![0, 0, 1024] (extf .f32 (extractStridedSlice S4x256x3072 ![0, 4096, 0] (shapeCast _ X shapeCasts_S17408x3072_S4x4352x3072) slices_S4x4352x3072_S4x256x3072_0_4096_0) bitsLt_bf16_f32) slices_S4x256x3072_S4x256x1024_0_0_1024) shapeCasts_S4x256x1024_S4x256x8x128)) (broadcastInDim S4x8x256x256 ![] bcast_S_S4x8x256x256 (Host.sqrt (constant S_ .f32 0x43000000#32)))

def powers (S : FVec Ideal S4x8x256x256 .f32) : FVec Ideal S4x8x256x256 .f32 :=
  Host.exp (subf S (broadcastInDim S4x8x256x256 ![0, 1, 2, 3] bcast_S4x8x256x1_S4x8x256x256_0_1_2_3 (broadcastInDim S4x8x256x1 ![0, 1, 2] bcast_S4x8x256_S4x8x256x1_0_1_2 (Host.reduce FloatOps.maximumf S (constant S_ .f32 0xFF800000#32) reducesTo_S4x8x256x256_S4x8x256_d3 h_S_))))

def vals (X : Vec Ideal S17408x3072 .bf16) : FVec Ideal S4x256x8x128 .f32 :=
  shapeCast _ (extractStridedSlice S4x256x1024 ![0, 0, 2048] (extf .f32 (extractStridedSlice S4x256x3072 ![0, 4096, 0] (shapeCast _ X shapeCasts_S17408x3072_S4x4352x3072) slices_S4x4352x3072_S4x256x3072_0_4096_0) bitsLt_bf16_f32) slices_S4x256x3072_S4x256x1024_0_0_2048) shapeCasts_S4x256x1024_S4x256x8x128

def outs (E : FVec Ideal S4x8x256x256 .f32) (V : FVec Ideal S4x256x8x128 .f32) : FVec Ideal S1024x1024 .bf16 :=
  truncf .bf16 (shapeCast _ (transpose S4x256x8x128 [0, 3, 1, 2] (Host.dotGeneral dot_S4x256x8x128_S4x8x256x256_S4x8x128x256_1_3_3_2_02_01 none V (extf .f32 (truncf .bf16 (mulf E (broadcastInDim S4x8x256x256 ![0, 1, 2, 3] bcast_S4x8x256x1_S4x8x256x256_0_1_2_3 (Host.divf (broadcastInDim S4x8x256x1 ![] bcast_S_S4x8x256x1 (constant S_ .f32 0x3F800000#32)) (broadcastInDim S4x8x256x1 ![0, 1, 2] bcast_S4x8x256_S4x8x256x1_0_1_2 (Host.reduceAdd E (constant S_ .f32 0x00000000#32) reducesTo_S4x8x256x256_S4x8x256_d3 h_S_))))) bitsLt_bf16_f32) bitsLt_bf16_f32)) transposes_S4x8x128x256_S4x256x8x128_0_3_1_2) shapeCasts_S4x256x8x128_S1024x1024) bitsLt_bf16_f32

def whole (X : Vec Ideal S17408x3072 .bf16) : FVec Ideal S1024x1024 .bf16 := outs (powers (scores X)) (vals X)

theorem res_eq (m' : (ℓ : Loc nD τ sig) → Buf (Elt Ideal) ℓ) (c : Dev nD) :
    Value.res_main_v29 m' c = whole (m' (c.tc.loc main_arg0)) := rfl

/-- The score of a context query and key of one head. -/
def score (X : Vec Ideal S17408x3072 .bf16) (b : Fin 4) (h : Fin 8) (q k : Fin 256) : EReal :=
  (∑ e : Fin 128, X (ix2 ⟨b.val * 4352 + (4096 + q.val), by omega⟩ ⟨h.val * 128 + e.val, by omega⟩)
    * X (ix2 ⟨b.val * 4352 + (4096 + k.val), by omega⟩ ⟨1024 + (h.val * 128 + e.val), by omega⟩)) * ((1 / Real.sqrt 128 : ℝ) : EReal)

theorem scores_at (X : Vec Ideal S17408x3072 .bf16) (b : Fin 4) (h : Fin 8) (q k : Fin 256) : scores X (ix4 b h q k) = score X b h q k := by
  pointwise [scores]
  rw [Cert.Consts.c128, Cert.Consts.div_sqrt 128 (by norm_num)]
  rfl

theorem powers_at (S : FVec Ideal S4x8x256x256 .f32) (b : Fin 4) (h : Fin 8) (q k : Fin 256) :
    powers S (ix4 b h q k) = weight (fun j : Fin 256 => S (ix4 b h q j)) k := by
  pointwise [powers]
  rw [Cert.Consts.neg_inf]
  rfl

theorem vals_at (X : Vec Ideal S17408x3072 .bf16) (b : Fin 4) (h : Fin 8) (k : Fin 256) (d : Fin 128) :
    vals X (ix4 b k h d) = X (ix2 ⟨b.val * 4352 + (4096 + k.val), by omega⟩ ⟨2048 + (h.val * 128 + d.val), by omega⟩) := by
  pointwise [vals]

theorem outs_at (E : FVec Ideal S4x8x256x256 .f32) (V : FVec Ideal S4x256x8x128 .f32) (b : Fin 4) (h : Fin 8) (q : Fin 256) (d : Fin 128) :
    outs E V (ix2 ⟨b.val * 256 + q.val, by omega⟩ ⟨h.val * 128 + d.val, by omega⟩)
      = ∑ k : Fin 256, E (ix4 b h q k) * Ideal.div 1 (∑ j : Fin 256, E (ix4 b h q j)) * V (ix4 b k h d) := by
  pointwise [outs]
  exact Finset.sum_congr rfl fun k _ => mul_comm _ _

theorem whole_at (X : Vec Ideal S17408x3072 .bf16) (b : Fin 4) (h : Fin 8) (q : Fin 256) (d : Fin 128) :
    whole X (ix2 ⟨b.val * 256 + q.val, by omega⟩ ⟨h.val * 128 + d.val, by omega⟩)
      = attend (score X b h q) fun k : Fin 256 => X (ix2 ⟨b.val * 4352 + (4096 + k.val), by omega⟩ ⟨2048 + (h.val * 128 + d.val), by omega⟩) := by
  rw [whole, outs_at]
  unfold attend
  refine Finset.sum_congr rfl fun k _ => ?_
  simp only [powers_at, scores_at, vals_at]

end Cert.RefNaCtxIdeal.Whole

end
-- ==== Proof.NaCtx.lean ====
/- Context attention of the neighbourhood branch: the array that the call leaves is the reference's. -/
module

public import proofs.«01_k».proof.Defs
public import proofs.«01_k».proof.Proof.NaCtxBlock
public import proofs.«01_k».proof.Proof.NaCtxRef
public import proofs.«01_k».proof.Proof.Gen.NaCtx.Frame
public import proofs.«01_k».proof.Proof.Gen.NaCtxIdeal.Value
public import proofs.«01_k».proof.Proof.Gen.RefNaCtxIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NaCtxIdeal.Whole

open Cert.NaCtxIdeal Cert.NaCtxIdeal.Gen
open Cert.RefNaCtxIdeal.Whole (score)

variable (m : (ℓ : Loc nD τ sig) → Buf (Elt Ideal) ℓ)

theorem host0 (c : Dev nD) (b : Fin 4) (r : Fin 4352) (n : Fin 3072) :
    V m c main_v0 (ix3 b r n) = m (c.tc.loc main_arg0) (ix2 ⟨b.val * 4352 + r.val, by omega⟩ n) := by
  entry_read
  pointwise

theorem host1 (c : Dev nD) (b : Fin 4) (r : Fin 4352) (n : Fin 3072) :
    V m c main_v1 (ix3 b r n) = m (c.tc.loc main_arg0) (ix2 ⟨b.val * 4352 + r.val, by omega⟩ n) := by
  entry_read
  pointwise

theorem host2 (c : Dev nD) (b : Fin 4) (r : Fin 4352) (n : Fin 3072) :
    V m c main_v2 (ix3 b r n) = m (c.tc.loc main_arg0) (ix2 ⟨b.val * 4352 + r.val, by omega⟩ n) := by
  entry_read
  pointwise

/-- The sample and the head of a grid point. -/
def smp (t : Fin cfg0.N) : Fin 4 := ⟨t.val / 8, by have : t.val < 32 := t.isLt; omega⟩
def hd (t : Fin cfg0.N) : Fin 8 := ⟨t.val % 8, Nat.mod_lt _ (by norm_num)⟩

theorem q_blk (c : Dev nD) (t : Fin cfg0.N) (n : Fin 256) (e : Fin 128) :
    iblk m c 0 t (ix3 0 n e) = m (c.tc.loc main_arg0) (ix2 ⟨(smp t).val * 4352 + (4096 + n.val), by omega⟩ ⟨(hd t).val * 128 + e.val, by omega⟩) := by
  refine Eq.trans ?_ (host0 m c (smp t) ⟨4096 + n.val, by omega⟩ ⟨(hd t).val * 128 + e.val, by omega⟩)
  blk_point [iblk, idx t, smp, hd]

theorem k_blk (c : Dev nD) (t : Fin cfg0.N) (n : Fin 256) (e : Fin 128) :
    iblk m c 1 t (ix3 0 n e) = m (c.tc.loc main_arg0) (ix2 ⟨(smp t).val * 4352 + (4096 + n.val), by omega⟩ ⟨1024 + ((hd t).val * 128 + e.val), by omega⟩) := by
  refine Eq.trans ?_ (host1 m c (smp t) ⟨4096 + n.val, by omega⟩ ⟨1024 + ((hd t).val * 128 + e.val), by omega⟩)
  blk_point [iblk, idx t, smp, hd]

theorem v_blk (c : Dev nD) (t : Fin cfg0.N) (n : Fin 256) (e : Fin 128) :
    iblk m c 2 t (ix3 0 n e) = m (c.tc.loc main_arg0) (ix2 ⟨(smp t).val * 4352 + (4096 + n.val), by omega⟩ ⟨2048 + ((hd t).val * 128 + e.val), by omega⟩) := by
  refine Eq.trans ?_ (host2 m c (smp t) ⟨4096 + n.val, by omega⟩ ⟨2048 + ((hd t).val * 128 + e.val), by omega⟩)
  blk_point [iblk, idx t, smp, hd]

theorem o_blk (t : Fin cfg0.N) (n : Fin 256) (d : Fin 128) (f : Vec Ideal S1024x1024 .bf16) :
    f (ix2 ⟨(smp t).val * 256 + n.val, by omega⟩ ⟨(hd t).val * 128 + d.val, by omega⟩) = f ((win0_3.blk t).view.emb (ix2 n d)) := by
  blk_point [idx t, smp, hd]

/-- Every point writes the reference's entries. -/
theorem blk_eq (c : Dev nD) (t : Fin cfg0.N) (n : Fin 256) (d : Fin 128) :
    blk (iblk m c 0 t) (iblk m c 1 t) (iblk m c 2 t) n d = Cert.RefNaCtxIdeal.Whole.whole (m (c.tc.loc main_arg0))
      (ix2 ⟨(smp t).val * 256 + n.val, by omega⟩ ⟨(hd t).val * 128 + d.val, by omega⟩) := by
  rw [Cert.RefNaCtxIdeal.Whole.whole_at, blk]
  refine congrArg₂ Cert.Softmax.attend ?_ ?_
  · funext j
    unfold score
    simp only [q_blk, k_blk]
  · funext j
    rw [v_blk]

end Cert.NaCtxIdeal.Whole

namespace Cert.Proof.NaCtx

theorem frame_p : Cert.quiescent_NaCtx := fun m ρ _ => Cert.NaCtx.Gen.frame m ρ
theorem frame_pi : Cert.quiescent_NaCtxIdeal := fun m ρ _ => Cert.NaCtxIdeal.Gen.frame m ρ
theorem frame_ri : Cert.quiescent_RefNaCtxIdeal := fun m ρ _ =>
  (θ_run Cert.RefNaCtxIdeal.defs _ _).mono (fun r h => ⟨fun c => (h c).2, sem_eq_zero_of_no_sems (by decide) r.2⟩)
    (Cert.RefNaCtxIdeal.Value.run (F := Ideal) m ρ)
theorem preserves : Cert.preserves_NaCtx_NaCtxIdeal :=
  IdealRules.named_const.statement Cert.NaCtxIdeal.κ "scale_log2e" .f32 0x3E0293EE#32 (((Real.sqrt 128)⁻¹ * (Real.log 2)⁻¹ : ℝ) : EReal) rfl

open Cert.NaCtxIdeal Cert.NaCtxIdeal.Gen Cert.NaCtxIdeal.Whole in
theorem algebraic : Cert.algebraic_NaCtxIdeal_RefNaCtxIdeal := by
  pair_intro
  · run_from Cert.NaCtxIdeal.Gen.run_main m g
  · run_from Cert.RefNaCtxIdeal.Value.run m' g'
    symm
    refine (dats m 0 c).arrAt_eq_of_covers 3 _ (by decide +kernel) fun t _ y => ?_
    blk_simp
    obtain ⟨n, d, rfl⟩ : ∃ (n : Fin 256) (d : Fin 128), y = ix2 n d := ⟨y 0, y 1, by funext a; fin_cases a <;> rfl⟩
    rw [after0_3, out_at, Cert.RefNaCtxIdeal.Whole.res_eq]
    refine (blk_eq m c t n d).trans ?_
    rw [hagree c]
    exact o_blk t n d _

end Cert.Proof.NaCtx

end
-- ==== Proof.NaBlock.lean ====
/- Neighbourhood attention: what one block of the call computes. -/
module

public import proofs.«01_k».proof.Defs
public import proofs.«01_k».proof.Proof.Softmax
public import proofs.«01_k».proof.Proof.Consts
public import proofs.«01_k».proof.Proof.Gen.NaIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.NaIdeal.Whole

open Cert.NaIdeal Cert.NaIdeal.Gen
open Cert.Softmax (L attend weight weight2)

variable (m : (ℓ : Loc nD τ sig) → Buf (Elt Ideal) ℓ)

/-- The scale with the change of base. -/
def C : EReal := (((Real.sqrt 128)⁻¹ * (Real.log 2)⁻¹ : ℝ) : EReal)

theorem scale_named : Named.named (F := Ideal) κ "scale_log2e" (φ := .f32) 0x3E0293EE#32 = C :=
  IdealRules.named_const.ideal_named_scalar _ _ _ _ rfl

theorem pay2_at (q : Vec Ideal S1x512x128 .bf16) (n : Fin 512) (e : Fin 128) : k0_pay2 (F := Ideal) q (ix2 n e) = q (ix3 0 n e) * C := by
  pointwise [k0_pay2]
  rw [scale_named]

theorem pay3_at (q : Vec Ideal S1x512x128 .bf16) (k : Vec Ideal S1x1024x128 .bf16) (B : Vec Ideal S1x1x512x1024 .f32) (n : Fin 512) (j : Fin 1024) :
    k0_pay3 (F := Ideal) q k B (ix2 n j) = (∑ e : Fin 128, k0_pay2 (F := Ideal) q (ix2 n e) * k (ix3 0 j e)) + B (ix4 0 0 n j) := by
  pointwise [k0_pay3]

theorem pay4_at (q : Vec Ideal S1x512x128 .bf16) (k : Vec Ideal S1x256x128 .bf16) (n : Fin 512) (j : Fin 256) :
    k0_pay4 (F := Ideal) q k (ix2 n j) = ∑ e : Fin 128, k0_pay2 (F := Ideal) q (ix2 n e) * k (ix3 0 j e) := by
  pointwise [k0_pay4]

/-- The maximum of a query's scores. -/
theorem pay5_at (q : Vec Ideal S1x512x128 .bf16) (k : Vec Ideal S1x1024x128 .bf16) (B : Vec Ideal S1x1x512x1024 .f32) (kc : Vec Ideal S1x256x128 .bf16)
    (n : Fin 512) : k0_pay5 (F := Ideal) q k B kc (ix2 n 0)
      = (Finset.univ.sup fun j : Fin 1024 => k0_pay3 (F := Ideal) q k B (ix2 n j)) ⊔ (Finset.univ.sup fun j : Fin 256 => k0_pay4 (F := Ideal) q kc (ix2 n j)) := by
  pointwise [k0_pay5]
  rw [Cert.Consts.neg_inf]
  rfl

theorem pay6_at (q : Vec Ideal S1x512x128 .bf16) (k : Vec Ideal S1x1024x128 .bf16) (B : Vec Ideal S1x1x512x1024 .f32) (kc : Vec Ideal S1x256x128 .bf16)
    (n : Fin 512) (j : Fin 1024) : k0_pay6 (F := Ideal) q k B kc (ix2 n j)
      = Ideal.exp2 (k0_pay3 (F := Ideal) q k B (ix2 n j) - k0_pay5 (F := Ideal) q k B kc (ix2 n 0)) := by
  pointwise [k0_pay6]
  rfl

theorem pay7_at (q : Vec Ideal S1x512x128 .bf16) (k : Vec Ideal S1x1024x128 .bf16) (B : Vec Ideal S1x1x512x1024 .f32) (kc : Vec Ideal S1x256x128 .bf16)
    (n : Fin 512) (j : Fin 256) : k0_pay7 (F := Ideal) q k B kc (ix2 n j)
      = Ideal.exp2 (k0_pay4 (F := Ideal) q kc (ix2 n j) - k0_pay5 (F := Ideal) q k B kc (ix2 n 0)) := by
  pointwise [k0_pay7]
  rfl

theorem pay8_at (q : Vec Ideal S1x512x128 .bf16) (k : Vec Ideal S1x1024x128 .bf16) (B : Vec Ideal S1x1x512x1024 .f32) (kc : Vec Ideal S1x256x128 .bf16)
    (n : Fin 512) : k0_pay8 (F := Ideal) q k B kc (ix1 n) = ∑ j : Fin 1024, k0_pay6 (F := Ideal) q k B kc (ix2 n j) := by
  pointwise [k0_pay8]

theorem pay1_at (E : FVec Ideal S512x1024 .f32) (Ec : FVec Ideal S512x256 .f32) (l : FVec Ideal S512 .f32) (v : Vec Ideal S1x1024x128 .bf16)
    (vc : Vec Ideal S1x256x128 .bf16) (n : Fin 512) (d : Fin 128) : k0_pay1 (F := Ideal) E Ec l v vc (ix2 n d)
      = ((∑ j : Fin 1024, E (ix2 n j) * v (ix3 0 j d)) + ∑ j : Fin 256, Ec (ix2 n j) * vc (ix3 0 j d)) * Ideal.div 1 (l (ix1 n) + ∑ j : Fin 256, Ec (ix2 n j)) := by
  pointwise [k0_pay1]

/-- The scaled product of a query and a key. -/
def dotq {K : ℕ} (q : Vec Ideal S1x512x128 .bf16) (k : Vec Ideal ⟨3, ![1, K, 128]⟩ .bf16) (n : Fin 512) (j : Fin K) : EReal :=
  (∑ e : Fin 128, q (ix3 0 n e) * k (ix3 0 j e)) * ((1 / Real.sqrt 128 : ℝ) : EReal)

/-- The kernel's product is the scaled one in base 2. -/
theorem dotq_base {K : ℕ} (q : Vec Ideal S1x512x128 .bf16) (k : Vec Ideal ⟨3, ![1, K, 128]⟩ .bf16) (n : Fin 512) (j : Fin K) :
    ∑ e : Fin 128, k0_pay2 (F := Ideal) q (ix2 n e) * k (ix3 0 j e) = (L : EReal) * dotq q k n j := by
  rw [dotq, ← Cert.Softmax.scale_score _ (by positivity)]
  refine Finset.sum_congr rfl fun e _ => ?_
  rw [pay2_at, mul_comm, C, one_div]
  rfl

/-- One entry of a block, from its queries, its window's keys and values, the biases and the context's keys and values. -/
def blk (q : Vec Ideal S1x512x128 .bf16) (k v : Vec Ideal S1x1024x128 .bf16) (β : Fin 1024 → EReal) (kc vc : Vec Ideal S1x256x128 .bf16)
    (n : Fin 512) (d : Fin 128) : EReal :=
  attend (Sum.elim (fun j : Fin 1024 => dotq q k n j + β j) (fun j : Fin 256 => dotq q kc n j))
    (Sum.elim (fun j => v (ix3 0 j d)) fun j => vc (ix3 0 j d))

theorem block_at (q : Vec Ideal S1x512x128 .bf16) (k v : Vec Ideal S1x1024x128 .bf16) (B : Vec Ideal S1x1x512x1024 .f32) (kc vc : Vec Ideal S1x256x128 .bf16)
    (n : Fin 512) (d : Fin 128) (β : Fin 1024 → EReal) (hB : ∀ j, B (ix4 0 0 n j) = (L : EReal) * β j) :
    k0_pay1 (F := Ideal) (k0_pay6 q k B kc) (k0_pay7 q k B kc) (k0_pay8 q k B kc) v vc (ix2 n d) = blk q k v β kc vc n d := by
  rw [pay1_at, blk, ← Cert.Softmax.attend_eq]
  have h3 : ∀ j, k0_pay3 (F := Ideal) q k B (ix2 n j) = (L : EReal) * (dotq q k n j + β j) := fun j => by
    rw [pay3_at, dotq_base, hB, EReal.left_distrib_of_nonneg_of_ne_top (by exact_mod_cast Cert.Softmax.L_pos.le) (EReal.coe_ne_top L)]
  have h4 : ∀ j, k0_pay4 (F := Ideal) q kc (ix2 n j) = (L : EReal) * dotq q kc n j := fun j => by rw [pay4_at, dotq_base]
  have hs : Finset.univ.sup (fun i => (L : EReal) * Sum.elim (fun j : Fin 1024 => dotq q k n j + β j) (fun j : Fin 256 => dotq q kc n j) i)
      = k0_pay5 (F := Ideal) q k B kc (ix2 n 0) := by
    rw [pay5_at, ← Finset.univ_disjSum_univ, Finset.sup_disjSum]
    simp only [h3, h4, Sum.elim_inl, Sum.elim_inr]
  simp only [Fintype.sum_sum_type, weight2, hs, Sum.elim_inl, Sum.elim_inr, pay8_at, pay6_at, pay7_at, h3, h4]

end Cert.NaIdeal.Whole

end
-- ==== Proof.Rows.lean ====
/- Rows of a matrix taken by their numbers. -/
module

public import proofs.«01_k».proof.Defs
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Rows

/-- Taking whole rows of a matrix by a column of row numbers. -/
abbrev dims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (r, j) of the rows taken is entry j of the row that the r-th number names, as long as the number is a row. -/
theorem take_at {α : Type} (N C R : Nat) (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (r : Fin R) (j : Fin C) (n : Fin N) (hN : N ≤ 2 ^ 31)
    (hn : idx (ix2 r 0) = BitVec.ofNat 32 n.val) : Host.gather (dims N C R wf) x idx (ix2 r j) = x (ix2 n j) := by
  have hlt := n.isLt
  have hv : (idx (ix2 r 0)).toInt.toNat = n.val := by
    rw [hn, BitVec.toInt_eq_toNat_of_lt (by simp; omega)]
    simp
    omega
  unfold Host.gather
  refine congrArg x (funext fun a => Fin.ext ?_)
  show (dims N C R wf).start (ix2 r j) idx a + (dims N C R wf).batchCoord (ix2 r j) a + (dims N C R wf).offCoord (ix2 r j) a = _
  rw [GatherDims.batchCoord_eq_zero _ _ _ (by simp)]
  obtain rfl | rfl : a = 0 ∨ a = 1 := by fin_cases a <;> simp
  · rw [GatherDims.offCoord_eq_zero _ _ _ (fun h => ((GatherDims.mem_sKept _ _).mp h).1 (by simp))]
    unfold GatherDims.start
    rw [dif_pos (by simp)]
    have hi : (dims N C R wf).siIdx (ix2 r j) ⟨List.idxOf (0 : Fin 2) (dims N C R wf).startIndexMap, List.idxOf_lt_length_iff.2 (by simp)⟩ = ix2 r 0 := by
      funext b
      fin_cases b <;> rfl
    rw [hi, hv]
    show min n.val (N - 1) + 0 + 0 = n.val
    omega
  · unfold GatherDims.start
    rw [dif_neg (by simp)]
    simp only [Nat.zero_add]
    unfold GatherDims.offCoord
    rw [dif_pos ((GatherDims.mem_sKept _ _).mpr ⟨by simp, by simp⟩)]
    rfl

end Cert.Rows

end
-- ==== Proof.NaRef.lean ====
/- Neighbourhood attention: the reference's stages, entry by entry. -/
module

public import proofs.«01_k».proof.Defs
public import proofs.«01_k».proof.Proof.Softmax
public import proofs.«01_k».proof.Proof.Consts
public import proofs.«01_k».proof.Proof.Rows
public import proofs.«01_k».proof.Proof.Gen.RefNaIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefNaIdeal.Whole

open Cert.RefNaIdeal Cert.RefNaIdeal.Gen
open Cert.Softmax (attend weight)

/-! The reference's stages. -/

/-- The row of the bias table that a query's row and a key's row take. -/
def offsets : IVec S4096 32 :=
  shapeCast _ (minsi (broadcastInDim S64x64 ![] bcast_S_S64x64 (id (constantI S_ 32 14#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 7#32))))) shapeCasts_S64x64_S4096

def rows : IVec S4096x1 32 :=
  broadcastInDim S4096x1 ![0] bcast_S4096_S4096x1_0 (select (cmpi .slt offsets (broadcastInDim S4096 ![] bcast_S_S4096 (constantI S_ 32 0#32))) (addi offsets (broadcastInDim S4096 ![] bcast_S_S4096 (constantI S_ 32 15#32))) offsets)

def biases (R : Vec Ideal S8x15x64x64 .f32) : FVec Ideal S8x4096x4096 .f32 :=
  shapeCast _ (transpose S8x64x64x64x64 [2, 0, 3, 1, 4] (shapeCast _ (Host.gather gather_S15x32768_S4096x1_S4096x32768_1_0_n_n_0_1_132768 (shapeCast _ (transpose S15x8x64x64 [1, 0, 2, 3] R transposes_S8x15x64x64_S15x8x64x64_1_0_2_3) shapeCasts_S15x8x64x64_S15x32768) rows) shapeCasts_S4096x32768_S64x64x8x64x64) transposes_S64x64x8x64x64_S8x64x64x64x64_2_0_3_1_4) shapeCasts_S8x64x64x64x64_S8x4096x4096

/-- Which keys are near a query. -/
def near : IVec S4096x4096 1 :=
  shapeCast _ (andi (broadcastInDim S64x64x64x64 ![0, 1, 2, 3] bcast_S64x1x64x1_S64x64x64x64_0_1_2_3 (shapeCast _ (andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32)))))) (broadcastInDim S64x1 ![] bcast_S_S64x1 (constantI S_ 32 8#32)))))) shapeCasts_S64x64_S64x1x64x1)) (broadcastInDim S64x64x64x64 ![0, 1, 2, 3] bcast_S1x64x1x64_S64x64x64x64_0_1_2_3 (shapeCast _ (andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32)))))) shapeCasts_S64x64_S1x64x1x64))) shapeCasts_S64x64x64x64_S4096x4096

def scores (X : Vec Ideal S17408x3072 .bf16) : FVec Ideal S4x8x4096x4352 .f32 :=
  Host.divf (Host.dotGeneral dot_S4x4096x8x128_S4x4352x8x128_S4x8x4096x4352_3_3_1_1_02_02 none (extractStridedSlice S4x4096x8x128 ![0, 0, 0, 0] (shapeCast _ (extractStridedSlice S4x4352x1024 ![0, 0, 0] (extf .f32 (shapeCast _ X shapeCasts_S17408x3072_S4x4352x3072) bitsLt_bf16_f32) slices_S4x4352x3072_S4x4352x1024_0_0_0) shapeCasts_S4x4352x1024_S4x4352x8x128) slices_S4x4352x8x128_S4x4096x8x128_0_0_0_0) (shapeCast _ (extractStridedSlice S4x4352x1024 ![0, 0, 1024] (extf .f32 (shapeCast _ X shapeCasts_S17408x3072_S4x4352x3072) bitsLt_bf16_f32) slices_S4x4352x3072_S4x4352x1024_0_0_1024) shapeCasts_S4x4352x1024_S4x4352x8x128)) (broadcastInDim S4x8x4096x4352 ![] bcast_S_S4x8x4096x4352 (Host.sqrt (constant S_ .f32 0x43000000#32)))

def masked (M : IVec S4096x4096 1) (S : FVec Ideal S4x8x4096x4352 .f32) (B : FVec Ideal S8x4096x4096 .f32) : FVec Ideal S4x8x4096x4352 .f32 :=
  concatenate S4x8x4096x4352 3 [⟨S4x8x4096x4096, (select (broadcastInDim S4x8x4096x4096 ![2, 3] bcast_S4096x4096_S4x8x4096x4096_2_3 M) (addf (extractStridedSlice S4x8x4096x4096 ![0, 0, 0, 0] S slices_S4x8x4096x4352_S4x8x4096x4096_0_0_0_0) (broadcastInDim S4x8x4096x4096 ![0, 1, 2, 3] bcast_S1x8x4096x4096_S4x8x4096x4096_0_1_2_3 (broadcastInDim S1x8x4096x4096 ![1, 2, 3] bcast_S8x4096x4096_S1x8x4096x4096_1_2_3 B))) (broadcastInDim S4x8x4096x4096 ![] bcast_S_S4x8x4096x4096 (id (constant S_ .f32 0xFF800000#32))))⟩, ⟨S4x8x4096x256, (extractStridedSlice S4x8x4096x256 ![0, 0, 0, 4096] S slices_S4x8x4096x4352_S4x8x4096x256_0_0_0_4096)⟩] concatenates_S4x8x4096x4096_S4x8x4096x256_S4x8x4096x4352_d3

def powers (A : FVec Ideal S4x8x4096x4352 .f32) : FVec Ideal S4x8x4096x4352 .f32 :=
  Host.exp (subf A (broadcastInDim S4x8x4096x4352 ![0, 1, 2, 3] bcast_S4x8x4096x1_S4x8x4096x4352_0_1_2_3 (broadcastInDim S4x8x4096x1 ![0, 1, 2] bcast_S4x8x4096_S4x8x4096x1_0_1_2 (Host.reduce FloatOps.maximumf A (constant S_ .f32 0xFF800000#32) reducesTo_S4x8x4096x4352_S4x8x4096_d3 h_S_))))

def vals (X : Vec Ideal S17408x3072 .bf16) : FVec Ideal S4x4352x8x128 .f32 :=
  shapeCast _ (extractStridedSlice S4x4352x1024 ![0, 0, 2048] (extf .f32 (shapeCast _ X shapeCasts_S17408x3072_S4x4352x3072) bitsLt_bf16_f32) slices_S4x4352x3072_S4x4352x1024_0_0_2048) shapeCasts_S4x4352x1024_S4x4352x8x128

def outs (E : FVec Ideal S4x8x4096x4352 .f32) (V : FVec Ideal S4x4352x8x128 .f32) : FVec Ideal S16384x1024 .bf16 :=
  truncf .bf16 (shapeCast _ (transpose S4x4096x8x128 [0, 3, 1, 2] (Host.dotGeneral dot_S4x4352x8x128_S4x8x4096x4352_S4x8x128x4096_1_3_3_2_02_01 none V (extf .f32 (truncf .bf16 (mulf E (broadcastInDim S4x8x4096x4352 ![0, 1, 2, 3] bcast_S4x8x4096x1_S4x8x4096x4352_0_1_2_3 (Host.divf (broadcastInDim S4x8x4096x1 ![] bcast_S_S4x8x4096x1 (constant S_ .f32 0x3F800000#32)) (broadcastInDim S4x8x4096x1 ![0, 1, 2] bcast_S4x8x4096_S4x8x4096x1_0_1_2 (Host.reduceAdd E (constant S_ .f32 0x00000000#32) reducesTo_S4x8x4096x4352_S4x8x4096_d3 h_S_))))) bitsLt_bf16_f32) bitsLt_bf16_f32)) transposes_S4x8x128x4096_S4x4096x8x128_0_3_1_2) shapeCasts_S4x4096x8x128_S16384x1024) bitsLt_bf16_f32

def whole (X : Vec Ideal S17408x3072 .bf16) (R : Vec Ideal S8x15x64x64 .f32) : FVec Ideal S16384x1024 .bf16 :=
  outs (powers (masked near (scores X) (biases R))) (vals X)

theorem res_eq (m' : (ℓ : Loc nD τ sig) → Buf (Elt Ideal) ℓ) (c : Dev nD) :
    Value.res_main_v94 m' c = whole (m' (c.tc.loc main_arg0)) (m' (c.tc.loc main_arg1)) := rfl

/-! The neighbourhood, in numbers. -/

/-- A key's row is among the eight rows of a query's window, a key's column among its sixteen columns. -/
def nearRow (r r' : Fin 64) : Bool := decide (min (r.val - 4) 56 ≤ r'.val) && decide (r'.val < min (r.val - 4) 56 + 8)
def nearCol (c c' : Fin 64) : Bool := decide (min (c.val - 8) 48 ≤ c'.val) && decide (c'.val < min (c.val - 8) 48 + 16)

/-- The row of the bias table. -/
def dRow (r r' : Fin 64) : Fin 15 := ⟨min (r'.val + 7 - r.val) 14, by omega⟩

/-- A mask: at or after a window's start and before its end. The start is a clipped difference. -/
abbrev inside (hi back len : BitVec 32) (r r' : Fin 64) : BitVec 1 :=
  IntOp.andi
    (IntOp.cmpi CmpIPredicate.sge (BitVec.ofNat 32 r'.val) (IntOp.minsi (id (constantI S_ 32 hi) ix0) (IntOp.maxsi (id (constantI S_ 32 0#32) ix0) (IntOp.subi (BitVec.ofNat 32 r.val) back))))
    (IntOp.cmpi CmpIPredicate.slt (BitVec.ofNat 32 r'.val) (IntOp.addi (IntOp.minsi (id (constantI S_ 32 hi) ix0) (IntOp.maxsi (id (constantI S_ 32 0#32) ix0) (IntOp.subi (BitVec.ofNat 32 r.val) back))) len))

theorem inside_row : ∀ r r' : Fin 64, inside 56#32 4#32 8#32 r r' = BitVec.ofBool (nearRow r r') := by decide +kernel
theorem inside_col : ∀ c c' : Fin 64, inside 48#32 8#32 16#32 c c' = BitVec.ofBool (nearCol c c') := by decide +kernel

theorem near_at (r c r' c' : Fin 64) :
    near (ix2 ⟨r.val * 64 + c.val, by omega⟩ ⟨r'.val * 64 + c'.val, by omega⟩) = BitVec.ofBool (nearRow r r' && nearCol c c') := by
  pointwise [near]
  refine (congrArg₂ IntOp.andi (inside_row r r') (inside_col c c')).trans ?_
  cases nearRow r r' <;> cases nearCol c c' <;> rfl

theorem offsets_at (r r' : Fin 64) : offsets (ix1 ⟨r.val * 64 + r'.val, by omega⟩) = BitVec.ofNat 32 (dRow r r').val := by
  pointwise [offsets]
  revert r r'
  decide +kernel

theorem rows_at (r r' : Fin 64) : rows (ix2 ⟨r.val * 64 + r'.val, by omega⟩ 0) = BitVec.ofNat 32 (dRow r r').val := by
  pointwise [rows]
  rw [offsets_at]
  exact (by decide +kernel : ∀ n : Fin 15, Scalar.select (IntOp.cmpi CmpIPredicate.slt (BitVec.ofNat 32 n.val) 0#32)
    (IntOp.addi (BitVec.ofNat 32 n.val) 15#32) (BitVec.ofNat 32 n.val) = BitVec.ofNat 32 n.val) (dRow r r')

theorem biases_at (R : Vec Ideal S8x15x64x64 .f32) (h : Fin 8) (r c r' c' : Fin 64) :
    biases R (ix3 h ⟨r.val * 64 + c.val, by omega⟩ ⟨r'.val * 64 + c'.val, by omega⟩) = R (ix4 h (dRow r r') c c') := by
  pointwise [biases]
  refine (Cert.Rows.take_at 15 32768 4096 _ _ rows _ _ (dRow r r') (by norm_num) (rows_at r r')).trans ?_
  pointwise

/-- The scaled product of a latent query and a key. -/
def score (X : Vec Ideal S17408x3072 .bf16) (b : Fin 4) (h : Fin 8) (q : Fin 4096) (k : Fin 4352) : EReal :=
  (∑ e : Fin 128, X (ix2 ⟨b.val * 4352 + q.val, by omega⟩ ⟨h.val * 128 + e.val, by omega⟩)
    * X (ix2 ⟨b.val * 4352 + k.val, by omega⟩ ⟨1024 + (h.val * 128 + e.val), by omega⟩)) * ((1 / Real.sqrt 128 : ℝ) : EReal)

theorem masked_lat (M : IVec S4096x4096 1) (S : FVec Ideal S4x8x4096x4352 .f32) (B : FVec Ideal S8x4096x4096 .f32) (b : Fin 4) (h : Fin 8)
    (q k : Fin 4096) : masked M S B (ix4 b h q ⟨k.val, by omega⟩) = if M (ix2 q k) = 1#1 then S (ix4 b h q ⟨k.val, by omega⟩) + B (ix3 h q k) else ⊥ := by
  pointwise [masked]
  rw [Scalar.select]
  refine ite_congr rfl (fun _ => rfl) fun _ => Cert.Consts.neg_inf

theorem masked_ctx (M : IVec S4096x4096 1) (S : FVec Ideal S4x8x4096x4352 .f32) (B : FVec Ideal S8x4096x4096 .f32) (b : Fin 4) (h : Fin 8)
    (q : Fin 4096) (k : Fin 256) : masked M S B (ix4 b h q ⟨4096 + k.val, by omega⟩) = S (ix4 b h q ⟨4096 + k.val, by omega⟩) := by
  pointwise [masked]

theorem scores_at (X : Vec Ideal S17408x3072 .bf16) (b : Fin 4) (h : Fin 8) (q : Fin 4096) (k : Fin 4352) :
    scores X (ix4 b h q k) = score X b h q k := by
  pointwise [scores]
  rw [Cert.Consts.c128, Cert.Consts.div_sqrt 128 (by norm_num)]
  rfl

theorem powers_at (S : FVec Ideal S4x8x4096x4352 .f32) (b : Fin 4) (h : Fin 8) (q : Fin 4096) (k : Fin 4352) :
    powers S (ix4 b h q k) = weight (fun j : Fin 4352 => S (ix4 b h q j)) k := by
  pointwise [powers]
  rw [Cert.Consts.neg_inf]
  rfl

theorem vals_at (X : Vec Ideal S17408x3072 .bf16) (b : Fin 4) (h : Fin 8) (k : Fin 4352) (d : Fin 128) :
    vals X (ix4 b k h d) = X (ix2 ⟨b.val * 4352 + k.val, by omega⟩ ⟨2048 + (h.val * 128 + d.val), by omega⟩) := by
  pointwise [vals]

theorem outs_at (E : FVec Ideal S4x8x4096x4352 .f32) (V : FVec Ideal S4x4352x8x128 .f32) (b : Fin 4) (h : Fin 8) (q : Fin 4096) (d : Fin 128) :
    outs E V (ix2 ⟨b.val * 4096 + q.val, by omega⟩ ⟨h.val * 128 + d.val, by omega⟩)
      = ∑ k : Fin 4352, E (ix4 b h q k) * Ideal.div 1 (∑ j : Fin 4352, E (ix4 b h q j)) * V (ix4 b k h d) := by
  pointwise [outs]
  exact Finset.sum_congr rfl fun k _ => mul_comm _ _

/-- The scores of the query in row r and column c. -/
def all (X : Vec Ideal S17408x3072 .bf16) (R : Vec Ideal S8x15x64x64 .f32) (b : Fin 4) (h : Fin 8) (r c : Fin 64) (k : Fin 4352) : EReal :=
  masked near (scores X) (biases R) (ix4 b h ⟨r.val * 64 + c.val, by omega⟩ k)

/-- Against the key in row r' and column c': with the bias if it is near, minus infinity if not. -/
theorem all_lat (X : Vec Ideal S17408x3072 .bf16) (R : Vec Ideal S8x15x64x64 .f32) (b : Fin 4) (h : Fin 8) (r c r' c' : Fin 64) :
    all X R b h r c ⟨r'.val * 64 + c'.val, by omega⟩ = if nearRow r r' && nearCol c c' then
      score X b h ⟨r.val * 64 + c.val, by omega⟩ ⟨r'.val * 64 + c'.val, by omega⟩ + R (ix4 h (dRow r r') c c') else ⊥ := by
  rw [all, masked_lat near _ _ b h ⟨r.val * 64 + c.val, by omega⟩ ⟨r'.val * 64 + c'.val, by omega⟩, near_at, biases_at, scores_at]
  cases nearRow r r' && nearCol c c' <;> rfl

/-- Against a context key: the plain score. -/
theorem all_ctx (X : Vec Ideal S17408x3072 .bf16) (R : Vec Ideal S8x15x64x64 .f32) (b : Fin 4) (h : Fin 8) (r c : Fin 64) (k : Fin 256) :
    all X R b h r c ⟨4096 + k.val, by omega⟩ = score X b h ⟨r.val * 64 + c.val, by omega⟩ ⟨4096 + k.val, by omega⟩ := by
  rw [all, masked_ctx, scores_at]

theorem whole_at (X : Vec Ideal S17408x3072 .bf16) (R : Vec Ideal S8x15x64x64 .f32) (b : Fin 4) (h : Fin 8) (r c : Fin 64) (d : Fin 128) :
    whole X R (ix2 ⟨b.val * 4096 + (r.val * 64 + c.val), by omega⟩ ⟨h.val * 128 + d.val, by omega⟩)
      = attend (all X R b h r c) fun k : Fin 4352 => X (ix2 ⟨b.val * 4352 + k.val, by omega⟩ ⟨2048 + (h.val * 128 + d.val), by omega⟩) := by
  rw [whole, outs_at _ _ b h ⟨r.val * 64 + c.val, by omega⟩]
  unfold attend
  refine Finset.sum_congr rfl fun k _ => ?_
  simp only [powers_at, vals_at]
  rfl

end Cert.RefNaIdeal.Whole

end
-- ==== Proof.NaTable.lean ====
/- Neighbourhood attention: the table of biases. -/
module

public import proofs.«01_k».proof.Defs
public import proofs.«01_k».proof.Proof.Softmax
public import proofs.«01_k».proof.Proof.Consts
public import proofs.«01_k».proof.Proof.Rows
public import proofs.«01_k».proof.Proof.NaRef
public import proofs.«01_k».proof.Proof.Gen.NaIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.NaIdeal.Whole

open Cert.NaIdeal Cert.NaIdeal.Gen
open Cert.Softmax (L)
open Cert.RefNaIdeal.Whole (nearRow nearCol dRow)

variable (m : (ℓ : Loc nD τ sig) → Buf (Elt Ideal) ℓ)

/-- The query row and the key row, in the grid of tokens, of a row of a block of the table: at the grid's top, inside, at its bottom. -/
def qRow (kd : Fin 3) (i : Fin 8) : Fin 64 := ⟨![0, 8, 56] kd + i.val, by fin_cases kd <;> simp <;> omega⟩
def kRow (kd : Fin 3) (w : Fin 16) : Fin 64 := ⟨![0, 4, 48] kd + w.val, by fin_cases kd <;> simp <;> omega⟩

/-- Division by ln 2 is the change of base. -/
theorem div_log (x : EReal) : Ideal.div x (Ideal.log (Ideal.ofBits .f32 0x40000000#32)) = (L : EReal) * x := by
  have h2 : Ideal.ofBits .f32 0x40000000#32 = ((2 : ℝ) : EReal) := by
    simp [Ideal.ofBits, Ideal.ieee, -EReal.coe_mul]; norm_num
  rw [h2, Ideal.log_coe, if_neg (by norm_num), Ideal.div_coe (Real.log_pos (by norm_num)).ne', mul_comm, one_div]
  rfl

/-- A choice by two masks. -/
theorem choose (a b : BitVec 1) (p q : Bool) (x y x' y' : EReal) (ha : a = BitVec.ofBool p) (hb : b = BitVec.ofBool q) (hx : x = x') (hy : y = y') :
    Scalar.select (IntOp.andi a b) x y = if p && q then x' else y' := by
  subst ha hb hx hy
  cases p <;> cases q <;> rfl

/-- Positions in an array of four axes that agree number by number. -/
theorem entry_eq {a b e f : ℕ} (x x' : Fin a) (d : Fin b) (y y' : Fin e) (z z' : Fin f) (hx : x.val = x'.val) (hy : y.val = y'.val)
    (hz : z.val = z'.val) : ix4 x d y z = ix4 x' d y' z' := by
  rw [Fin.ext hx, Fin.ext hy, Fin.ext hz]

/-- The bias of a query and a key near to each other, minus infinity for others; in base 2. -/
theorem table_at (c : Dev nD) (h : Fin 8) (kd : Fin 3) (i : Fin 8) (q : Fin 64) (w : Fin 16) (k : Fin 64) :
    V m c main_v83 (ix4 h kd ⟨i.val * 64 + q.val, by omega⟩ ⟨w.val * 64 + k.val, by omega⟩) =
      (L : EReal) * (if nearRow (qRow kd i) (kRow kd w) && nearCol q k then m (c.tc.loc main_arg1) (ix4 h (dRow (qRow kd i) (kRow kd w)) q k) else ⊥ : EReal) := by
  rw [mul_ite, EReal.coe_mul_bot_of_pos Cert.Softmax.L_pos]
  entry_read
  pointwise
  refine choose _ _ _ _ _ _ _ _ ?_ ?_ ?_ Cert.Consts.neg_inf
  · revert kd i w
    decide +kernel
  · revert q k
    decide +kernel
  · rw [div_log]
    refine congrArg ((L : EReal) * ·) ((Cert.Rows.take_at 15 32768 384 _ _ _ _ _ (dRow (qRow kd i) (kRow kd w)) (by norm_num) ?_).trans ?_)
    · pointwise
      generalize_proofs hk
      revert hk
      revert kd i w
      decide +kernel
    · pointwise
      exact congrArg (m (c, Proc.tc.devRef main_arg1)) (entry_eq _ _ _ _ _ _ _
        (by show (h.val * 4096 + q.val * 64 + k.val) / 4096 = h.val; omega)
        (by show (h.val * 4096 + q.val * 64 + k.val) / 64 % 64 = q.val; omega)
        (by show (h.val * 4096 + q.val * 64 + k.val) % 64 = k.val; omega))

end Cert.NaIdeal.Whole

end
-- ==== Proof.NaReads.lean ====
/- Neighbourhood attention: what each block reads. -/
module

public import proofs.«01_k».proof.Defs
public import proofs.«01_k».proof.Proof.Softmax
public import proofs.«01_k».proof.Proof.NaRef
public import proofs.«01_k».proof.Proof.NaTable
public import proofs.«01_k».proof.Proof.Gen.NaIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.NaIdeal.Whole

open Cert.NaIdeal Cert.NaIdeal.Gen
open Cert.Softmax (L)
open Cert.RefNaIdeal.Whole (nearRow nearCol dRow)

variable (m : (ℓ : Loc nD τ sig) → Buf (Elt Ideal) ℓ)

/-- Which blocks each grid point works on. -/
theorem idx : ∀ t : Fin cfg0.N, win0_0.index t = ![t.val / 64, t.val % 8, t.val / 8 % 8] ∧ win0_1.index t = ![t.val / 64, 0, 8 + t.val / 8 % 8]
    ∧ win0_2.index t = ![t.val / 64, 0, 16 + t.val / 8 % 8] ∧ win0_3.index t = ![t.val / 8 % 8, (t.val % 8 + 5) / 6, 0, 0]
    ∧ win0_4.index t = ![t.val / 64 * 8 + t.val % 8, t.val / 8 % 8] :=
  (by decide +kernel : ∀ t : Fin grid0.N, _)

/-- The sample, the head and the step of a grid point. -/
def smp (t : Fin cfg0.N) : Fin 4 := ⟨t.val / 64, by have : t.val < 256 := t.isLt; omega⟩
def hd (t : Fin cfg0.N) : Fin 8 := ⟨t.val / 8 % 8, Nat.mod_lt _ (by norm_num)⟩
def stp (t : Fin cfg0.N) : Fin 8 := ⟨t.val % 8, Nat.mod_lt _ (by norm_num)⟩

/-- The first row of a step's window of keys, the block of the table it takes, and the rows of its queries and keys. -/
def start (g : Fin 8) : ℕ := min (g.val * 8 - 4) 48
def kind (g : Fin 8) : Fin 3 := ⟨(g.val + 5) / 6, by omega⟩
def queryRow (g i : Fin 8) : Fin 64 := ⟨g.val * 8 + i.val, by omega⟩
def keyRow (g : Fin 8) (w : Fin 16) : Fin 64 := ⟨start g + w.val, by unfold start; omega⟩

theorem start_le (g : Fin 8) : start g ≤ 48 := by unfold start; omega

/-- The table's block for a step has the distances and the mask of the step's own rows. -/
theorem row_near : ∀ g i : Fin 8, ∀ w : Fin 16, nearRow (qRow (kind g) i) (kRow (kind g) w) = nearRow (queryRow g i) (keyRow g w) := by decide +kernel
theorem row_bias : ∀ g i : Fin 8, ∀ w : Fin 16, dRow (qRow (kind g) i) (kRow (kind g) w) = dRow (queryRow g i) (keyRow g w) := by decide +kernel

/-- The window holds every row near to a query of the step. -/
theorem row_far : ∀ g i : Fin 8, ∀ r : Fin 64, nearRow (queryRow g i) r = true → start g ≤ r.val ∧ r.val < start g + 16 := by decide +kernel

/-- Where the call's loads of the window begin. -/
theorem off : ∀ t : Fin cfg0.N, k0_off1 (grid0.coords t) = ![0, start (stp t) * 64, 0] :=
  (by decide +kernel : ∀ t : Fin grid0.N, k0_off1 (grid0.coords t) = ![0, min (t.val % 8 * 8 - 4) 48 * 64, 0])

theorem host (c : Dev nD) (b : Fin 4) (r : Fin 4352) (n : Fin 3072) :
    V m c main_v84 (ix3 b r n) = m (c.tc.loc main_arg0) (ix2 ⟨b.val * 4352 + r.val, by omega⟩ n) := by
  entry_read
  pointwise

theorem q_blk (c : Dev nD) (t : Fin cfg0.N) (n : Fin 512) (e : Fin 128) :
    X0_0 m c t (ix3 0 n e) = m (c.tc.loc main_arg0) (ix2 ⟨(smp t).val * 4352 + ((stp t).val * 512 + n.val), by omega⟩ ⟨(hd t).val * 128 + e.val, by omega⟩) := by
  refine Eq.trans ?_ (host m c (smp t) ⟨(stp t).val * 512 + n.val, by omega⟩ ⟨(hd t).val * 128 + e.val, by omega⟩)
  unfold X0_0 Pipeline.Window.fill
  rw [dif_pos (moved0_0 t _)]
  blk_point [iblk, idx t, smp, hd, stp]

theorem k_blk (c : Dev nD) (t : Fin cfg0.N) (n : Fin 4352) (e : Fin 128) :
    iblk m c 1 t (ix3 0 n e) = m (c.tc.loc main_arg0) (ix2 ⟨(smp t).val * 4352 + n.val, by omega⟩ ⟨1024 + ((hd t).val * 128 + e.val), by omega⟩) := by
  refine Eq.trans ?_ (host m c (smp t) n ⟨1024 + ((hd t).val * 128 + e.val), by omega⟩)
  blk_point [iblk, idx t, smp, hd]

theorem v_blk (c : Dev nD) (t : Fin cfg0.N) (n : Fin 4352) (e : Fin 128) :
    iblk m c 2 t (ix3 0 n e) = m (c.tc.loc main_arg0) (ix2 ⟨(smp t).val * 4352 + n.val, by omega⟩ ⟨2048 + ((hd t).val * 128 + e.val), by omega⟩) := by
  refine Eq.trans ?_ (host m c (smp t) n ⟨2048 + ((hd t).val * 128 + e.val), by omega⟩)
  blk_point [iblk, idx t, smp, hd]

theorem b_blk (c : Dev nD) (t : Fin cfg0.N) (n : Fin 512) (j : Fin 1024) :
    iblk m c 3 t (ix4 0 0 n j) = V m c main_v83 (ix4 (hd t) (kind (stp t)) n j) := by
  blk_point [iblk, idx t, smp, hd, stp, kind]

/-- A load of whole rows from a row on. -/
theorem load_rows {K : ℕ} (X : Vec Ideal S1x4352x128 .bf16) (o : Fin 3 → ℕ) (s : ℕ) (ho : o = ![0, s, 0])
    (inb : ∀ a, o a + (⟨3, ![1, K, 128]⟩ : Shape).size a ≤ S1x4352x128.size a) (j : Fin K) (e : Fin 128) (r : Fin 4352) (hr : r.val = s + j.val) :
    View.ld X (Rect.unit (s := S1x4352x128) o ![1, K, 128] inb) (ix3 0 j e) = X (ix3 0 r e) := by
  refine View.ld_unit_apply_of X o _ inb _ _ fun a => ?_
  subst ho
  fin_cases a
  · rfl
  · exact hr
  · exact (Nat.zero_add _).symm

/-- The bias of a query and a key, minus infinity for a key that is not near. -/
def biasOf (R : Vec Ideal S8x15x64x64 .f32) (h : Fin 8) (r qc r' kc : Fin 64) : EReal :=
  if nearRow r r' && nearCol qc kc then R (ix4 h (dRow r r') qc kc) else ⊥

theorem bias_at (c : Dev nD) (t : Fin cfg0.N) (i : Fin 8) (qc : Fin 64) (w : Fin 16) (kc : Fin 64) :
    iblk m c 3 t (ix4 0 0 ⟨i.val * 64 + qc.val, by omega⟩ ⟨w.val * 64 + kc.val, by omega⟩)
      = (L : EReal) * biasOf (m (c.tc.loc main_arg1)) (hd t) (queryRow (stp t) i) qc (keyRow (stp t) w) kc := by
  refine (b_blk m c t _ _).trans ((table_at m c (hd t) (kind (stp t)) i qc w kc).trans ?_)
  rw [row_near, row_bias]
  rfl

end Cert.NaIdeal.Whole

end
-- ==== Proof.NaWindow.lean ====
/- Neighbourhood attention: the keys that a step leaves out have no weight. -/
module

public import proofs.«01_k».proof.Defs
public import proofs.«01_k».proof.Proof.NaReads
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.NaIdeal.Whole

open Cert.NaIdeal Cert.NaIdeal.Gen
open Cert.Softmax (attend attend_embed)
open Cert.RefNaIdeal.Whole (nearRow nearCol dRow score all all_lat all_ctx whole whole_at)

variable (X : Vec Ideal S17408x3072 .bf16) (R : Vec Ideal S8x15x64x64 .f32)

/-- The row and the column of a key in the window. -/
def wRow (j : Fin 1024) : Fin 16 := ⟨j.val / 64, by omega⟩
def wCol (j : Fin 1024) : Fin 64 := ⟨j.val % 64, by omega⟩

/-- A step's keys among all of its sample's: the window's, then the context's. -/
def place (g : Fin 8) : Fin 1024 ⊕ Fin 256 → Fin 4352 :=
  Sum.elim (fun j => ⟨start g * 64 + j.val, by have := start_le g; omega⟩) fun k => ⟨4096 + k.val, by omega⟩

theorem place_injective (g : Fin 8) : Function.Injective (place g) := by
  have hg := start_le g
  rintro (j | k) (j' | k') h
  · have h' : start g * 64 + j.val = start g * 64 + j'.val := congrArg Fin.val h
    exact congrArg Sum.inl (Fin.ext (by omega))
  · have h' : start g * 64 + j.val = 4096 + k'.val := congrArg Fin.val h
    omega
  · have h' : 4096 + k.val = start g * 64 + j'.val := congrArg Fin.val h
    omega
  · have h' : 4096 + k.val = 4096 + k'.val := congrArg Fin.val h
    exact congrArg Sum.inr (Fin.ext (by omega))

/-- A latent key's score is the plain one and its bias. -/
theorem all_bias (b : Fin 4) (h : Fin 8) (r c r' c' : Fin 64) (k : Fin 4352) (hk : k.val = r'.val * 64 + c'.val) :
    all X R b h r c k = score X b h ⟨r.val * 64 + c.val, by omega⟩ k + biasOf R h r c r' c' := by
  have e : k = ⟨r'.val * 64 + c'.val, by omega⟩ := Fin.ext hk
  rw [e, all_lat, biasOf]
  cases nearRow r r' && nearCol c c'
  · exact (EReal.add_bot _).symm
  · rfl

/-- A key that the step does not load has the score minus infinity. -/
theorem all_far (b : Fin 4) (h : Fin 8) (g i : Fin 8) (c : Fin 64) (k : Fin 4352) (hk : k ∉ Set.range (place g)) :
    all X R b h (queryRow g i) c k = ⊥ := by
  by_cases hc : 4096 ≤ k.val
  · exact absurd ⟨Sum.inr ⟨k.val - 4096, by omega⟩, Fin.ext (show 4096 + (k.val - 4096) = k.val by omega)⟩ hk
  · have hn : nearRow (queryRow g i) ⟨k.val / 64, by omega⟩ = false := by
      by_contra hn
      obtain ⟨h1, h2⟩ := row_far g i ⟨k.val / 64, by omega⟩ (by simpa using hn)
      simp only at h1 h2
      exact hk ⟨Sum.inl ⟨k.val - start g * 64, by omega⟩, Fin.ext (show start g * 64 + (k.val - start g * 64) = k.val by omega)⟩
    rw [all_bias X R b h (queryRow g i) c ⟨k.val / 64, by omega⟩ ⟨k.val % 64, by omega⟩ k (by simp only; omega), biasOf, hn]
    exact EReal.add_bot _

/-- The attention over all keys is the one over the keys that the step loads. -/
theorem whole_window (b : Fin 4) (h : Fin 8) (g i : Fin 8) (c : Fin 64) (d : Fin 128) :
    whole X R (ix2 ⟨b.val * 4096 + ((queryRow g i).val * 64 + c.val), by omega⟩ ⟨h.val * 128 + d.val, by omega⟩)
      = attend (Sum.elim (fun j : Fin 1024 => score X b h ⟨(queryRow g i).val * 64 + c.val, by omega⟩ (place g (Sum.inl j))
            + biasOf R h (queryRow g i) c (keyRow g (wRow j)) (wCol j))
          (fun k : Fin 256 => score X b h ⟨(queryRow g i).val * 64 + c.val, by omega⟩ (place g (Sum.inr k))))
        (fun a => X (ix2 ⟨b.val * 4352 + (place g a).val, by omega⟩ ⟨2048 + (h.val * 128 + d.val), by omega⟩)) := by
  rw [whole_at, attend_embed _ _ (place g) (place_injective g) fun k hk => all_far X R b h g i c k hk]
  refine congrArg (fun s => attend s _) (funext fun a => ?_)
  rcases a with j | k
  · exact all_bias X R b h (queryRow g i) c (keyRow g (wRow j)) (wCol j) _
      (show start g * 64 + j.val = (start g + j.val / 64) * 64 + j.val % 64 by omega)
  · exact all_ctx X R b h (queryRow g i) c k

end Cert.NaIdeal.Whole

end
-- ==== Proof.Na.lean ====
/- Neighbourhood attention: the array that the call leaves is the reference's. -/
module

public import proofs.«01_k».proof.Defs
public import proofs.«01_k».proof.Proof.NaBlock
public import proofs.«01_k».proof.Proof.NaWindow
public import proofs.«01_k».proof.Proof.NaRef
public import proofs.«01_k».proof.Proof.Gen.Na.Frame
public import proofs.«01_k».proof.Proof.Gen.NaIdeal.Value
public import proofs.«01_k».proof.Proof.Gen.RefNaIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.NaIdeal.Whole

open Cert.NaIdeal Cert.NaIdeal.Gen
open Cert.Softmax (L attend)
open Cert.RefNaIdeal.Whole (score whole)

variable (m : (ℓ : Loc nD τ sig) → Buf (Elt Ideal) ℓ)

/-- The rows that a point loads: the window's, then the context's. -/
theorem near_rows (t : Fin cfg0.N) (X : Vec Ideal S1x4352x128 .bf16)
    (inb : ∀ a, k0_off1 (grid0.coords t) a + S1x1024x128.size a ≤ S1x4352x128.size a) (j : Fin 1024) (e : Fin 128) :
    View.ld X (Rect.unit (s := S1x4352x128) (k0_off1 (grid0.coords t)) S1x1024x128.size inb) (ix3 0 j e) = X (ix3 0 (place (stp t) (Sum.inl j)) e) :=
  load_rows (K := 1024) X _ _ (off t) inb j e _ rfl

theorem ctx_rows (X : Vec Ideal S1x4352x128 .bf16) (t : Fin cfg0.N)
    (inb : ∀ a, (![0, 4096, 0] : Fin 3 → ℕ) a + S1x256x128.size a ≤ S1x4352x128.size a) (j : Fin 256) (e : Fin 128) :
    View.ld X (Rect.unit (s := S1x4352x128) ![0, 4096, 0] S1x256x128.size inb) (ix3 0 j e) = X (ix3 0 (place (stp t) (Sum.inr j)) e) :=
  load_rows (K := 256) X _ _ rfl inb j e _ rfl

/-- The attention that a point does, of what it loads. -/
theorem blk_eq (c : Dev nD) (t : Fin cfg0.N) (i : Fin 8) (qc : Fin 64) (d : Fin 128)
    (k v : Vec Ideal S1x1024x128 .bf16) (kc vc : Vec Ideal S1x256x128 .bf16)
    (hk : ∀ j e, k (ix3 0 j e) = iblk m c 1 t (ix3 0 (place (stp t) (Sum.inl j)) e))
    (hv : ∀ j e, v (ix3 0 j e) = iblk m c 2 t (ix3 0 (place (stp t) (Sum.inl j)) e))
    (hkc : ∀ j e, kc (ix3 0 j e) = iblk m c 1 t (ix3 0 (place (stp t) (Sum.inr j)) e))
    (hvc : ∀ j e, vc (ix3 0 j e) = iblk m c 2 t (ix3 0 (place (stp t) (Sum.inr j)) e)) :
    blk (X0_0 m c t) k v (fun j => biasOf (m (c.tc.loc main_arg1)) (hd t) (queryRow (stp t) i) qc (keyRow (stp t) (wRow j)) (wCol j)) kc vc
        ⟨i.val * 64 + qc.val, by omega⟩ d
      = whole (m (c.tc.loc main_arg0)) (m (c.tc.loc main_arg1))
        (ix2 ⟨(smp t).val * 4096 + ((queryRow (stp t) i).val * 64 + qc.val), by omega⟩ ⟨(hd t).val * 128 + d.val, by omega⟩) := by
  have hq : ∀ e : Fin 128, X0_0 m c t (ix3 0 ⟨i.val * 64 + qc.val, by omega⟩ e)
      = m (c.tc.loc main_arg0) (ix2 ⟨(smp t).val * 4352 + ((queryRow (stp t) i).val * 64 + qc.val), by omega⟩ ⟨(hd t).val * 128 + e.val, by omega⟩) := fun e =>
    (q_blk m c t _ e).trans (congrArg (fun r => m (c.tc.loc main_arg0) (ix2 r _))
      (Fin.ext (show (smp t).val * 4352 + ((stp t).val * 512 + (i.val * 64 + qc.val)) = (smp t).val * 4352 + (((stp t).val * 8 + i.val) * 64 + qc.val) by omega)))
  rw [whole_window, blk]
  refine congrArg₂ attend (funext fun a => ?_) (funext fun a => ?_)
  · rcases a with j | j
    · refine congrArg (· + _) ?_
      unfold dotq score
      simp only [hq, hk, k_blk]
    · change dotq _ _ _ _ = score _ _ _ _ _
      unfold dotq score
      simp only [hq, hkc, k_blk]
  · rcases a with j | j
    · exact (hv j d).trans (v_blk m c t _ d)
    · exact (hvc j d).trans (v_blk m c t _ d)

/-- A point's block of the table, in base 2. -/
theorem bias_row (c : Dev nD) (t : Fin cfg0.N) (i : Fin 8) (qc : Fin 64) (j : Fin 1024) :
    iblk m c 3 t (ix4 0 0 ⟨i.val * 64 + qc.val, by omega⟩ j)
      = (L : EReal) * biasOf (m (c.tc.loc main_arg1)) (hd t) (queryRow (stp t) i) qc (keyRow (stp t) (wRow j)) (wCol j) := by
  have e : j = ⟨(wRow j).val * 64 + (wCol j).val, by omega⟩ := Fin.ext (show j.val = j.val / 64 * 64 + j.val % 64 by omega)
  refine (congrArg (fun k => iblk m c 3 t (ix4 0 0 _ k)) e).trans ?_
  exact bias_at m c t i qc (wRow j) (wCol j)

/-- Every point writes the reference's entries. -/
theorem out_at (c : Dev nD) (t : Fin cfg0.N) (i : Fin 8) (qc : Fin 64) (d : Fin 128) :
    (outsAt0 m c t) (ix2 ⟨i.val * 64 + qc.val, by omega⟩ d) = whole (m (c.tc.loc main_arg0)) (m (c.tc.loc main_arg1))
        (ix2 ⟨(smp t).val * 4096 + ((queryRow (stp t) i).val * 64 + qc.val), by omega⟩ ⟨(hd t).val * 128 + d.val, by omega⟩) := by
  rw [outsAt0]
  frame_open
  simp (disch := decide) only [↓ View.readCov_skip, ↓ View.readCov_cons_toLoadRect, ↓ View.readCov_fill]
  frame_out
  refine (block_at _ _ _ _ _ _ _ d _ (bias_row m c t i qc)).trans ?_
  exact blk_eq m c t i qc d _ _ _ _ (near_rows t _ _) (near_rows t _ _) (ctx_rows _ t _) (ctx_rows _ t _)

theorem o_blk (t : Fin cfg0.N) (i : Fin 8) (qc : Fin 64) (d : Fin 128) (f : Vec Ideal S16384x1024 .bf16) :
    f (ix2 ⟨(smp t).val * 4096 + ((queryRow (stp t) i).val * 64 + qc.val), by omega⟩ ⟨(hd t).val * 128 + d.val, by omega⟩)
      = f ((win0_4.blk t).view.emb (ix2 ⟨i.val * 64 + qc.val, by omega⟩ d)) := by
  blk_point [idx t, smp, hd, stp, queryRow]

end Cert.NaIdeal.Whole

namespace Cert.Proof.Na

theorem frame_p : Cert.quiescent_Na := fun m ρ _ => Cert.Na.Gen.frame m ρ
theorem frame_pi : Cert.quiescent_NaIdeal := fun m ρ _ => Cert.NaIdeal.Gen.frame m ρ
theorem frame_ri : Cert.quiescent_RefNaIdeal := fun m ρ _ =>
  (θ_run Cert.RefNaIdeal.defs _ _).mono (fun r h => ⟨fun c => (h c).2, sem_eq_zero_of_no_sems (by decide) r.2⟩)
    (Cert.RefNaIdeal.Value.run (F := Ideal) m ρ)
theorem preserves : Cert.preserves_Na_NaIdeal :=
  IdealRules.named_const.statement Cert.NaIdeal.κ "scale_log2e" .f32 0x3E0293EE#32 (((Real.sqrt 128)⁻¹ * (Real.log 2)⁻¹ : ℝ) : EReal) rfl

open Cert.NaIdeal Cert.NaIdeal.Gen Cert.NaIdeal.Whole in
theorem algebraic : Cert.algebraic_NaIdeal_RefNaIdeal := by
  pair_intro
  · run_from Cert.NaIdeal.Gen.run_main m g
  · run_from Cert.RefNaIdeal.Value.run m' g'
    symm
    refine (dats m 0 c).arrAt_eq_of_covers 4 _ (by decide +kernel) fun t _ y => ?_
    blk_simp
    obtain ⟨i, qc, d, rfl⟩ : ∃ (i : Fin 8) (qc : Fin 64) (d : Fin 128), y = ix2 (⟨i.val * 64 + qc.val, by omega⟩ : Fin 512) d := by
      have hy : (y 0).val < 512 := (y 0).isLt
      refine ⟨⟨(y 0).val / 64, by omega⟩, ⟨(y 0).val % 64, by omega⟩, y 1, ?_⟩
      funext a
      fin_cases a
      · exact Fin.ext (show (y 0).val = (y 0).val / 64 * 64 + (y 0).val % 64 by omega)
      · rfl
    rw [after0_4, out_at, Cert.RefNaIdeal.Whole.res_eq]
    obtain ⟨h0, h1⟩ := hagree c
    rw [h0, h1]
    exact o_blk t i qc d _

end Cert.Proof.Na

end
-- ==== Proof.MmQUp.lean ====
/- The latent attention's queries: the array that the blocked call leaves is the product of the whole operands. -/
module

public import proofs.«01_k».proof.Defs
public import proofs.«01_k».proof.Proof.Gen.QUp.Frame
public import proofs.«01_k».proof.Proof.Gen.QUpIdeal.Value
public import proofs.«01_k».proof.Proof.Gen.RefQUpIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QUpIdeal.Whole

open Cert.QUpIdeal Cert.QUpIdeal.Gen

variable (m : (ℓ : Loc nD τ sig) → Buf (Elt Ideal) ℓ)

/-- The reference's term: the rows times the weight. -/
abbrev prod (X : FVec Ideal S17408x768 .bf16) (W : FVec Ideal S768x2048 .bf16) : FVec Ideal S17408x2048 .bf16 :=
  truncf .bf16 (Host.dotGeneral Cert.RefQUpIdeal.dot_S17408x768_S768x2048_S17408x2048_1_0_0_1_n_n none
    (extf .f32 X Cert.RefQUpIdeal.Gen.bitsLt_bf16_f32) (extf .f32 W Cert.RefQUpIdeal.Gen.bitsLt_bf16_f32)) Cert.RefQUpIdeal.Gen.bitsLt_bf16_f32

/-- Which blocks each grid point works on. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QUpIdeal.Whole

namespace Cert.Proof.QUp

theorem frame_p : Cert.quiescent_QUp := fun m ρ _ => Cert.QUp.Gen.frame m ρ
theorem frame_pi : Cert.quiescent_QUpIdeal := fun m ρ _ => Cert.QUpIdeal.Gen.frame m ρ
theorem frame_ri : Cert.quiescent_RefQUpIdeal := fun m ρ _ =>
  (θ_run Cert.RefQUpIdeal.defs _ _).mono (fun r h => ⟨fun c => (h c).2, sem_eq_zero_of_no_sems (by decide) r.2⟩)
    (Cert.RefQUpIdeal.Value.run (F := Ideal) m ρ)
theorem preserves : Cert.preserves_QUp_QUpIdeal := trivial
theorem algebraic : Cert.algebraic_QUpIdeal_RefQUpIdeal := by
  pair_intro
  · run_from Cert.QUpIdeal.Gen.run_main m g
  · run_from Cert.RefQUpIdeal.Value.run m' g'
    exact (Cert.QUpIdeal.Whole.final m c).symm

end Cert.Proof.QUp

end
-- ==== Proof.MmKvUp.lean ====
/- The latent attention's keys and values: the array that the blocked call leaves is the product of the whole operands. -/
module

public import proofs.«01_k».proof.Defs
public import proofs.«01_k».proof.Proof.Gen.KvUp.Frame
public import proofs.«01_k».proof.Proof.Gen.KvUpIdeal.Value
public import proofs.«01_k».proof.Proof.Gen.RefKvUpIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvUpIdeal.Whole

open Cert.KvUpIdeal Cert.KvUpIdeal.Gen

variable (m : (ℓ : Loc nD τ sig) → Buf (Elt Ideal) ℓ)

/-- The reference's term: the rows times the weight. -/
abbrev prod (X : FVec Ideal S17408x512 .bf16) (W : FVec Ideal S512x2048 .bf16) : FVec Ideal S17408x2048 .bf16 :=
  truncf .bf16 (Host.dotGeneral Cert.RefKvUpIdeal.dot_S17408x512_S512x2048_S17408x2048_1_0_0_1_n_n none
    (extf .f32 X Cert.RefKvUpIdeal.Gen.bitsLt_bf16_f32) (extf .f32 W Cert.RefKvUpIdeal.Gen.bitsLt_bf16_f32)) Cert.RefKvUpIdeal.Gen.bitsLt_bf16_f32

/-- Which blocks each grid point works on. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a grid point stores at an index of its block is the whole product at the place of that index. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array is the whole product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KvUpIdeal.Whole

namespace Cert.Proof.KvUp

theorem frame_p : Cert.quiescent_KvUp := fun m ρ _ => Cert.KvUp.Gen.frame m ρ
theorem frame_pi : Cert.quiescent_KvUpIdeal := fun m ρ _ => Cert.KvUpIdeal.Gen.frame m ρ
theorem frame_ri : Cert.quiescent_RefKvUpIdeal := fun m ρ _ =>
  (θ_run Cert.RefKvUpIdeal.defs _ _).mono (fun r h => ⟨fun c => (h c).2, sem_eq_zero_of_no_sems (by decide) r.2⟩)
    (Cert.RefKvUpIdeal.Value.run (F := Ideal) m ρ)
theorem preserves : Cert.preserves_KvUp_KvUpIdeal := trivial
theorem algebraic : Cert.algebraic_KvUpIdeal_RefKvUpIdeal := by
  pair_intro
  · run_from Cert.KvUpIdeal.Gen.run_main m g
  · run_from Cert.RefKvUpIdeal.Value.run m' g'
    exact (Cert.KvUpIdeal.Whole.final m c).symm

end Cert.Proof.KvUp

end
-- ==== Proof.MmGateLat.lean ====
/- The last layer's gates: the array that the blocked call leaves is the product of the latent rows and the weight. -/
module

public import proofs.«01_k».proof.Defs
public import proofs.«01_k».proof.Proof.Gen.GateLat.Frame
public import proofs.«01_k».proof.Proof.Gen.GateLatIdeal.Value
public import proofs.«01_k».proof.Proof.Gen.RefGateLatIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.GateLatIdeal.Whole

open Cert.GateLatIdeal Cert.GateLatIdeal.Gen

variable (m : (ℓ : Loc nD τ sig) → Buf (Elt Ideal) ℓ)

/-- The reference's term: every sample's latent rows times the weight. -/
def prod (X : FVec Ideal S4x4352x4096 .bf16) (W : FVec Ideal S4096x16384 .bf16) : FVec Ideal S16384x16384 .bf16 :=
  truncf .bf16 (shapeCast _ (Host.dotGeneral Cert.RefGateLatIdeal.dot_S4x4096x4096_S4096x16384_S4x4096x16384_2_0_01_1_n_n none
    (extf .f32 (extractStridedSlice Cert.RefGateLatIdeal.S4x4096x4096 ![0, 0, 0] X Cert.RefGateLatIdeal.Gen.slices_S4x4352x4096_S4x4096x4096_0_0_0) Cert.RefGateLatIdeal.Gen.bitsLt_bf16_f32)
    (extf .f32 W Cert.RefGateLatIdeal.Gen.bitsLt_bf16_f32)) Cert.RefGateLatIdeal.Gen.shapeCasts_S4x4096x16384_S16384x16384) Cert.RefGateLatIdeal.Gen.bitsLt_bf16_f32

theorem prod_at (X : FVec Ideal S4x4352x4096 .bf16) (W : FVec Ideal S4096x16384 .bf16) (b : Fin 4) (r : Fin 4096) (n : Fin 16384) :
    prod X W (ix2 ⟨b.val * 4096 + r.val, by omega⟩ n) = ∑ k : Fin 4096, X (ix3 b ⟨r.val, by omega⟩ k) * W (ix2 k n) := by
  pointwise [prod]

/-- Which blocks each grid point works on. -/
theorem idx : ∀ t : Fin cfg0.N, win0_0.index t = ![t.val / 64, t.val / 16 % 4, 0] ∧ win0_1.index t = ![0, t.val % 16]
    ∧ win0_2.index t = ![t.val / 64 * 4 + t.val / 16 % 4, t.val % 16] :=
  (by decide +kernel : ∀ t : Fin grid0.N, _)

def smp (t : Fin cfg0.N) : Fin 4 := ⟨t.val / 64, by have : t.val < 256 := t.isLt; omega⟩
def rowTile (t : Fin cfg0.N) : Fin 4 := ⟨t.val / 16 % 4, Nat.mod_lt _ (by norm_num)⟩
def colTile (t : Fin cfg0.N) : Fin 16 := ⟨t.val % 16, Nat.mod_lt _ (by norm_num)⟩

theorem x_blk (c : Dev nD) (t : Fin cfg0.N) (n : Fin 1024) (k : Fin 4096) :
    X0_0 m c t (ix3 0 n k) = m (c.tc.loc main_arg0) (ix3 (smp t) ⟨(rowTile t).val * 1024 + n.val, by omega⟩ k) := by
  unfold X0_0 Pipeline.Window.fill
  rw [dif_pos (moved0_0 t _)]
  blk_point [iblk, V, idx t, smp, rowTile]

theorem w_blk (c : Dev nD) (t : Fin cfg0.N) (k : Fin 4096) (d : Fin 1024) :
    iblk m c 1 t (ix2 k d) = m (c.tc.loc main_arg1) (ix2 k ⟨(colTile t).val * 1024 + d.val, by omega⟩) := by
  blk_point [iblk, V, idx t, colTile]

theorem o_blk (t : Fin cfg0.N) (n d : Fin 1024) (f : FVec Ideal S16384x16384 .bf16) :
    f (ix2 ⟨(smp t).val * 4096 + ((rowTile t).val * 1024 + n.val), by omega⟩ ⟨(colTile t).val * 1024 + d.val, by omega⟩)
      = f ((win0_2.blk t).view.emb (ix2 n d)) := by
  blk_point [idx t, smp, rowTile, colTile]

/-- An entry of the product of two blocks. -/
def entry (x : Vec Ideal S1x1024x4096 .bf16) (w : Vec Ideal S4096x1024 .bf16) (n d : Fin 1024) : EReal :=
  ∑ k : Fin 4096, x (ix3 0 n k) * w (ix2 k d)

/-- What a grid point stores. -/
theorem pay_at (x : Vec Ideal S1x1024x4096 .bf16) (w : Vec Ideal S4096x1024 .bf16) (n d : Fin 1024) :
    k0_pay1 (F := Ideal) x w (ix2 n d) = entry x w n d := by
  pointwise [k0_pay1, entry]

theorem out_at (c : Dev nD) (t : Fin cfg0.N) (n d : Fin 1024) :
    (outsAt0 m c t) (ix2 n d) = entry (X0_0 m c t) (iblk m c 1 t) n d := by
  rw [outsAt0]
  frame_open
  frame_out
  exact pay_at _ _ n d

/-- The result array is the whole product. -/
theorem final (c : Dev nD) : (dats m 0 c).arrAt 2 (cfgs 0).N = prod (m (c.tc.loc main_arg0)) (m (c.tc.loc main_arg1)) := by
  refine (dats m 0 c).arrAt_eq_of_covers 2 _ (by decide +kernel) fun t _ y => ?_
  blk_simp
  obtain ⟨n, d, rfl⟩ : ∃ (n d : Fin 1024), y = ix2 n d := ⟨y 0, y 1, by funext a; fin_cases a <;> rfl⟩
  rw [after0_2]
  refine (out_at m c t n d).trans (Eq.trans ?_ (o_blk t n d _))
  rw [prod_at _ _ (smp t) ⟨(rowTile t).val * 1024 + n.val, by omega⟩]
  exact Finset.sum_congr rfl fun k _ => congrArg₂ (fun a b : EReal => a * b) (x_blk m c t n k) (w_blk m c t k d)

end Cert.GateLatIdeal.Whole

namespace Cert.Proof.GateLat

theorem frame_p : Cert.quiescent_GateLat := fun m ρ _ => Cert.GateLat.Gen.frame m ρ
theorem frame_pi : Cert.quiescent_GateLatIdeal := fun m ρ _ => Cert.GateLatIdeal.Gen.frame m ρ
theorem frame_ri : Cert.quiescent_RefGateLatIdeal := fun m ρ _ =>
  (θ_run Cert.RefGateLatIdeal.defs _ _).mono (fun r h => ⟨fun c => (h c).2, sem_eq_zero_of_no_sems (by decide) r.2⟩)
    (Cert.RefGateLatIdeal.Value.run (F := Ideal) m ρ)
theorem preserves : Cert.preserves_GateLat_GateLatIdeal := trivial
theorem algebraic : Cert.algebraic_GateLatIdeal_RefGateLatIdeal := by
  pair_intro
  · run_from Cert.GateLatIdeal.Gen.run_main m g
  · run_from Cert.RefGateLatIdeal.Value.run m' g'
    exact (Cert.GateLatIdeal.Whole.final m c).symm

end Cert.Proof.GateLat

end
-- ==== Proof.Norm.lean ====
/- The references' normalisation and modulation, entry by entry. -/
module

public import proofs.«01_k».proof.Defs
public import proofs.«01_k».proof.Proof.Gen.RefResidNormIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Norm

open Cert.RefResidNormIdeal Cert.RefResidNormIdeal.Gen

/-- The normalised rows times the gain, as the references form them. -/
def rms (X : FVec Ideal S4x4352x4096 .f32) (g : FVec Ideal S4096 .f32) : FVec Ideal S4x4352x4096 .f32 :=
  mulf (mulf X (broadcastInDim S4x4352x4096 ![0, 1, 2] bcast_S4x4352x1_S4x4352x4096_0_1_2 (Host.rsqrt (addf
    (Host.divf (broadcastInDim S4x4352x1 ![0, 1] bcast_S4x4352_S4x4352x1_0_1
      (Host.reduceAdd (mulf X X) (constant S_ .f32 0x00000000#32) reducesTo_S4x4352x4096_S4x4352_d2 h_S_))
      (broadcastInDim S4x4352x1 ![] bcast_S_S4x4352x1 (constant S_ .f32 0x45800000#32)))
    (broadcastInDim S4x4352x1 ![] bcast_S_S4x4352x1 (constant S_ .f32 0x358637BD#32))))))
    (broadcastInDim S4x4352x4096 ![0, 1, 2] bcast_S1x1x4096_S4x4352x4096_0_1_2 (broadcastInDim S1x1x4096 ![2] bcast_S4096_S1x1x4096_2 g))

/-- A sample's two rows of a modulation at each of its tokens. -/
def tok (v : FVec Ideal S8x1x4096 .f32) : FVec Ideal S4x4352x4096 .f32 :=
  concatenate S4x4352x4096 1 [⟨S4x4096x4096, broadcastInDim S4x4096x4096 ![0, 1, 2] bcast_S4x1x4096_S4x4096x4096_0_1_2
      (extractStridedSlice S4x1x4096 ![0, 0, 0] (shapeCast _ v shapeCasts_S8x1x4096_S4x2x4096) slices_S4x2x4096_S4x1x4096_0_0_0)⟩,
    ⟨S4x256x4096, broadcastInDim S4x256x4096 ![0, 1, 2] bcast_S4x1x4096_S4x256x4096_0_1_2
      (extractStridedSlice S4x1x4096 ![0, 1, 0] (shapeCast _ v shapeCasts_S8x1x4096_S4x2x4096) slices_S4x2x4096_S4x1x4096_0_1_0)⟩]
    concatenates_S4x4096x4096_S4x256x4096_S4x4352x4096_d1

/-- A row normalised. -/
def unit {n : ℕ} (N : EReal) (x : Fin n → EReal) (k : Fin n) : EReal :=
  x k * Ideal.rsqrt (Ideal.div (∑ j, x j * x j) N + FloatOps.ofBits (F := Ideal) .f32 0x358637BD#32)

theorem rms_at (X : FVec Ideal S4x4352x4096 .f32) (g : FVec Ideal S4096 .f32) (b : Fin 4) (r : Fin 4352) (k : Fin 4096) :
    rms X g (ix3 b r k) = unit (FloatOps.ofBits (F := Ideal) .f32 0x45800000#32) (fun k => X (ix3 b r k)) k * g (ix1 k) := by
  pointwise [rms, unit]

/-- The row of a token in a modulation: the sample's first for a latent token, its second for a context one. -/
def modRow (b : Fin 4) (r : Fin 4352) : Fin 8 := ⟨b.val * 2 + r.val / 4096, by omega⟩

theorem tok_lat (v : FVec Ideal S8x1x4096 .f32) (b : Fin 4) (r : Fin 4096) (k : Fin 4096) :
    tok v (ix3 b ⟨r.val, by omega⟩ k) = v (ix3 ⟨b.val * 2, by omega⟩ 0 k) := by
  pointwise [tok]

theorem tok_ctx (v : FVec Ideal S8x1x4096 .f32) (b : Fin 4) (r : Fin 256) (k : Fin 4096) :
    tok v (ix3 b ⟨4096 + r.val, by omega⟩ k) = v (ix3 ⟨b.val * 2 + 1, by omega⟩ 0 k) := by
  pointwise [tok]

theorem tok_at (v : FVec Ideal S8x1x4096 .f32) (b : Fin 4) (r : Fin 4352) (k : Fin 4096) :
    tok v (ix3 b r k) = v (ix3 (modRow b r) 0 k) := by
  by_cases h : r.val < 4096
  · refine (tok_lat v b ⟨r.val, h⟩ k).trans (congrArg (fun q => v (ix3 q 0 k)) (Fin.ext ?_))
    change b.val * 2 = b.val * 2 + r.val / 4096
    omega
  · have e : r = ⟨4096 + (⟨r.val - 4096, by omega⟩ : Fin 256).val, by simp only; omega⟩ := Fin.ext (by simp only; omega)
    refine (congrArg (fun q => tok v (ix3 b q k)) e).trans ((tok_ctx v b _ k).trans (congrArg (fun q => v (ix3 q 0 k)) (Fin.ext ?_)))
    change b.val * 2 + 1 = b.val * 2 + r.val / 4096
    omega

/-- The normalised rows, scaled and shifted by the modulation. -/
def modulated (X : FVec Ideal S4x4352x4096 .f32) (g : FVec Ideal S4096 .f32) (sh sc : FVec Ideal S8x1x4096 .f32) : FVec Ideal S4x4352x4096 .bf16 :=
  truncf .bf16 (addf (mulf (rms X g) (addf (broadcastInDim S4x4352x4096 ![] bcast_S_S4x4352x4096 (constant S_ .f32 0x3F800000#32)) (tok sc))) (tok sh))
    bitsLt_bf16_f32

/-- A modulated entry, of its row. -/
def modEntry (x : Fin 4096 → EReal) (g sh sc : EReal) (k : Fin 4096) : EReal :=
  unit (FloatOps.ofBits (F := Ideal) .f32 0x45800000#32) x k * g * (FloatOps.ofBits (F := Ideal) .f32 0x3F800000#32 + sc) + sh

theorem modulated_at (X : FVec Ideal S4x4352x4096 .f32) (g : FVec Ideal S4096 .f32) (sh sc : FVec Ideal S8x1x4096 .f32)
    (b : Fin 4) (r : Fin 4352) (k : Fin 4096) :
    modulated X g sh sc (ix3 b r k) = modEntry (fun k => X (ix3 b r k)) (g (ix1 k)) (sh (ix3 (modRow b r) 0 k)) (sc (ix3 (modRow b r) 0 k)) k := by
  rw [modEntry, ← rms_at, ← tok_at sh, ← tok_at sc]
  pointwise [modulated]

/-- The stream plus the gated, normalised output. -/
def stepped (X : FVec Ideal S4x4352x4096 .f32) (Y : FVec Ideal S4x4352x4096 .bf16) (gate : FVec Ideal S8x1x4096 .f32) (g : FVec Ideal S4096 .f32) :
    FVec Ideal S4x4352x4096 .f32 := addf X (mulf (tok gate) (rms (extf .f32 Y bitsLt_bf16_f32) g))

/-- An entry of it, of its row of the output. -/
def stepEntry (x : EReal) (y : Fin 4096 → EReal) (gate g : EReal) (k : Fin 4096) : EReal :=
  x + gate * (unit (FloatOps.ofBits (F := Ideal) .f32 0x45800000#32) y k * g)

theorem stepped_at (X : FVec Ideal S4x4352x4096 .f32) (Y : FVec Ideal S4x4352x4096 .bf16) (gate : FVec Ideal S8x1x4096 .f32) (g : FVec Ideal S4096 .f32)
    (b : Fin 4) (r : Fin 4352) (k : Fin 4096) :
    stepped X Y gate g (ix3 b r k) = stepEntry (X (ix3 b r k)) (fun k => Y (ix3 b r k)) (gate (ix3 (modRow b r) 0 k)) (g (ix1 k)) k := by
  have h : rms (extf .f32 Y bitsLt_bf16_f32) g (ix3 b r k) = unit (FloatOps.ofBits (F := Ideal) .f32 0x45800000#32) (fun k => Y (ix3 b r k)) k * g (ix1 k) :=
    rms_at _ g b r k
  rw [stepEntry, ← h, ← tok_at gate]
  pointwise [stepped]

end Cert.Norm

end
-- ==== Proof.NormMod.lean ====
/- The modulated normalisation: the array that the call leaves is the reference's. -/
module

public import proofs.«01_k».proof.Defs
public import proofs.«01_k».proof.Proof.Norm
public import proofs.«01_k».proof.Proof.Gen.NormMod.Frame
public import proofs.«01_k».proof.Proof.Gen.NormModIdeal.Value
public import proofs.«01_k».proof.Proof.Gen.RefNormModIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.NormModIdeal.Whole

open Cert.NormModIdeal Cert.NormModIdeal.Gen
open Cert.Norm (modEntry modRow modulated modulated_at)

variable (m : (ℓ : Loc nD τ sig) → Buf (Elt Ideal) ℓ)

/-- Which blocks each grid point works on. -/
theorem idx : ∀ t : Fin cfg0.N, win0_0.index t = ![t.val / 17, t.val % 17, 0] ∧ win0_1.index t = ![0, 0]
    ∧ win0_2.index t = ![t.val / 17 * 2 + t.val % 17 / 16, 0, 0] ∧ win0_3.index t = ![t.val / 17 * 2 + t.val % 17 / 16, 0, 0]
    ∧ win0_4.index t = ![t.val / 17, t.val % 17, 0] :=
  (by decide +kernel : ∀ t : Fin grid0.N, _)

/-- The sample of a grid point, its tile of rows, and the token of a row of the tile. -/
def smp (t : Fin cfg0.N) : Fin 4 := ⟨t.val / 17, by have : t.val < 68 := t.isLt; omega⟩
def tile (t : Fin cfg0.N) : Fin 17 := ⟨t.val % 17, Nat.mod_lt _ (by norm_num)⟩
def token (t : Fin cfg0.N) (n : Fin 256) : Fin 4352 := ⟨(tile t).val * 256 + n.val, by omega⟩

theorem row_eq (t : Fin cfg0.N) (n : Fin 256) : modRow (smp t) (token t n) = ⟨(smp t).val * 2 + (tile t).val / 16, by omega⟩ :=
  Fin.ext (show (smp t).val * 2 + ((tile t).val * 256 + n.val) / 4096 = (smp t).val * 2 + (tile t).val / 16 by omega)

theorem host (c : Dev nD) (k : Fin 4096) : V m c main_v0 (ix2 0 k) = m (c.tc.loc main_arg1) (ix1 k) := by
  entry_read
  pointwise

theorem x_blk (c : Dev nD) (t : Fin cfg0.N) (n : Fin 256) (k : Fin 4096) :
    iblk m c 0 t (ix3 0 n k) = m (c.tc.loc main_arg0) (ix3 (smp t) (token t n) k) := by
  blk_point [iblk, V, idx t, smp, tile, token]

theorem g_blk (c : Dev nD) (t : Fin cfg0.N) (k : Fin 4096) : iblk m c 1 t (ix2 0 k) = m (c.tc.loc main_arg1) (ix1 k) := by
  refine Eq.trans ?_ (host m c k)
  blk_point [iblk, idx t]

theorem sh_blk (c : Dev nD) (t : Fin cfg0.N) (n : Fin 256) (k : Fin 4096) :
    iblk m c 2 t (ix3 0 0 k) = m (c.tc.loc main_arg2) (ix3 (modRow (smp t) (token t n)) 0 k) := by
  rw [row_eq]
  blk_point [iblk, V, idx t, smp, tile]

theorem sc_blk (c : Dev nD) (t : Fin cfg0.N) (n : Fin 256) (k : Fin 4096) :
    iblk m c 3 t (ix3 0 0 k) = m (c.tc.loc main_arg3) (ix3 (modRow (smp t) (token t n)) 0 k) := by
  rw [row_eq]
  blk_point [iblk, V, idx t, smp, tile]

theorem o_blk (t : Fin cfg0.N) (n : Fin 256) (k : Fin 4096) (f : FVec Ideal S4x4352x4096 .bf16) :
    f (ix3 (smp t) (token t n) k) = f ((win0_4.blk t).view.emb (ix3 0 n k)) := by
  blk_point [idx t, smp, tile, token]

/-- What a grid point stores, of the blocks it reads. -/
theorem pay_at (x : Vec Ideal S1x256x4096 .f32) (g : Vec Ideal S1x4096 .f32) (sc sh : Vec Ideal S1x1x4096 .f32) (n : Fin 256) (k : Fin 4096) :
    k0_pay1 (F := Ideal) x g sc sh (ix3 0 n k) = modEntry (fun k => x (ix3 0 n k)) (g (ix2 0 k)) (sh (ix3 0 0 k)) (sc (ix3 0 0 k)) k := by
  pointwise [k0_pay1, modEntry, Cert.Norm.unit]

/-- The result array is the reference's. -/
theorem final (c : Dev nD) : (dats m 0 c).arrAt 4 (cfgs 0).N
    = modulated (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  obtain ⟨z, n, k, rfl⟩ : ∃ (z : Fin 1) (n : Fin 256) (k : Fin 4096), y = ix3 z n k := ⟨y 0, y 1, y 2, by funext a; fin_cases a <;> rfl⟩
  obtain rfl : z = 0 := Subsingleton.elim _ _
  rw [after0_4]; frame_out
  refine (pay_at _ _ _ _ n k).trans (Eq.trans ?_ (o_blk t n k _))
  rw [modulated_at, g_blk, sh_blk m c t n, sc_blk m c t n]
  exact congrArg (fun f => modEntry f _ _ _ k) (funext fun k => x_blk m c t n k)

end Cert.NormModIdeal.Whole

namespace Cert.Proof.NormMod

theorem frame_p : Cert.quiescent_NormMod := fun m ρ _ => Cert.NormMod.Gen.frame m ρ
theorem frame_pi : Cert.quiescent_NormModIdeal := fun m ρ _ => Cert.NormModIdeal.Gen.frame m ρ
theorem frame_ri : Cert.quiescent_RefNormModIdeal := fun m ρ _ =>
  (θ_run Cert.RefNormModIdeal.defs _ _).mono (fun r h => ⟨fun c => (h c).2, sem_eq_zero_of_no_sems (by decide) r.2⟩)
    (Cert.RefNormModIdeal.Value.run (F := Ideal) m ρ)
theorem preserves : Cert.preserves_NormMod_NormModIdeal := trivial
theorem algebraic : Cert.algebraic_NormModIdeal_RefNormModIdeal := by
  pair_intro
  · run_from Cert.NormModIdeal.Gen.run_main m g
  · run_from Cert.RefNormModIdeal.Value.run m' g'
    obtain ⟨h0, h1, h2, h3⟩ := hagree c
    refine Eq.trans ?_ (Cert.NormModIdeal.Whole.final m c).symm
    rw [← h2, ← h3]
    rfl

end Cert.Proof.NormMod

end
-- ==== Proof.ResidNorm.lean ====
/- The step of the stream and its modulated normalisation: the arrays that the call leaves are the reference's. -/
module

public import proofs.«01_k».proof.Defs
public import proofs.«01_k».proof.Proof.Norm
public import proofs.«01_k».proof.Proof.Gen.ResidNorm.Frame
public import proofs.«01_k».proof.Proof.Gen.ResidNormIdeal.Value
public import proofs.«01_k».proof.Proof.Gen.RefResidNormIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.ResidNormIdeal.Whole

open Cert.ResidNormIdeal Cert.ResidNormIdeal.Gen
open Cert.Norm (unit modEntry modRow modulated modulated_at stepEntry stepped stepped_at)

variable (m : (ℓ : Loc nD τ sig) → Buf (Elt Ideal) ℓ)

/-- Which blocks each grid point works on. -/
theorem idx : ∀ t : Fin cfg0.N, win0_0.index t = ![t.val / 17, t.val % 17, 0] ∧ win0_1.index t = ![t.val / 17, t.val % 17, 0]
    ∧ win0_2.index t = ![t.val / 17 * 2 + t.val % 17 / 16, 0, 0] ∧ win0_3.index t = ![0, 0] ∧ win0_4.index t = ![0, 0]
    ∧ win0_5.index t = ![t.val / 17 * 2 + t.val % 17 / 16, 0, 0] ∧ win0_6.index t = ![t.val / 17 * 2 + t.val % 17 / 16, 0, 0]
    ∧ win0_7.index t = ![t.val / 17, t.val % 17, 0] ∧ win0_8.index t = ![t.val / 17, t.val % 17, 0] :=
  (by decide +kernel : ∀ t : Fin grid0.N, _)

/-- The sample of a grid point, its tile of rows, and the token of a row of the tile. -/
def smp (t : Fin cfg0.N) : Fin 4 := ⟨t.val / 17, by have : t.val < 68 := t.isLt; omega⟩
def tile (t : Fin cfg0.N) : Fin 17 := ⟨t.val % 17, Nat.mod_lt _ (by norm_num)⟩
def token (t : Fin cfg0.N) (n : Fin 256) : Fin 4352 := ⟨(tile t).val * 256 + n.val, by omega⟩

theorem row_eq (t : Fin cfg0.N) (n : Fin 256) : modRow (smp t) (token t n) = ⟨(smp t).val * 2 + (tile t).val / 16, by omega⟩ :=
  Fin.ext (show (smp t).val * 2 + ((tile t).val * 256 + n.val) / 4096 = (smp t).val * 2 + (tile t).val / 16 by omega)

theorem host0 (c : Dev nD) (k : Fin 4096) : V m c main_v0 (ix2 0 k) = m (c.tc.loc main_arg3) (ix1 k) := by
  entry_read
  pointwise

theorem host1 (c : Dev nD) (k : Fin 4096) : V m c main_v1 (ix2 0 k) = m (c.tc.loc main_arg4) (ix1 k) := by
  entry_read
  pointwise

theorem x_blk (c : Dev nD) (t : Fin cfg0.N) (n : Fin 256) (k : Fin 4096) :
    iblk m c 0 t (ix3 0 n k) = m (c.tc.loc main_arg0) (ix3 (smp t) (token t n) k) := by
  blk_point [iblk, V, idx t, smp, tile, token]

theorem y_blk (c : Dev nD) (t : Fin cfg0.N) (n : Fin 256) (k : Fin 4096) :
    iblk m c 1 t (ix3 0 n k) = m (c.tc.loc main_arg1) (ix3 (smp t) (token t n) k) := by
  blk_point [iblk, V, idx t, smp, tile, token]

theorem gpost_blk (c : Dev nD) (t : Fin cfg0.N) (k : Fin 4096) : iblk m c 3 t (ix2 0 k) = m (c.tc.loc main_arg3) (ix1 k) := by
  refine Eq.trans ?_ (host0 m c k)
  blk_point [iblk, idx t]

theorem gpre_blk (c : Dev nD) (t : Fin cfg0.N) (k : Fin 4096) : iblk m c 4 t (ix2 0 k) = m (c.tc.loc main_arg4) (ix1 k) := by
  refine Eq.trans ?_ (host1 m c k)
  blk_point [iblk, idx t]

theorem gate_blk (c : Dev nD) (t : Fin cfg0.N) (n : Fin 256) (k : Fin 4096) :
    iblk m c 2 t (ix3 0 0 k) = m (c.tc.loc main_arg2) (ix3 (modRow (smp t) (token t n)) 0 k) := by
  rw [row_eq]
  blk_point [iblk, V, idx t, smp, tile]

theorem sh_blk (c : Dev nD) (t : Fin cfg0.N) (n : Fin 256) (k : Fin 4096) :
    iblk m c 5 t (ix3 0 0 k) = m (c.tc.loc main_arg5) (ix3 (modRow (smp t) (token t n)) 0 k) := by
  rw [row_eq]
  blk_point [iblk, V, idx t, smp, tile]

theorem sc_blk (c : Dev nD) (t : Fin cfg0.N) (n : Fin 256) (k : Fin 4096) :
    iblk m c 6 t (ix3 0 0 k) = m (c.tc.loc main_arg6) (ix3 (modRow (smp t) (token t n)) 0 k) := by
  rw [row_eq]
  blk_point [iblk, V, idx t, smp, tile]

theorem o_blk7 (t : Fin cfg0.N) (n : Fin 256) (k : Fin 4096) (f : FVec Ideal S4x4352x4096 .f32) :
    f (ix3 (smp t) (token t n) k) = f ((win0_7.blk t).view.emb (ix3 0 n k)) := by
  blk_point [idx t, smp, tile, token]

theorem o_blk8 (t : Fin cfg0.N) (n : Fin 256) (k : Fin 4096) (f : FVec Ideal S4x4352x4096 .bf16) :
    f (ix3 (smp t) (token t n) k) = f ((win0_8.blk t).view.emb (ix3 0 n k)) := by
  blk_point [idx t, smp, tile, token]

/-- What a grid point stores, of the blocks it reads: the new stream, then its modulated normalisation. -/
theorem pay2_at (x : Vec Ideal S1x256x4096 .f32) (gate : Vec Ideal S1x1x4096 .f32) (y : Vec Ideal S1x256x4096 .bf16) (g : Vec Ideal S1x4096 .f32)
    (n : Fin 256) (k : Fin 4096) :
    k0_pay2 (F := Ideal) x gate y g (ix2 n k) = stepEntry (x (ix3 0 n k)) (fun k => y (ix3 0 n k)) (gate (ix3 0 0 k)) (g (ix2 0 k)) k := by
  pointwise [k0_pay2, stepEntry, unit]

theorem pay3_at (x : Vec Ideal S1x256x4096 .f32) (gate : Vec Ideal S1x1x4096 .f32) (y : Vec Ideal S1x256x4096 .bf16) (g : Vec Ideal S1x4096 .f32)
    (n : Fin 256) (k : Fin 4096) :
    k0_pay3 (F := Ideal) x gate y g (ix3 0 n k) = stepEntry (x (ix3 0 n k)) (fun k => y (ix3 0 n k)) (gate (ix3 0 0 k)) (g (ix2 0 k)) k := by
  rw [← pay2_at]
  pointwise [k0_pay3]

theorem pay1_at (x : Vec Ideal S1x256x4096 .f32) (gate : Vec Ideal S1x1x4096 .f32) (y : Vec Ideal S1x256x4096 .bf16) (g g' : Vec Ideal S1x4096 .f32)
    (sc sh : Vec Ideal S1x1x4096 .f32) (n : Fin 256) (k : Fin 4096) :
    k0_pay1 (F := Ideal) (k0_pay2 x gate y g) (k0_pay4 g') (k0_pay5 x gate y g) k0_pay6 sc sh (ix3 0 n k)
      = modEntry (fun k => stepEntry (x (ix3 0 n k)) (fun k => y (ix3 0 n k)) (gate (ix3 0 0 k)) (g (ix2 0 k)) k) (g' (ix2 0 k)) (sh (ix3 0 0 k)) (sc (ix3 0 0 k)) k := by
  simp only [← pay2_at]
  pointwise [k0_pay1, k0_pay4, k0_pay5, k0_pay6, modEntry, unit]

/-- The new stream's entry, of what the point reads. -/
theorem step_eq (c : Dev nD) (t : Fin cfg0.N) (n : Fin 256) (k : Fin 4096) :
    stepEntry (iblk m c 0 t (ix3 0 n k)) (fun k => iblk m c 1 t (ix3 0 n k)) (iblk m c 2 t (ix3 0 0 k)) (iblk m c 3 t (ix2 0 k)) k
      = stepped (m (c.tc.loc main_arg0)) (m (c.tc.loc main_arg1)) (m (c.tc.loc main_arg2)) (m (c.tc.loc main_arg3)) (ix3 (smp t) (token t n) k) := by
  rw [stepped_at, x_blk, gate_blk m c t n, gpost_blk]
  exact congrArg (fun f => stepEntry _ f _ _ k) (funext fun k => y_blk m c t n k)

theorem split (y : S1x256x4096.Idx) : ∃ (n : Fin 256) (k : Fin 4096), y = ix3 0 n k :=
  ⟨y 1, y 2, by funext a; fin_cases a; exacts [Subsingleton.elim (α := Fin 1) _ _, rfl, rfl]⟩

/-- The first result is the reference's. -/
theorem final7 (c : Dev nD) : (dats m 0 c).arrAt 7 (cfgs 0).N
    = stepped (m (c.tc.loc main_arg0)) (m (c.tc.loc main_arg1)) (m (c.tc.loc main_arg2)) (m (c.tc.loc main_arg3)) := by
  refine (dats m 0 c).arrAt_eq_of_covers 7 _ (by decide +kernel) fun t _ y => ?_
  blk_simp
  obtain ⟨n, k, rfl⟩ := split y
  rw [after0_7]; frame_out
  exact (pay3_at _ _ _ _ n k).trans ((step_eq m c t n k).trans (o_blk7 t n k _))

/-- The second result is the reference's. -/
theorem final8 (c : Dev nD) : (dats m 0 c).arrAt 8 (cfgs 0).N
    = modulated (stepped (m (c.tc.loc main_arg0)) (m (c.tc.loc main_arg1)) (m (c.tc.loc main_arg2)) (m (c.tc.loc main_arg3)))
      (m (c.tc.loc main_arg4)) (m (c.tc.loc main_arg5)) (m (c.tc.loc main_arg6)) := by
  refine (dats m 0 c).arrAt_eq_of_covers 8 _ (by decide +kernel) fun t _ y => ?_
  blk_simp
  obtain ⟨n, k, rfl⟩ := split y
  rw [after0_8]; frame_out
  refine (pay1_at _ _ _ _ _ _ _ n k).trans (Eq.trans ?_ (o_blk8 t n k _))
  rw [modulated_at, gpre_blk, sh_blk m c t n, sc_blk m c t n]
  exact congrArg (fun f => modEntry f _ _ _ k) (funext fun k => step_eq m c t n k)

end Cert.ResidNormIdeal.Whole

namespace Cert.Proof.ResidNorm

theorem frame_p : Cert.quiescent_ResidNorm := fun m ρ _ => Cert.ResidNorm.Gen.frame m ρ
theorem frame_pi : Cert.quiescent_ResidNormIdeal := fun m ρ _ => Cert.ResidNormIdeal.Gen.frame m ρ
theorem frame_ri : Cert.quiescent_RefResidNormIdeal := fun m ρ _ =>
  (θ_run Cert.RefResidNormIdeal.defs _ _).mono (fun r h => ⟨fun c => (h c).2.2, sem_eq_zero_of_no_sems (by decide) r.2⟩)
    (Cert.RefResidNormIdeal.Value.run (F := Ideal) m ρ)
theorem preserves : Cert.preserves_ResidNorm_ResidNormIdeal := trivial
theorem algebraic : Cert.algebraic_ResidNormIdeal_RefResidNormIdeal := by
  pair_intro
  · run_from Cert.ResidNormIdeal.Gen.run_main m g
  · run_from Cert.RefResidNormIdeal.Value.run m' g'
    all_goals obtain ⟨h0, h1, h2, h3, h4, h5, h6⟩ := hagree c
    · refine Eq.trans ?_ (Cert.ResidNormIdeal.Whole.final7 m c).symm
      rw [← h2]
      rfl
    · refine Eq.trans ?_ (Cert.ResidNormIdeal.Whole.final8 m c).symm
      rw [← h0, ← h1, ← h2, ← h3, ← h4, ← h5, ← h6]
      rfl

end Cert.Proof.ResidNorm

end
-- ==== Proof.Resid.lean ====
/- The last step of the stream: the array that the call leaves is the reference's. -/
module

public import proofs.«01_k».proof.Defs
public import proofs.«01_k».proof.Proof.Norm
public import proofs.«01_k».proof.Proof.Gen.Resid.Frame
public import proofs.«01_k».proof.Proof.Gen.ResidIdeal.Value
public import proofs.«01_k».proof.Proof.Gen.RefResidIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.ResidIdeal.Whole

open Cert.ResidIdeal Cert.ResidIdeal.Gen
open Cert.Norm (unit stepEntry)

variable (m : (ℓ : Loc nD τ sig) → Buf (Elt Ideal) ℓ)

/-- The reference's term: the latent rows of the stream plus the gated, normalised output. -/
def whole (X : FVec Ideal S4x4352x4096 .f32) (Y : FVec Ideal S4x4096x4096 .bf16) (gate : FVec Ideal S8x1x4096 .f32) (g : FVec Ideal S4096 .f32) :
    FVec Ideal S4x4096x4096 .f32 :=
  addf (extractStridedSlice Cert.RefResidIdeal.S4x4096x4096 ![0, 0, 0] X Cert.RefResidIdeal.Gen.slices_S4x4352x4096_S4x4096x4096_0_0_0) (mulf (broadcastInDim Cert.RefResidIdeal.S4x4096x4096 ![0, 1, 2] Cert.RefResidIdeal.Gen.bcast_S4x1x4096_S4x4096x4096_0_1_2 (extractStridedSlice Cert.RefResidIdeal.S4x1x4096 ![0, 0, 0] (shapeCast _ gate Cert.RefResidIdeal.Gen.shapeCasts_S8x1x4096_S4x2x4096) Cert.RefResidIdeal.Gen.slices_S4x2x4096_S4x1x4096_0_0_0)) (mulf (mulf (extf .f32 Y Cert.RefResidIdeal.Gen.bitsLt_bf16_f32) (broadcastInDim Cert.RefResidIdeal.S4x4096x4096 ![0, 1, 2] Cert.RefResidIdeal.Gen.bcast_S4x4096x1_S4x4096x4096_0_1_2 (Host.rsqrt (addf (Host.divf (broadcastInDim Cert.RefResidIdeal.S4x4096x1 ![0, 1] Cert.RefResidIdeal.Gen.bcast_S4x4096_S4x4096x1_0_1 (Host.reduceAdd (mulf (extf .f32 Y Cert.RefResidIdeal.Gen.bitsLt_bf16_f32) (extf .f32 Y Cert.RefResidIdeal.Gen.bitsLt_bf16_f32)) (constant Cert.RefResidIdeal.S_ .f32 0x00000000#32) Cert.RefResidIdeal.Gen.reducesTo_S4x4096x4096_S4x4096_d2 Cert.RefResidIdeal.Gen.h_S_)) (broadcastInDim Cert.RefResidIdeal.S4x4096x1 ![] Cert.RefResidIdeal.Gen.bcast_S_S4x4096x1 (constant Cert.RefResidIdeal.S_ .f32 0x45800000#32))) (broadcastInDim Cert.RefResidIdeal.S4x4096x1 ![] Cert.RefResidIdeal.Gen.bcast_S_S4x4096x1 (constant Cert.RefResidIdeal.S_ .f32 0x358637BD#32)))))) (broadcastInDim Cert.RefResidIdeal.S4x4096x4096 ![0, 1, 2] Cert.RefResidIdeal.Gen.bcast_S1x1x4096_S4x4096x4096_0_1_2 (broadcastInDim Cert.RefResidIdeal.S1x1x4096 ![2] Cert.RefResidIdeal.Gen.bcast_S4096_S1x1x4096_2 g))))

theorem whole_at (X : FVec Ideal S4x4352x4096 .f32) (Y : FVec Ideal S4x4096x4096 .bf16) (gate : FVec Ideal S8x1x4096 .f32) (g : FVec Ideal S4096 .f32)
    (b : Fin 4) (r k : Fin 4096) :
    whole X Y gate g (ix3 b r k) = stepEntry (X (ix3 b ⟨r.val, by omega⟩ k)) (fun k => Y (ix3 b r k)) (gate (ix3 ⟨b.val * 2, by omega⟩ 0 k)) (g (ix1 k)) k := by
  pointwise [whole, stepEntry, unit]

/-- Which blocks each grid point works on. -/
theorem idx : ∀ t : Fin cfg0.N, win0_0.index t = ![t.val / 16, t.val % 16, 0] ∧ win0_1.index t = ![t.val / 16, t.val % 16, 0]
    ∧ win0_2.index t = ![t.val / 16 * 2, 0, 0] ∧ win0_3.index t = ![0, 0] ∧ win0_4.index t = ![t.val / 16, t.val % 16, 0] :=
  (by decide +kernel : ∀ t : Fin grid0.N, _)

/-- The sample of a grid point, its tile of rows, and the token of a row of the tile. -/
def smp (t : Fin cfg0.N) : Fin 4 := ⟨t.val / 16, by have : t.val < 64 := t.isLt; omega⟩
def tile (t : Fin cfg0.N) : Fin 16 := ⟨t.val % 16, Nat.mod_lt _ (by norm_num)⟩
def token (t : Fin cfg0.N) (n : Fin 256) : Fin 4096 := ⟨(tile t).val * 256 + n.val, by omega⟩

theorem host (c : Dev nD) (k : Fin 4096) : V m c main_v0 (ix2 0 k) = m (c.tc.loc main_arg3) (ix1 k) := by
  entry_read
  pointwise

theorem x_blk (c : Dev nD) (t : Fin cfg0.N) (n : Fin 256) (k : Fin 4096) :
    iblk m c 0 t (ix3 0 n k) = m (c.tc.loc main_arg0) (ix3 (smp t) ⟨(token t n).val, by omega⟩ k) := by
  blk_point [iblk, V, idx t, smp, tile, token]

theorem y_blk (c : Dev nD) (t : Fin cfg0.N) (n : Fin 256) (k : Fin 4096) :
    iblk m c 1 t (ix3 0 n k) = m (c.tc.loc main_arg1) (ix3 (smp t) (token t n) k) := by
  blk_point [iblk, V, idx t, smp, tile, token]

theorem gate_blk (c : Dev nD) (t : Fin cfg0.N) (k : Fin 4096) :
    iblk m c 2 t (ix3 0 0 k) = m (c.tc.loc main_arg2) (ix3 ⟨(smp t).val * 2, by omega⟩ 0 k) := by
  blk_point [iblk, V, idx t, smp]

theorem g_blk (c : Dev nD) (t : Fin cfg0.N) (k : Fin 4096) : iblk m c 3 t (ix2 0 k) = m (c.tc.loc main_arg3) (ix1 k) := by
  refine Eq.trans ?_ (host m c k)
  blk_point [iblk, idx t]

theorem o_blk (t : Fin cfg0.N) (n : Fin 256) (k : Fin 4096) (f : FVec Ideal S4x4096x4096 .f32) :
    f (ix3 (smp t) (token t n) k) = f ((win0_4.blk t).view.emb (ix3 0 n k)) := by
  blk_point [idx t, smp, tile, token]

/-- What a grid point stores, of the blocks it reads. -/
theorem pay_at (x : Vec Ideal S1x256x4096 .f32) (gate : Vec Ideal S1x1x4096 .f32) (y : Vec Ideal S1x256x4096 .bf16) (g : Vec Ideal S1x4096 .f32)
    (n : Fin 256) (k : Fin 4096) :
    k0_pay1 (F := Ideal) x gate y g (ix3 0 n k) = stepEntry (x (ix3 0 n k)) (fun k => y (ix3 0 n k)) (gate (ix3 0 0 k)) (g (ix2 0 k)) k := by
  pointwise [k0_pay1, stepEntry, unit]

theorem split (y : S1x256x4096.Idx) : ∃ (n : Fin 256) (k : Fin 4096), y = ix3 0 n k :=
  ⟨y 1, y 2, by funext a; fin_cases a; exacts [Subsingleton.elim (α := Fin 1) _ _, rfl, rfl]⟩

/-- The result array is the reference's. -/
theorem final (c : Dev nD) : (dats m 0 c).arrAt 4 (cfgs 0).N
    = whole (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  obtain ⟨n, k, rfl⟩ := split y
  rw [after0_4]; frame_out
  refine (pay_at _ _ _ _ n k).trans (Eq.trans ?_ (o_blk t n k _))
  rw [whole_at, x_blk, gate_blk, g_blk]
  exact congrArg (fun f => stepEntry _ f _ _ k) (funext fun k => y_blk m c t n k)

end Cert.ResidIdeal.Whole

namespace Cert.Proof.Resid

theorem frame_p : Cert.quiescent_Resid := fun m ρ _ => Cert.Resid.Gen.frame m ρ
theorem frame_pi : Cert.quiescent_ResidIdeal := fun m ρ _ => Cert.ResidIdeal.Gen.frame m ρ
theorem frame_ri : Cert.quiescent_RefResidIdeal := fun m ρ _ =>
  (θ_run Cert.RefResidIdeal.defs _ _).mono (fun r h => ⟨fun c => (h c).2, sem_eq_zero_of_no_sems (by decide) r.2⟩)
    (Cert.RefResidIdeal.Value.run (F := Ideal) m ρ)
theorem preserves : Cert.preserves_Resid_ResidIdeal := trivial
theorem algebraic : Cert.algebraic_ResidIdeal_RefResidIdeal := by
  pair_intro
  · run_from Cert.ResidIdeal.Gen.run_main m g
  · run_from Cert.RefResidIdeal.Value.run m' g'
    exact (Cert.ResidIdeal.Whole.final m c).symm

end Cert.Proof.Resid

end
-- ==== Proof.Ada.lean ====
/- The modulation of the first layer: the array that the call leaves is the reference's. -/
module

public import proofs.«01_k».proof.Defs
public import proofs.«01_k».proof.Proof.Sigmoid
public import proofs.«01_k».proof.Proof.Gen.Ada.Frame
public import proofs.«01_k».proof.Proof.Gen.AdaIdeal.Value
public import proofs.«01_k».proof.Proof.Gen.RefAdaIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.AdaIdeal.Whole

open Cert.AdaIdeal Cert.AdaIdeal.Gen

variable (m : (ℓ : Loc nD τ sig) → Buf (Elt Ideal) ℓ)

/-- The reference's term: the gated conditioning rows times the first layer's weight, plus its bias. -/
def whole (C : FVec Ideal S8x4096 .f32) (W : FVec Ideal S2x4096x24576 .f32) (b : FVec Ideal S2x24576 .f32) : FVec Ideal S8x24576 .f32 :=
  addf (Host.dotGeneral Cert.RefAdaIdeal.dot_S8x4096_S4096x24576_S8x24576_1_0_0_1_n_n none (extf .f32 (truncf .bf16 (mulf C (Host.divf (broadcastInDim Cert.RefAdaIdeal.S8x4096 ![] Cert.RefAdaIdeal.Gen.bcast_S_S8x4096 (constant Cert.RefAdaIdeal.S_ .f32 0x3F800000#32)) (addf (broadcastInDim Cert.RefAdaIdeal.S8x4096 ![] Cert.RefAdaIdeal.Gen.bcast_S_S8x4096 (constant Cert.RefAdaIdeal.S_ .f32 0x3F800000#32)) (Host.exp (Host.negf C))))) Cert.RefAdaIdeal.Gen.bitsLt_bf16_f32) Cert.RefAdaIdeal.Gen.bitsLt_bf16_f32) (extf .f32 (truncf .bf16 (shapeCast _ (extractStridedSlice Cert.RefAdaIdeal.S1x4096x24576 ![0, 0, 0] W Cert.RefAdaIdeal.Gen.slices_S2x4096x24576_S1x4096x24576_0_0_0) Cert.RefAdaIdeal.Gen.shapeCasts_S1x4096x24576_S4096x24576) Cert.RefAdaIdeal.Gen.bitsLt_bf16_f32) Cert.RefAdaIdeal.Gen.bitsLt_bf16_f32)) (broadcastInDim Cert.RefAdaIdeal.S8x24576 ![0, 1] Cert.RefAdaIdeal.Gen.bcast_S1x24576_S8x24576_0_1 (broadcastInDim Cert.RefAdaIdeal.S1x24576 ![1] Cert.RefAdaIdeal.Gen.bcast_S24576_S1x24576_1 (shapeCast _ (extractStridedSlice Cert.RefAdaIdeal.S1x24576 ![0, 0] b Cert.RefAdaIdeal.Gen.slices_S2x24576_S1x24576_0_0) Cert.RefAdaIdeal.Gen.shapeCasts_S1x24576_S24576)))

/-- The gated conditioning. -/
def gated (x : EReal) : EReal := x * Ideal.div 1 (1 + Ideal.exp (-x))

theorem whole_at (C : FVec Ideal S8x4096 .f32) (W : FVec Ideal S2x4096x24576 .f32) (b : FVec Ideal S2x24576 .f32) (r : Fin 8) (j : Fin 24576) :
    whole C W b (ix2 r j) = (∑ k : Fin 4096, gated (C (ix2 r k)) * W (ix3 0 k j)) + b (ix2 0 j) := by
  pointwise [whole, gated]

/-- Which blocks each grid point works on. -/
theorem idx : ∀ t : Fin cfg0.N, win0_0.index t = ![0, 0] ∧ win0_1.index t = ![0, 0, t.val] ∧ win0_2.index t = ![0, 0, t.val] ∧ win0_3.index t = ![0, t.val] :=
  (by decide +kernel : ∀ t : Fin grid0.N, _)

/-- The column of a grid point's block. -/
def col (t : Fin cfg0.N) (d : Fin 512) : Fin 24576 := ⟨t.val * 512 + d.val, by have : t.val < 48 := t.isLt; omega⟩

theorem host (c : Dev nD) (j : Fin 24576) : V m c main_v0 (ix3 0 0 j) = m (c.tc.loc main_arg2) (ix2 0 j) := by
  entry_read
  pointwise

theorem c_blk (c : Dev nD) (t : Fin cfg0.N) (r : Fin 8) (k : Fin 4096) : iblk m c 0 t (ix2 r k) = m (c.tc.loc main_arg0) (ix2 r k) := by
  blk_point [iblk, V, idx t]

theorem w_blk (c : Dev nD) (t : Fin cfg0.N) (k : Fin 4096) (d : Fin 512) : iblk m c 1 t (ix3 0 k d) = m (c.tc.loc main_arg1) (ix3 0 k (col t d)) := by
  blk_point [iblk, V, idx t, col]

theorem b_blk (c : Dev nD) (t : Fin cfg0.N) (d : Fin 512) : iblk m c 2 t (ix3 0 0 d) = m (c.tc.loc main_arg2) (ix2 0 (col t d)) := by
  refine Eq.trans ?_ (host m c (col t d))
  blk_point [iblk, idx t, col]

theorem o_blk (t : Fin cfg0.N) (r : Fin 8) (d : Fin 512) (f : FVec Ideal S8x24576 .f32) :
    f (ix2 r (col t d)) = f ((win0_3.blk t).view.emb (ix2 r d)) := by
  blk_point [idx t, col]

/-- What a grid point stores, of the blocks it reads. -/
theorem pay_at (x : Vec Ideal S8x4096 .f32) (w : Vec Ideal S1x4096x512 .f32) (b : Vec Ideal S1x1x512 .f32) (r : Fin 8) (d : Fin 512) :
    k0_pay1 (F := Ideal) x w b (ix2 r d) = (∑ k : Fin 4096, gated (x (ix2 r k)) * w (ix3 0 k d)) + b (ix3 0 0 d) := by
  simp only [gated, ← Cert.Sigmoid.gate]
  pointwise [k0_pay1]

/-- The result array is the reference's. -/
theorem final (c : Dev nD) : (dats m 0 c).arrAt 3 (cfgs 0).N = whole (m (c.tc.loc main_arg0)) (m (c.tc.loc main_arg1)) (m (c.tc.loc main_arg2)) := by
  refine (dats m 0 c).arrAt_eq_of_covers 3 _ (by decide +kernel) fun t _ y => ?_
  blk_simp
  obtain ⟨r, d, rfl⟩ : ∃ (r : Fin 8) (d : Fin 512), y = ix2 r d := ⟨y 0, y 1, by funext a; fin_cases a <;> rfl⟩
  rw [after0_3]; frame_out
  refine (pay_at _ _ _ r d).trans (Eq.trans ?_ (o_blk t r d _))
  rw [whole_at, b_blk]
  simp only [c_blk, w_blk]

end Cert.AdaIdeal.Whole

namespace Cert.Proof.Ada

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_RefAdaIdeal := fun m ρ _ =>
  (θ_run Cert.RefAdaIdeal.defs _ _).mono (fun r h => ⟨fun c => (h c).2, sem_eq_zero_of_no_sems (by decide) r.2⟩)
    (Cert.RefAdaIdeal.Value.run (F := Ideal) m ρ)
theorem preserves : Cert.preserves_Ada_AdaIdeal := trivial
theorem algebraic : Cert.algebraic_AdaIdeal_RefAdaIdeal := by
  pair_intro
  · run_from Cert.AdaIdeal.Gen.run_main m g
  · run_from Cert.RefAdaIdeal.Value.run m' g'
    exact (Cert.AdaIdeal.Whole.final m c).symm

end Cert.Proof.Ada

end
-- ==== Proof.ReadoutHead.lean ====
/- One head of the readout: each of the block's eight stored slices holds the same function of its own lanes. -/
module

public import proofs.«01_k».proof.Defs
public import proofs.«01_k».proof.Proof.Norm
public import proofs.«01_k».proof.Proof.Sigmoid
public import proofs.«01_k».proof.Proof.Gen.Readout.Frame
public import proofs.«01_k».proof.Proof.Gen.ReadoutIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.ReadoutIdeal.Head

open Cert.ReadoutIdeal Cert.ReadoutIdeal.Gen

/-- One lane of a head: the sum of the two scans normalised over the head's lanes, times the gain and the gated gate. -/
def lane (s : Fin 128 → EReal) (g p : EReal) (e : Fin 128) : EReal :=
  Cert.Norm.unit (FloatOps.ofBits (F := Ideal) .f32 0x43000000#32) s e * g * (p * Ideal.div 1 (1 + Ideal.exp (-p)))

variable (g : Vec Ideal S1x128 .f32) (p : Vec Ideal S256x128 .bf16) (a b : Vec Ideal S256x128 .f32) (n : Fin 256) (e : Fin 128)

theorem head_0 : k0_pay4 (F := Ideal) g p a b (ix2 n e) = lane (fun j => a (ix2 n j) + b (ix2 n j)) (g (ix2 0 e)) (p (ix2 n e)) e := by
  simp only [lane, Cert.Norm.unit, ← Cert.Sigmoid.gate]
  pointwise [k0_pay4, k0_pay3]

theorem head_1 : k0_pay7 (F := Ideal) (k0_pay3 g) (k0_pay5 p) (k0_pay6 a b) (ix2 n e) = lane (fun j => a (ix2 n j) + b (ix2 n j)) (g (ix2 0 e)) (p (ix2 n e)) e := by
  simp only [lane, Cert.Norm.unit, ← Cert.Sigmoid.gate]
  pointwise [k0_pay7, k0_pay3, k0_pay5, k0_pay6]

theorem head_2 : k0_pay11 (F := Ideal) (k0_pay8 p) (k0_pay9 (k0_pay3 g) a b) k0_pay10 (ix2 n e) = lane (fun j => a (ix2 n j) + b (ix2 n j)) (g (ix2 0 e)) (p (ix2 n e)) e := by
  simp only [lane, Cert.Norm.unit, ← Cert.Sigmoid.gate]
  pointwise [k0_pay11, k0_pay3, k0_pay8, k0_pay9, k0_pay10]

theorem head_3 : k0_pay12 (F := Ideal) (k0_pay3 g) p a b (ix2 n e) = lane (fun j => a (ix2 n j) + b (ix2 n j)) (g (ix2 0 e)) (p (ix2 n e)) e := by
  simp only [lane, Cert.Norm.unit, ← Cert.Sigmoid.gate]
  pointwise [k0_pay12, k0_pay3]

theorem head_4 : k0_pay13 (F := Ideal) (k0_pay3 g) p a b (ix2 n e) = lane (fun j => a (ix2 n j) + b (ix2 n j)) (g (ix2 0 e)) (p (ix2 n e)) e := by
  simp only [lane, Cert.Norm.unit, ← Cert.Sigmoid.gate]
  pointwise [k0_pay13, k0_pay3]

theorem head_5 : k0_pay17 (F := Ideal) (k0_pay3 g) (k0_pay14 p) (k0_pay15 a b) (k0_pay16 a b) (Scalar.ofBits .f32 0x358637BD#32) (ix2 n e) = lane (fun j => a (ix2 n j) + b (ix2 n j)) (g (ix2 0 e)) (p (ix2 n e)) e := by
  simp only [lane, Cert.Norm.unit, ← Cert.Sigmoid.gate]
  pointwise [k0_pay17, k0_pay3, k0_pay14, k0_pay15, k0_pay16]

theorem head_6 : k0_pay1 (F := Ideal) (k0_pay18 p) (k0_pay19 (k0_pay3 g) a b) (k0_pay20 p) (ix2 n e) = lane (fun j => a (ix2 n j) + b (ix2 n j)) (g (ix2 0 e)) (p (ix2 n e)) e := by
  simp only [lane, Cert.Norm.unit, ← Cert.Sigmoid.gate]
  pointwise [k0_pay1, k0_pay3, k0_pay18, k0_pay19, k0_pay20]

theorem head_7 : k0_pay2 (F := Ideal) (k0_pay3 g) p a b (ix2 n e) = lane (fun j => a (ix2 n j) + b (ix2 n j)) (g (ix2 0 e)) (p (ix2 n e)) e := by
  simp only [lane, Cert.Norm.unit, ← Cert.Sigmoid.gate]
  pointwise [k0_pay2, k0_pay3]

/-- What a grid point leaves of the block it reads, at a head's lane. -/
def entry (o q : Vec Ideal S256x1024 .f32) (w : Vec Ideal S256x1024 .bf16) (g : Vec Ideal S1x128 .f32) (n : Fin 256) (h : Fin 8) (e : Fin 128) : EReal :=
  lane (fun j => o (ix2 n ⟨h.val * 128 + j.val, by omega⟩) + q (ix2 n ⟨h.val * 128 + j.val, by omega⟩)) (g (ix2 0 e)) (w (ix2 n ⟨h.val * 128 + e.val, by omega⟩)) e

/-- A read of a head's lanes. -/
theorem ld_at {e : EltTy} (X : Vec Ideal S256x1024 e) (off : Fin 2 → Nat) (inb) (n : Fin 256) (l : Fin 128) (k : Fin 1024) (h0 : off 0 = 0) (h1 : k.val = off 1 + l.val) :
    View.ld X (Rect.unit (s := S256x1024) off S256x128.size inb) (ix2 n l) = X (ix2 n k) :=
  View.ld_unit_apply_of X off S256x128.size inb (ix2 n l) (ix2 n k) (by
    intro a
    fin_cases a
    · show n.val = off 0 + n.val
      omega
    · show k.val = off 1 + l.val
      omega)

/-- A read of the whole gain. -/
theorem gain_at (g : Vec Ideal S1x128 .f32) (l : Fin 128) : View.ld g r0_0 (ix2 0 l) = g (ix2 0 l) :=
  View.ld_unit_apply_of g ![0, 0] S1x128.size _ (ix2 0 l) (ix2 0 l) (by
    intro a
    fin_cases a
    · rfl
    · show l.val = 0 + l.val
      omega)

theorem lane_congr (e : Fin 128) {s s' : Fin 128 → EReal} {g g' p p' : EReal} (hs : ∀ j, s j = s' j) (hg : g = g') (hp : p = p') :
    lane s g p e = lane s' g' p' e := by
  rw [funext hs, hg, hp]

/-- The same, at an element of the block. -/
def entryAt (o q : Vec Ideal S256x1024 .f32) (w : Vec Ideal S256x1024 .bf16) (g : Vec Ideal S1x128 .f32) : Vec Ideal S256x1024 .bf16 := fun y =>
  entry o q w g (y 0) ⟨(y 1).val / 128, by have : (y 1).val < 1024 := (y 1).isLt; omega⟩ ⟨(y 1).val % 128, Nat.mod_lt _ (by norm_num)⟩

/-- A slice stored at a head's lanes. -/
theorem slice_at (o q : Vec Ideal S256x1024 .f32) (w : Vec Ideal S256x1024 .bf16) (g : Vec Ideal S1x128 .f32) (n : Fin 256) (h : Fin 8) (e : Fin 128)
    (y : S256x1024.Idx) (h0 : (y 0).val = n.val) (h1 : (y 1).val = h.val * 128 + e.val) : entryAt o q w g y = entry o q w g n h e := by
  unfold entryAt
  have a : y 0 = n := Fin.ext h0
  have b : (⟨(y 1).val / 128, by have : (y 1).val < 1024 := (y 1).isLt; omega⟩ : Fin 8) = h := Fin.ext (by simp only; omega)
  have d : (⟨(y 1).val % 128, Nat.mod_lt _ (by norm_num)⟩ : Fin 128) = e := Fin.ext (by simp only; omega)
  rw [a, b, d]

/-- The block a grid point leaves. -/
theorem out_eq (o q : Vec Ideal S256x1024 .f32) (w : Vec Ideal S256x1024 .bf16) (g : Vec Ideal S1x128 .f32) :
    out0_4 (F := Ideal) o q w g = entryAt o q w g := by
  frame_out
  funext y
  refine View.canon_apply_of_pieces (entryAt o q w g) _ ?_ y (cover0_4 _ _ _ _ _ _ _ _ y)
  intro p hp
  simp only [List.mem_cons, List.not_mem_nil, or_false] at hp
  rcases hp with rfl | rfl | rfl | rfl | rfl | rfl | rfl | rfl
  · intro x
    obtain ⟨n, e, rfl⟩ : ∃ (n : Fin 256) (e : Fin 128), x = ix2 n e := ⟨x 0, x 1, by funext a; fin_cases a <;> rfl⟩
    refine (head_7 _ _ _ _ n e).trans (Eq.trans ?_ (slice_at o q w g n 7 e _ ?_ ?_).symm)
    · have ho : ∀ (e : EltTy) (X : Vec Ideal S256x1024 e) (l : Fin 128), View.ld X r0_8 (ix2 n l) = X (ix2 n ⟨((7 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 896 + 1 * e.val = 7 * 128 + e.val
      omega
  · intro x
    obtain ⟨n, e, rfl⟩ : ∃ (n : Fin 256) (e : Fin 128), x = ix2 n e := ⟨x 0, x 1, by funext a; fin_cases a <;> rfl⟩
    refine (head_6 _ _ _ _ n e).trans (Eq.trans ?_ (slice_at o q w g n 6 e _ ?_ ?_).symm)
    · have ho : ∀ (e : EltTy) (X : Vec Ideal S256x1024 e) (l : Fin 128), View.ld X r0_7 (ix2 n l) = X (ix2 n ⟨((6 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 768 + 1 * e.val = 6 * 128 + e.val
      omega
  · intro x
    obtain ⟨n, e, rfl⟩ : ∃ (n : Fin 256) (e : Fin 128), x = ix2 n e := ⟨x 0, x 1, by funext a; fin_cases a <;> rfl⟩
    refine (head_5 _ _ _ _ n e).trans (Eq.trans ?_ (slice_at o q w g n 5 e _ ?_ ?_).symm)
    · have ho : ∀ (e : EltTy) (X : Vec Ideal S256x1024 e) (l : Fin 128), View.ld X r0_6 (ix2 n l) = X (ix2 n ⟨((5 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 640 + 1 * e.val = 5 * 128 + e.val
      omega
  · intro x
    obtain ⟨n, e, rfl⟩ : ∃ (n : Fin 256) (e : Fin 128), x = ix2 n e := ⟨x 0, x 1, by funext a; fin_cases a <;> rfl⟩
    refine (head_4 _ _ _ _ n e).trans (Eq.trans ?_ (slice_at o q w g n 4 e _ ?_ ?_).symm)
    · have ho : ∀ (e : EltTy) (X : Vec Ideal S256x1024 e) (l : Fin 128), View.ld X r0_5 (ix2 n l) = X (ix2 n ⟨((4 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 512 + 1 * e.val = 4 * 128 + e.val
      omega
  · intro x
    obtain ⟨n, e, rfl⟩ : ∃ (n : Fin 256) (e : Fin 128), x = ix2 n e := ⟨x 0, x 1, by funext a; fin_cases a <;> rfl⟩
    refine (head_3 _ _ _ _ n e).trans (Eq.trans ?_ (slice_at o q w g n 3 e _ ?_ ?_).symm)
    · have ho : ∀ (e : EltTy) (X : Vec Ideal S256x1024 e) (l : Fin 128), View.ld X r0_4 (ix2 n l) = X (ix2 n ⟨((3 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 384 + 1 * e.val = 3 * 128 + e.val
      omega
  · intro x
    obtain ⟨n, e, rfl⟩ : ∃ (n : Fin 256) (e : Fin 128), x = ix2 n e := ⟨x 0, x 1, by funext a; fin_cases a <;> rfl⟩
    refine (head_2 _ _ _ _ n e).trans (Eq.trans ?_ (slice_at o q w g n 2 e _ ?_ ?_).symm)
    · have ho : ∀ (e : EltTy) (X : Vec Ideal S256x1024 e) (l : Fin 128), View.ld X r0_3 (ix2 n l) = X (ix2 n ⟨((2 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 256 + 1 * e.val = 2 * 128 + e.val
      omega
  · intro x
    obtain ⟨n, e, rfl⟩ : ∃ (n : Fin 256) (e : Fin 128), x = ix2 n e := ⟨x 0, x 1, by funext a; fin_cases a <;> rfl⟩
    refine (head_1 _ _ _ _ n e).trans (Eq.trans ?_ (slice_at o q w g n 1 e _ ?_ ?_).symm)
    · have ho : ∀ (e : EltTy) (X : Vec Ideal S256x1024 e) (l : Fin 128), View.ld X r0_2 (ix2 n l) = X (ix2 n ⟨((1 : Fin 8)).val * 128 + l.val, by omega⟩) := fun e X l => ld_at X _ _ n l _ rfl rfl
      exact lane_congr e (fun j => congrArg₂ (· + ·) (ho _ o j) (ho _ q j)) (gain_at g e) (ho _ w e)
    · show 0 + 1 * n.val = n.val
      omega
    · show 128 + 1 * e.val = 1 * 128 + e.val
      omega
  · intro x
    obtain ⟨n, e, rfl⟩ : ∃ (n : Fin 256) (e : Fin 128), x = ix2 n e := ⟨x 0, x 1, by funext a; fin_cases a <;> rfl⟩
    refine (head_0 _ _ _ _ n e).trans (Eq.trans ?_ (slice_at o q w g n 0 e _ ?_ ?_).symm)
    · have ho : ∀ (e : EltTy) (X : Vec Ideal S256x1024 e) (l : Fin 128), View.ld X r0_1 (ix2 n l) = X (ix2 n ⟨((0 : Fin 8)).val * 128 + l.val, by omega⟩) := fun e X l => ld_at X _ _ n l _ rfl rfl
      exact lane_congr e (fun j => congrArg₂ (· + ·) (ho _ o j) (ho _ q j)) rfl (ho _ w e)
    · show 0 + 1 * n.val = n.val
      omega
    · show 0 + 1 * e.val = 0 * 128 + e.val
      omega

end Cert.ReadoutIdeal.Head

end
-- ==== Proof.Readout.lean ====
/- The readout of the scans: the array that the call leaves is the reference's. -/
module

public import proofs.«01_k».proof.Defs
public import proofs.«01_k».proof.Proof.ReadoutHead
public import proofs.«01_k».proof.Proof.Gen.Readout.Frame
public import proofs.«01_k».proof.Proof.Gen.ReadoutIdeal.Value
public import proofs.«01_k».proof.Proof.Gen.RefReadoutIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.ReadoutIdeal.Whole

open Cert.ReadoutIdeal Cert.ReadoutIdeal.Gen
open Cert.ReadoutIdeal.Head (lane entry entryAt out_eq slice_at)

variable (m : (ℓ : Loc nD τ sig) → Buf (Elt Ideal) ℓ)

/-- The reference's term. -/
def whole (O Q : FVec Ideal S17408x1024 .f32) (P : FVec Ideal S17408x5120 .bf16) (g : FVec Ideal S128 .f32) : FVec Ideal S17408x1024 .bf16 :=
  truncf .bf16 (shapeCast Cert.RefReadoutIdeal.S17408x1024 (mulf (mulf (mulf (shapeCast Cert.RefReadoutIdeal.S17408x8x128 (addf O Q) Cert.RefReadoutIdeal.Gen.shapeCasts_S17408x1024_S17408x8x128) (broadcastInDim Cert.RefReadoutIdeal.S17408x8x128 ![0, 1, 2] Cert.RefReadoutIdeal.Gen.bcast_S17408x8x1_S17408x8x128_0_1_2 (Host.rsqrt (addf (Host.divf (broadcastInDim Cert.RefReadoutIdeal.S17408x8x1 ![0, 1] Cert.RefReadoutIdeal.Gen.bcast_S17408x8_S17408x8x1_0_1 (Host.reduceAdd (mulf (shapeCast Cert.RefReadoutIdeal.S17408x8x128 (addf O Q) Cert.RefReadoutIdeal.Gen.shapeCasts_S17408x1024_S17408x8x128) (shapeCast Cert.RefReadoutIdeal.S17408x8x128 (addf O Q) Cert.RefReadoutIdeal.Gen.shapeCasts_S17408x1024_S17408x8x128)) (constant Cert.RefReadoutIdeal.S_ .f32 0x00000000#32) Cert.RefReadoutIdeal.Gen.reducesTo_S17408x8x128_S17408x8_d2 Cert.RefReadoutIdeal.Gen.h_S_)) (broadcastInDim Cert.RefReadoutIdeal.S17408x8x1 ![] Cert.RefReadoutIdeal.Gen.bcast_S_S17408x8x1 (constant Cert.RefReadoutIdeal.S_ .f32 0x43000000#32))) (broadcastInDim Cert.RefReadoutIdeal.S17408x8x1 ![] Cert.RefReadoutIdeal.Gen.bcast_S_S17408x8x1 (constant Cert.RefReadoutIdeal.S_ .f32 0x358637BD#32)))))) (broadcastInDim Cert.RefReadoutIdeal.S17408x8x128 ![0, 1, 2] Cert.RefReadoutIdeal.Gen.bcast_S1x1x128_S17408x8x128_0_1_2 (broadcastInDim Cert.RefReadoutIdeal.S1x1x128 ![2] Cert.RefReadoutIdeal.Gen.bcast_S128_S1x1x128_2 g))) (mulf (shapeCast Cert.RefReadoutIdeal.S17408x8x128 (extf .f32 (extractStridedSlice Cert.RefReadoutIdeal.S17408x1024 ![0, 4096] P Cert.RefReadoutIdeal.Gen.slices_S17408x5120_S17408x1024_0_4096) Cert.RefReadoutIdeal.Gen.bitsLt_bf16_f32) Cert.RefReadoutIdeal.Gen.shapeCasts_S17408x1024_S17408x8x128) (Host.divf (broadcastInDim Cert.RefReadoutIdeal.S17408x8x128 ![] Cert.RefReadoutIdeal.Gen.bcast_S_S17408x8x128 (constant Cert.RefReadoutIdeal.S_ .f32 0x3F800000#32)) (addf (broadcastInDim Cert.RefReadoutIdeal.S17408x8x128 ![] Cert.RefReadoutIdeal.Gen.bcast_S_S17408x8x128 (constant Cert.RefReadoutIdeal.S_ .f32 0x3F800000#32)) (Host.exp (Host.negf (shapeCast Cert.RefReadoutIdeal.S17408x8x128 (extf .f32 (extractStridedSlice Cert.RefReadoutIdeal.S17408x1024 ![0, 4096] P Cert.RefReadoutIdeal.Gen.slices_S17408x5120_S17408x1024_0_4096) Cert.RefReadoutIdeal.Gen.bitsLt_bf16_f32) Cert.RefReadoutIdeal.Gen.shapeCasts_S17408x1024_S17408x8x128))))))) Cert.RefReadoutIdeal.Gen.shapeCasts_S17408x8x128_S17408x1024) Cert.RefReadoutIdeal.Gen.bitsLt_bf16_f32

theorem whole_at (O Q : FVec Ideal S17408x1024 .f32) (P : FVec Ideal S17408x5120 .bf16) (g : FVec Ideal S128 .f32) (r : Fin 17408) (h : Fin 8) (e : Fin 128) :
    whole O Q P g (ix2 r ⟨h.val * 128 + e.val, by omega⟩)
      = lane (fun j => O (ix2 r ⟨h.val * 128 + j.val, by omega⟩) + Q (ix2 r ⟨h.val * 128 + j.val, by omega⟩)) (g (ix1 e)) (P (ix2 r ⟨4096 + (h.val * 128 + e.val), by omega⟩)) e := by
  pointwise [whole, lane, Cert.Norm.unit]

/-- Which blocks each grid point works on. -/
theorem idx : ∀ t : Fin cfg0.N, win0_0.index t = ![t.val, 0] ∧ win0_1.index t = ![t.val, 0] ∧ win0_2.index t = ![t.val, 4] ∧ win0_3.index t = ![0, 0]
    ∧ win0_4.index t = ![t.val, 0] :=
  (by decide +kernel : ∀ t : Fin grid0.N, _)

/-- The row of a grid point's block. -/
def row (t : Fin cfg0.N) (n : Fin 256) : Fin 17408 := ⟨t.val * 256 + n.val, by have : t.val < 68 := t.isLt; omega⟩

theorem host (c : Dev nD) (e : Fin 128) : V m c main_v0 (ix2 0 e) = m (c.tc.loc main_arg3) (ix1 e) := by
  entry_read
  pointwise

theorem a_blk (c : Dev nD) (t : Fin cfg0.N) (n : Fin 256) (k : Fin 1024) : iblk m c 0 t (ix2 n k) = m (c.tc.loc main_arg0) (ix2 (row t n) k) := by
  blk_point [iblk, V, idx t, row]

theorem b_blk (c : Dev nD) (t : Fin cfg0.N) (n : Fin 256) (k : Fin 1024) : iblk m c 1 t (ix2 n k) = m (c.tc.loc main_arg1) (ix2 (row t n) k) := by
  blk_point [iblk, V, idx t, row]

theorem p_blk (c : Dev nD) (t : Fin cfg0.N) (n : Fin 256) (k : Fin 1024) : iblk m c 2 t (ix2 n k) = m (c.tc.loc main_arg2) (ix2 (row t n) ⟨4096 + k.val, by omega⟩) := by
  blk_point [iblk, V, idx t, row]

theorem g_blk (c : Dev nD) (t : Fin cfg0.N) (e : Fin 128) : iblk m c 3 t (ix2 0 e) = m (c.tc.loc main_arg3) (ix1 e) := by
  refine Eq.trans ?_ (host m c e)
  blk_point [iblk, idx t]

theorem o_blk (t : Fin cfg0.N) (n : Fin 256) (k : Fin 1024) (f : FVec Ideal S17408x1024 .bf16) :
    f (ix2 (row t n) k) = f ((win0_4.blk t).view.emb (ix2 n k)) := by
  blk_point [idx t, row]

/-- The result array is the reference's. -/
theorem final (c : Dev nD) : (dats m 0 c).arrAt 4 (cfgs 0).N
    = whole (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  obtain ⟨n, h, e, rfl⟩ : ∃ (n : Fin 256) (h : Fin 8) (e : Fin 128), y = ix2 n ⟨h.val * 128 + e.val, by omega⟩ :=
    ⟨y 0, ⟨(y 1).val / 128, by have : (y 1).val < 1024 := (y 1).isLt; omega⟩, ⟨(y 1).val % 128, Nat.mod_lt _ (by norm_num)⟩, by
      funext a
      fin_cases a
      · rfl
      · exact Fin.ext (by show (y 1).val = (y 1).val / 128 * 128 + (y 1).val % 128; omega)⟩
  rw [after0_4, out_eq]
  refine (slice_at _ _ _ _ n h e _ rfl rfl).trans (Eq.trans ?_ (o_blk t n _ _))
  rw [whole_at, entry, g_blk, p_blk]
  simp only [a_blk, b_blk]

end Cert.ReadoutIdeal.Whole

namespace Cert.Proof.Readout

theorem frame_p : Cert.quiescent_Readout := fun m ρ _ => Cert.Readout.Gen.frame m ρ
theorem frame_pi : Cert.quiescent_ReadoutIdeal := fun m ρ _ => Cert.ReadoutIdeal.Gen.frame m ρ
theorem frame_ri : Cert.quiescent_RefReadoutIdeal := fun m ρ _ =>
  (θ_run Cert.RefReadoutIdeal.defs _ _).mono (fun r h => ⟨fun c => (h c).2, sem_eq_zero_of_no_sems (by decide) r.2⟩)
    (Cert.RefReadoutIdeal.Value.run (F := Ideal) m ρ)
theorem preserves : Cert.preserves_Readout_ReadoutIdeal := trivial
theorem algebraic : Cert.algebraic_ReadoutIdeal_RefReadoutIdeal := by
  pair_intro
  · run_from Cert.ReadoutIdeal.Gen.run_main m g
  · run_from Cert.RefReadoutIdeal.Value.run m' g'
    exact (Cert.ReadoutIdeal.Whole.final m c).symm

end Cert.Proof.Readout

end
-- ==== Proof.lean ====
/- `Cert.Proof.claim`: the frames of every program, then, call by call, that the ideal program keeps the printed one's
   meaning and that it and its reference end with equal results. -/
module

public import proofs.«01_k».proof.Defs
public import proofs.«01_k».proof.Proof.MmInGate
public import proofs.«01_k».proof.Proof.MmInC
public import proofs.«01_k».proof.Proof.MmInA
public import proofs.«01_k».proof.Proof.MmInB
public import proofs.«01_k».proof.Proof.MmOutProj
public import proofs.«01_k».proof.Proof.MmFfnDown
public import proofs.«01_k».proof.Proof.Merge
public import proofs.«01_k».proof.Proof.FfnUp
public import proofs.«01_k».proof.Proof.NaCtx
public import proofs.«01_k».proof.Proof.Na
public import proofs.«01_k».proof.Proof.MmQUp
public import proofs.«01_k».proof.Proof.MmKvUp
public import proofs.«01_k».proof.Proof.MmGateLat
public import proofs.«01_k».proof.Proof.NormMod
public import proofs.«01_k».proof.Proof.ResidNorm
public import proofs.«01_k».proof.Proof.Resid
public import proofs.«01_k».proof.Proof.Ada
public import proofs.«01_k».proof.Proof.Readout

@[expose] public section

noncomputable section

namespace Cert.Proof

theorem claim : Cert.Claim :=
  ⟨Cert.InGate.Gen.facts, Cert.InGateIdeal.Gen.facts, Cert.RefInGateIdeal.Gen.facts,
    Cert.InC.Gen.facts, Cert.InCIdeal.Gen.facts, Cert.RefInCIdeal.Gen.facts,
    Cert.InA.Gen.facts, Cert.InAIdeal.Gen.facts, Cert.RefInAIdeal.Gen.facts,
    Cert.InB.Gen.facts, Cert.InBIdeal.Gen.facts, Cert.RefInBIdeal.Gen.facts,
    Cert.OutProj.Gen.facts, Cert.OutProjIdeal.Gen.facts, Cert.RefOutProjIdeal.Gen.facts,
    Cert.FfnDown.Gen.facts, Cert.FfnDownIdeal.Gen.facts, Cert.RefFfnDownIdeal.Gen.facts,
    Cert.Merge.Gen.facts, Cert.MergeIdeal.Gen.facts, Cert.RefMergeIdeal.Gen.facts,
    Cert.FfnUp.Gen.facts, Cert.FfnUpIdeal.Gen.facts, Cert.RefFfnUpIdeal.Gen.facts,
    Cert.NaCtx.Gen.facts, Cert.NaCtxIdeal.Gen.facts, Cert.RefNaCtxIdeal.Gen.facts,
    Cert.Na.Gen.facts, Cert.NaIdeal.Gen.facts, Cert.RefNaIdeal.Gen.facts,
    Cert.QUp.Gen.facts, Cert.QUpIdeal.Gen.facts, Cert.RefQUpIdeal.Gen.facts,
    Cert.KvUp.Gen.facts, Cert.KvUpIdeal.Gen.facts, Cert.RefKvUpIdeal.Gen.facts,
    Cert.GateLat.Gen.facts, Cert.GateLatIdeal.Gen.facts, Cert.RefGateLatIdeal.Gen.facts,
    Cert.NormMod.Gen.facts, Cert.NormModIdeal.Gen.facts, Cert.RefNormModIdeal.Gen.facts,
    Cert.ResidNorm.Gen.facts, Cert.ResidNormIdeal.Gen.facts, Cert.RefResidNormIdeal.Gen.facts,
    Cert.Resid.Gen.facts, Cert.ResidIdeal.Gen.facts, Cert.RefResidIdeal.Gen.facts,
    Cert.Ada.Gen.facts, Cert.AdaIdeal.Gen.facts, Cert.RefAdaIdeal.Gen.facts,
    Cert.Readout.Gen.facts, Cert.ReadoutIdeal.Gen.facts, Cert.RefReadoutIdeal.Gen.facts,
    InGate.frame_p, InGate.frame_pi, InGate.frame_ri,
    InC.frame_p, InC.frame_pi, InC.frame_ri,
    InA.frame_p, InA.frame_pi, InA.frame_ri,
    InB.frame_p, InB.frame_pi, InB.frame_ri,
    OutProj.frame_p, OutProj.frame_pi, OutProj.frame_ri,
    FfnDown.frame_p, FfnDown.frame_pi, FfnDown.frame_ri,
    Merge.frame_p, Merge.frame_pi, Merge.frame_ri,
    FfnUp.frame_p, FfnUp.frame_pi, FfnUp.frame_ri,
    NaCtx.frame_p, NaCtx.frame_pi, NaCtx.frame_ri,
    Na.frame_p, Na.frame_pi, Na.frame_ri,
    QUp.frame_p, QUp.frame_pi, QUp.frame_ri,
    KvUp.frame_p, KvUp.frame_pi, KvUp.frame_ri,
    GateLat.frame_p, GateLat.frame_pi, GateLat.frame_ri,
    NormMod.frame_p, NormMod.frame_pi, NormMod.frame_ri,
    ResidNorm.frame_p, ResidNorm.frame_pi, ResidNorm.frame_ri,
    Resid.frame_p, Resid.frame_pi, Resid.frame_ri,
    Ada.frame_p, Ada.frame_pi, Ada.frame_ri,
    Readout.frame_p, Readout.frame_pi, Readout.frame_ri,
    InGate.preserves, InGate.algebraic,
    InC.preserves, InC.algebraic,
    InA.preserves, InA.algebraic,
    InB.preserves, InB.algebraic,
    OutProj.preserves, OutProj.algebraic,
    FfnDown.preserves, FfnDown.algebraic,
    Merge.preserves, Merge.algebraic,
    FfnUp.preserves, FfnUp.algebraic,
    NaCtx.preserves, NaCtx.algebraic,
    Na.preserves, Na.algebraic,
    QUp.preserves, QUp.algebraic,
    KvUp.preserves, KvUp.algebraic,
    GateLat.preserves, GateLat.algebraic,
    NormMod.preserves, NormMod.algebraic,
    ResidNorm.preserves, ResidNorm.algebraic,
    Resid.preserves, Resid.algebraic,
    Ada.preserves, Ada.algebraic,
    Readout.preserves, Readout.algebraic⟩

end Cert.Proof

end
